-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_z [hPre_finite_z : Cert.Pre_finite_z.Facts] (m : (ℓ : Loc Cert.KernelIdeal.nD Cert.KernelIdeal.τ Cert.KernelIdeal.sig) → Buf (Elt Ideal) ℓ) : Prop :=
  ∀ c : Dev Cert.KernelIdeal.nD,
    (Cert.Pre_finite_z.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_z [hPre_finite_z : Cert.Pre_finite_z.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_z.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_z [hKernelIdeal : Cert.KernelIdeal.Facts] [hPre_finite_z : Cert.Pre_finite_z.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_z m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_z [hReferenceIdeal : Cert.ReferenceIdeal.Facts] [hPre_finite_z : Cert.Pre_finite_z.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_z m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_z [hKernelIdeal : Cert.KernelIdeal.Facts] [hReferenceIdeal : Cert.ReferenceIdeal.Facts] [hPre_finite_z : Cert.Pre_finite_z.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_z m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_z : Cert.Pre_finite_z.Facts),
    quiescent_Kernel (hKernel := hKernel)
    ∧ quiescent_KernelIdeal (hKernelIdeal := hKernelIdeal)
    ∧ quiescent_KernelIdeal_pre_finite_z (hKernelIdeal := hKernelIdeal) (hPre_finite_z := hPre_finite_z)
    ∧ quiescent_ReferenceIdeal (hReferenceIdeal := hReferenceIdeal)
    ∧ quiescent_ReferenceIdeal_pre_finite_z (hReferenceIdeal := hReferenceIdeal) (hPre_finite_z := hPre_finite_z)
    ∧ preserves_Kernel_KernelIdeal
    ∧ algebraic_KernelIdeal_ReferenceIdeal_pre_finite_z (hKernelIdeal := hKernelIdeal) (hReferenceIdeal := hReferenceIdeal) (hPre_finite_z := hPre_finite_z)
-- ==== Pre_finite_z.lean ====
abbrev S1024x32 : Shape := ⟨2, ![1024, 32]⟩
abbrev S1024x32x20 : Shape := ⟨3, ![1024, 32, 20]⟩
abbrev S_ : Shape := ⟨0, ![]⟩

class Facts : Prop where
  bcast_S_S1024x32 : S_.BroadcastsInDim S1024x32 (![] : Fin 0 → Fin S1024x32.rank)

variable [Facts]

def fn {F : FTy → Type} [FloatOps F] (main_arg0 : FVec F S1024x32 .f32) (main_arg1 : FVec F S1024x32x20 .f32) : IVec S1024x32 1 :=
  let main_v0 : FVec F S1024x32 .f32 := Host.absf main_arg0
  let main_cst : FVec F S_ .f32 := constant S_ .f32 0x7F800000#32
  let main_v1 : FVec F S1024x32 .f32 := broadcastInDim S1024x32 ![] bcast_S_S1024x32 main_cst
  let main_v2 : IVec S1024x32 1 := cmpf .olt main_v0 main_v1
  main_v2
-- ==== Kernel.lean ====
abbrev S1024x32 : Shape := ⟨2, ![1024, 32]⟩
abbrev S1024x32x20 : Shape := ⟨3, ![1024, 32, 20]⟩
abbrev S20x2 : Shape := ⟨2, ![20, 2]⟩
abbrev S1024x20x32 : Shape := ⟨3, ![1024, 20, 32]⟩
abbrev S1024x20x32x1 : Shape := ⟨4, ![1024, 20, 32, 1]⟩
abbrev S1024x32x1 : Shape := ⟨3, ![1024, 32, 1]⟩
abbrev S1x32x1 : Shape := ⟨3, ![1, 32, 1]⟩
abbrev S1x20x32x1 : Shape := ⟨4, ![1, 20, 32, 1]⟩
abbrev S32x1024 : Shape := ⟨2, ![32, 1024]⟩
abbrev S1x1024 : Shape := ⟨2, ![1, 1024]⟩
abbrev S1024x1 : Shape := ⟨2, ![1024, 1]⟩
abbrev S128x128 : Shape := ⟨2, ![128, 128]⟩
abbrev S32x1 : Shape := ⟨2, ![32, 1]⟩
abbrev S32x128 : Shape := ⟨2, ![32, 128]⟩
abbrev S128x1 : Shape := ⟨2, ![128, 1]⟩
abbrev S1024x1024 : Shape := ⟨2, ![1024, 1024]⟩
abbrev S1x1 : Shape := ⟨2, ![1, 1]⟩
abbrev S96x1024 : Shape := ⟨2, ![96, 1024]⟩
abbrev S1x1x32x1 : Shape := ⟨4, ![1, 1, 32, 1]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩
abbrev S1x128 : Shape := ⟨2, ![1, 128]⟩
abbrev S128 : Shape := ⟨1, ![128]⟩
abbrev S32 : Shape := ⟨1, ![32]⟩

abbrev nBuf : Space → Nat
  | .hbm => 7
  | .vmem => 11
  | .smem => 2
  | _ => 0

abbrev bufTy : (tb : Table) → Fin (tcTables nBuf tb) → BufTy
  | .hbm, ⟨0, _⟩ => ⟨S1024x32, .f32⟩
  | .hbm, ⟨1, _⟩ => ⟨S1024x32x20, .f32⟩
  | .hbm, ⟨2, _⟩ => ⟨S1024x20x32, .f32⟩
  | .hbm, ⟨3, _⟩ => ⟨S1024x20x32x1, .f32⟩
  | .hbm, ⟨4, _⟩ => ⟨S1024x32x1, .f32⟩
  | .hbm, ⟨5, _⟩ => ⟨S1024x32x1, .f32⟩
  | .hbm, ⟨6, _⟩ => ⟨S1024x32, .f32⟩
  | .local _ .vmem, ⟨0, _⟩ => ⟨S1x32x1, .f32⟩
  | .local _ .vmem, ⟨1, _⟩ => ⟨S1x32x1, .f32⟩
  | .local _ .vmem, ⟨2, _⟩ => ⟨S1x20x32x1, .f32⟩
  | .local _ .vmem, ⟨3, _⟩ => ⟨S1x20x32x1, .f32⟩
  | .local _ .vmem, ⟨4, _⟩ => ⟨S1x32x1, .f32⟩
  | .local _ .vmem, ⟨5, _⟩ => ⟨S1x32x1, .f32⟩
  | .local _ .vmem, ⟨6, _⟩ => ⟨S32x1024, .f32⟩
  | .local _ .vmem, ⟨7, _⟩ => ⟨S32x1024, .f32⟩
  | .local _ .vmem, ⟨8, _⟩ => ⟨S1x1024, .f32⟩
  | .local _ .vmem, ⟨9, _⟩ => ⟨S1024x1, .i32⟩
  | .local _ .vmem, ⟨10, _⟩ => ⟨S128x128, .i32⟩
  | .local _ .smem, ⟨0, _⟩ => ⟨S20x2, .i32⟩
  | .local _ .smem, ⟨1, _⟩ => ⟨S20x2, .i32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![1024], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c20_i32 : BitVec 32 := 20#32
  let v26 : BitVec 32 := Scalar.addi c0_i32 c20_i32
  let c1_i32 : BitVec 32 := 1#32
  ⟨c0_i32, v26, c1_i32⟩
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let v59 : Index := Scalar.indexCast arg11
  let c0_23 : Index := 0#32
  ![v59.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let v61 : Index := Scalar.indexCast arg11
  let c1 : Index := 1#32
  ![v61.toNat, 1]
def k0_off3 (k0_t1 : Fin k0_t1_loop.trips) : Fin 4 → Nat :=
  let c0_637 : Index := 0#32
  let c0_i32 : BitVec 32 := 0#32
  let c1_i32 : BitVec 32 := 1#32
  let arg11 : BitVec 32 := Scf.iv c0_i32 c1_i32 k0_t1
  let v2134 : Index := Scalar.indexCast arg11
  let c0_638 : Index := 0#32
  let c0_639 : Index := 0#32
  ![0, v2134.toNat, 0, 0]
@[reducible] def k0_t2_loop : Scf.Loop 32 :=
  let c0_i32_650 : BitVec 32 := 0#32
  let c8_i32_651 : BitVec 32 := 8#32
  let v2163 : BitVec 32 := Scalar.addi c0_i32_650 c8_i32_651
  let c1_i32_652 : BitVec 32 := 1#32
  ⟨c0_i32_650, v2163, c1_i32_652⟩
def k0_off4 (k0_t2 : Fin k0_t2_loop.trips) : Fin 2 → Nat :=
  let c0_i32_650 : BitVec 32 := 0#32
  let c1_i32_652 : BitVec 32 := 1#32
  let arg12 : BitVec 32 := Scf.iv c0_i32_650 c1_i32_652 k0_t2
  let c128_i32 : BitVec 32 := 128#32
  let v2164 : BitVec 32 := Scalar.muli arg12 c128_i32
  let v3689 : Index := Scalar.indexCast v2164
  let c0_1068 : Index := 0#32
  ![v3689.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x20x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x32 : Shape := ⟨2, ![1024, 32]⟩
abbrev S1024x32x20 : Shape := ⟨3, ![1024, 32, 20]⟩
abbrev S1024x1x32 : Shape := ⟨3, ![1024, 1, 32]⟩
abbrev S1024x1024x32 : Shape := ⟨3, ![1024, 1024, 32]⟩
abbrev S_ : Shape := ⟨0, ![]⟩
abbrev S1024x1024 : Shape := ⟨2, ![1024, 1024]⟩
abbrev S2 : Shape := ⟨1, ![2]⟩
abbrev S1 : Shape := ⟨1, ![1]⟩
abbrev S1024x32x1 : Shape := ⟨3, ![1024, 32, 1]⟩
abbrev S1024 : Shape := ⟨1, ![1024]⟩
abbrev S1024x1 : Shape := ⟨2, ![1024, 1]⟩
abbrev S1024x1024x1024 : Shape := ⟨3, ![1024, 1024, 1024]⟩
abbrev S1024x1x1024 : Shape := ⟨3, ![1024, 1, 1024]⟩
abbrev S1024x1024x1 : Shape := ⟨3, ![1024, 1024, 1]⟩

abbrev nBuf : Space → Nat
  | .hbm => 925
  | .vmem => 0
  | .smem => 0
  | _ => 0

abbrev hbmTy0_0 (i : Nat) : BufTy := match i % 128 with
  | 0 => ⟨S1024x32, .f32⟩
  | 1 => ⟨S1024x32x20, .f32⟩
  | 2 => ⟨S1024x1x32, .f32⟩
  | 3 => ⟨S1024x1024x32, .f32⟩
  | 4 => ⟨S_, .f32⟩
  | 5 => ⟨S1024x1024, .f32⟩
  | 6 => ⟨S_, .f32⟩
  | 7 => ⟨S1024x1024, .f32⟩
  | 8 => ⟨S1024x1024, .f32⟩
  | 9 => ⟨S_, .i32⟩
  | 10 => ⟨S_, .i32⟩
  | 11 => ⟨S1024x32x20, .f32⟩
  | 12 => ⟨S_, .i32⟩
  | 13 => ⟨S_, .i32⟩
  | 14 => ⟨S1024x1024x32, .f32⟩
  | 15 => ⟨S1024x1024, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S2, .i32⟩
  | 24 => ⟨S2, .i32⟩
  | 25 => ⟨S2, .i32⟩
  | 26 => ⟨S_, .i32⟩
  | 27 => ⟨S2, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S1024x32, .f32⟩

abbrev hbmTy0_1 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S1024x32, .f32⟩

abbrev hbmTy0_2 (i : Nat) : BufTy := match i % 128 with
  | 0 => ⟨S2, .i32⟩
  | 1 => ⟨S_, .i32⟩
  | 2 => ⟨S2, .i32⟩
  | 3 => ⟨S2, .i32⟩
  | 4 => ⟨S1, .i32⟩
  | 5 => ⟨S_, .i32⟩
  | 6 => ⟨S1, .i32⟩
  | 7 => ⟨S_, .i32⟩
  | 8 => ⟨S1024x1024x32, .i32⟩
  | 9 => ⟨S_, .i32⟩
  | 10 => ⟨S1024x1024x32, .i32⟩
  | 11 => ⟨S1024x1024x32, .i32⟩
  | 12 => ⟨S1024x1024x32, .i32⟩
  | 13 => ⟨S1024x1024x32, .i32⟩
  | 14 => ⟨S_, .i32⟩
  | 15 => ⟨S1024x1024x32, .i32⟩
  | 16 => ⟨S1024x1024x32, .i32⟩
  | 17 => ⟨S1024x1024x32, .i32⟩
  | 18 => ⟨S1024x1024x32, .i32⟩
  | 19 => ⟨S_, .i32⟩
  | 20 => ⟨S1024x1024x32, .i32⟩
  | 21 => ⟨S_, .i32⟩
  | 22 => ⟨S_, .i32⟩
  | 23 => ⟨S_, .i32⟩
  | 24 => ⟨S1024x1024x32, .i32⟩
  | 25 => ⟨S1024x1024x32, .i32⟩
  | 26 => ⟨S1024x1024x32, .i32⟩
  | 27 => ⟨S1024x1024x32, .i32⟩
  | 28 => ⟨S1024x1024x32, .i32⟩
  | 29 => ⟨S_, .i32⟩
  | 30 => ⟨S1024x1024x32, .i32⟩
  | 31 => ⟨S1024x1024x32, .i32⟩
  | 32 => ⟨S_, .i32⟩
  | 33 => ⟨S1024x1024x32, .i32⟩
  | 34 => ⟨S1024x1024x32, .i32⟩
  | 35 => ⟨S1024x1024x32, .i32⟩
  | 36 => ⟨S1024x1024x32, .i32⟩
  | 37 => ⟨S1024x1024x32, .i32⟩
  | 38 => ⟨S_, .i32⟩
  | 39 => ⟨S1024x1024x32, .i32⟩
  | 40 => ⟨S1024x1024x32, .i32⟩
  | 41 => ⟨S_, .i32⟩
  | 42 => ⟨S1024x1024x32, .i32⟩
  | 43 => ⟨S1024x1024x32, .i32⟩
  | 44 => ⟨S1024x1024x32, .i32⟩
  | 45 => ⟨S1024x1024x32, .i32⟩
  | 46 => ⟨S1024x1024x32, .i32⟩
  | 47 => ⟨S_, .i32⟩
  | 48 => ⟨S1024x1024x32, .i32⟩
  | 49 => ⟨S1024x1024x32, .i32⟩
  | 50 => ⟨S_, .i32⟩
  | 51 => ⟨S1024x1024x32, .i32⟩
  | 52 => ⟨S1024x1024x32, .i32⟩
  | 53 => ⟨S1024x1024x32, .i32⟩
  | 54 => ⟨S1024x1024x32, .i32⟩
  | 55 => ⟨S1024x1024x32, .i32⟩
  | 56 => ⟨S_, .i32⟩
  | 57 => ⟨S1024x1024x32, .i32⟩
  | 58 => ⟨S1024x1024x32, .i32⟩
  | 59 => ⟨S_, .i32⟩
  | 60 => ⟨S1024x1024x32, .i32⟩
  | 61 => ⟨S1024x1024x32, .i32⟩
  | 62 => ⟨S1024x1024x32, .i32⟩
  | 63 => ⟨S1024x1024x32, .i32⟩
  | 64 => ⟨S1024x1024x32, .i32⟩
  | 65 => ⟨S1024x1024x32, .i32⟩
  | 66 => ⟨S1024x1024x32, .i32⟩
  | 67 => ⟨S1024x1024x32, .i32⟩
  | 68 => ⟨S_, .i32⟩
  | 69 => ⟨S1024x1024x32, .i32⟩
  | 70 => ⟨S1024x1024x32, .i32⟩
  | 71 => ⟨S1024x1024x32, .i32⟩
  | 72 => ⟨S_, .i32⟩
  | 73 => ⟨S1024x1024x32, .i32⟩
  | 74 => ⟨S1024x1024x32, .i32⟩
  | 75 => ⟨S_, .i32⟩
  | 76 => ⟨S1024x1024x32, .i32⟩
  | 77 => ⟨S1024x1024x32, .i32⟩
  | 78 => ⟨S1024x1024x32, .i32⟩
  | 79 => ⟨S1024x1024x32, .i32⟩
  | 80 => ⟨S1024x1024x32, .i32⟩
  | 81 => ⟨S_, .i32⟩
  | 82 => ⟨S1024x1024x32, .i32⟩
  | 83 => ⟨S1024x1024x32, .i32⟩
  | 84 => ⟨S_, .i32⟩
  | 85 => ⟨S1024x1024x32, .i32⟩
  | 86 => ⟨S1024x1024x32, .i32⟩
  | 87 => ⟨S1024x1024x32, .i32⟩
  | 88 => ⟨S1024x1024x32, .i32⟩
  | 89 => ⟨S1024x1024x32, .i32⟩
  | 90 => ⟨S_, .i32⟩
  | 91 => ⟨S1024x1024x32, .i32⟩
  | 92 => ⟨S1024x1024x32, .i32⟩
  | 93 => ⟨S_, .i32⟩
  | 94 => ⟨S1024x1024x32, .i32⟩
  | 95 => ⟨S1024x1024x32, .i32⟩
  | 96 => ⟨S1024x1024x32, .i32⟩
  | 97 => ⟨S1024x1024x32, .i32⟩
  | 98 => ⟨S1024x1024x32, .i32⟩
  | 99 => ⟨S_, .i32⟩
  | 100 => ⟨S1024x1024x32, .i32⟩
  | 101 => ⟨S1024x1024x32, .i32⟩
  | 102 => ⟨S_, .i32⟩
  | 103 => ⟨S1024x1024x32, .i32⟩
  | 104 => ⟨S1024x1024x32, .i32⟩
  | 105 => ⟨S1024x1024x32, .i32⟩
  | 106 => ⟨S1024x1024x32, .i32⟩
  | 107 => ⟨S1024x1024x32, .i32⟩
  | 108 => ⟨S1024x1024x32, .i32⟩
  | 109 => ⟨S1024x1024x32, .i32⟩
  | 110 => ⟨S1024x1024x32, .i32⟩
  | 111 => ⟨S_, .i32⟩
  | 112 => ⟨S1024x1024x32, .i32⟩
  | 113 => ⟨S1024x1024x32, .i32⟩
  | 114 => ⟨S1024x1024x32, .i32⟩
  | 115 => ⟨S_, .i32⟩
  | 116 => ⟨S1024x1024x32, .i32⟩
  | 117 => ⟨S1024x1024x32, .i32⟩
  | 118 => ⟨S_, .i32⟩
  | 119 => ⟨S1024x1024x32, .i32⟩
  | 120 => ⟨S1024x1024x32, .i32⟩
  | 121 => ⟨S1024x1024x32, .i32⟩
  | 122 => ⟨S1024x1024x32, .i32⟩
  | 123 => ⟨S1024x1024x32, .i32⟩
  | 124 => ⟨S_, .i32⟩
  | 125 => ⟨S1024x1024x32, .i32⟩
  | 126 => ⟨S1024x1024x32, .i32⟩
  | 127 => ⟨S_, .i32⟩
  | _ => ⟨S1024x32, .f32⟩

abbrev hbmTy0_3 (i : Nat) : BufTy := match i % 128 with
  | 0 => ⟨S1024x1024x32, .i32⟩
  | 1 => ⟨S1024x1024x32, .i32⟩
  | 2 => ⟨S1024x1024x32, .i32⟩
  | 3 => ⟨S1024x1024x32, .i32⟩
  | 4 => ⟨S1024x1024x32, .i32⟩
  | 5 => ⟨S_, .i32⟩
  | 6 => ⟨S1024x1024x32, .i32⟩
  | 7 => ⟨S1024x1024x32, .i32⟩
  | 8 => ⟨S_, .i32⟩
  | 9 => ⟨S1024x1024x32, .i32⟩
  | 10 => ⟨S1024x1024x32, .i32⟩
  | 11 => ⟨S1024x1024x32, .i32⟩
  | 12 => ⟨S1024x1024x32, .i32⟩
  | 13 => ⟨S1024x1024x32, .i32⟩
  | 14 => ⟨S_, .i32⟩
  | 15 => ⟨S1024x1024x32, .i32⟩
  | 16 => ⟨S1024x1024x32, .i32⟩
  | 17 => ⟨S_, .i32⟩
  | 18 => ⟨S1024x1024x32, .i32⟩
  | 19 => ⟨S1024x1024x32, .i32⟩
  | 20 => ⟨S1024x1024x32, .i32⟩
  | 21 => ⟨S1024x1024x32, .i32⟩
  | 22 => ⟨S1024x1024x32, .i32⟩
  | 23 => ⟨S1024x1024x32, .i32⟩
  | 24 => ⟨S1024x1024x32, .i32⟩
  | 25 => ⟨S1024x1024x32, .i32⟩
  | 26 => ⟨S_, .i32⟩
  | 27 => ⟨S1024x1024x32, .i32⟩
  | 28 => ⟨S1024x1024x32, .i32⟩
  | 29 => ⟨S1024x1024x32, .i32⟩
  | 30 => ⟨S_, .i32⟩
  | 31 => ⟨S1024x1024x32, .i32⟩
  | 32 => ⟨S1024x1024x32, .i32⟩
  | 33 => ⟨S_, .i32⟩
  | 34 => ⟨S1024x1024x32, .i32⟩
  | 35 => ⟨S1024x1024x32, .i32⟩
  | 36 => ⟨S1024x1024x32, .i32⟩
  | 37 => ⟨S1024x1024x32, .i32⟩
  | 38 => ⟨S1024x1024x32, .i32⟩
  | 39 => ⟨S_, .i32⟩
  | 40 => ⟨S1024x1024x32, .i32⟩
  | 41 => ⟨S1024x1024x32, .i32⟩
  | 42 => ⟨S_, .i32⟩
  | 43 => ⟨S1024x1024x32, .i32⟩
  | 44 => ⟨S1024x1024x32, .i32⟩
  | 45 => ⟨S1024x1024x32, .i32⟩
  | 46 => ⟨S1024x1024x32, .i32⟩
  | 47 => ⟨S1024x1024x32, .i32⟩
  | 48 => ⟨S_, .i32⟩
  | 49 => ⟨S1024x1024x32, .i32⟩
  | 50 => ⟨S1024x1024x32, .i32⟩
  | 51 => ⟨S_, .i32⟩
  | 52 => ⟨S1024x1024x32, .i32⟩
  | 53 => ⟨S1024x1024x32, .i32⟩
  | 54 => ⟨S1024x1024x32, .i32⟩
  | 55 => ⟨S1024x1024x32, .i32⟩
  | 56 => ⟨S1024x1024x32, .i32⟩
  | 57 => ⟨S_, .i32⟩
  | 58 => ⟨S1024x1024x32, .i32⟩
  | 59 => ⟨S1024x1024x32, .i32⟩
  | 60 => ⟨S_, .i32⟩
  | 61 => ⟨S1024x1024x32, .i32⟩
  | 62 => ⟨S1024x1024x32, .i32⟩
  | 63 => ⟨S1024x1024x32, .i32⟩
  | 64 => ⟨S1024x1024x32, .i32⟩
  | 65 => ⟨S1024x1024x32, .i32⟩
  | 66 => ⟨S1024x1024x32, .i32⟩
  | 67 => ⟨S1024x1024x32, .i32⟩
  | 68 => ⟨S1024x1024x32, .i32⟩
  | 69 => ⟨S_, .i32⟩
  | 70 => ⟨S1024x1024x32, .i32⟩
  | 71 => ⟨S1024x1024x32, .i32⟩
  | 72 => ⟨S1024x1024x32, .i32⟩
  | 73 => ⟨S_, .i32⟩
  | 74 => ⟨S1024x1024x32, .i32⟩
  | 75 => ⟨S1024x1024x32, .i32⟩
  | 76 => ⟨S_, .i32⟩
  | 77 => ⟨S1024x1024x32, .i32⟩
  | 78 => ⟨S1024x1024x32, .i32⟩
  | 79 => ⟨S1024x1024x32, .i32⟩
  | 80 => ⟨S1024x1024x32, .i32⟩
  | 81 => ⟨S1024x1024x32, .i32⟩
  | 82 => ⟨S_, .i32⟩
  | 83 => ⟨S1024x1024x32, .i32⟩
  | 84 => ⟨S1024x1024x32, .i32⟩
  | 85 => ⟨S_, .i32⟩
  | 86 => ⟨S1024x1024x32, .i32⟩
  | 87 => ⟨S1024x1024x32, .i32⟩
  | 88 => ⟨S1024x1024x32, .i32⟩
  | 89 => ⟨S1024x1024x32, .i32⟩
  | 90 => ⟨S1024x1024x32, .i32⟩
  | 91 => ⟨S_, .i32⟩
  | 92 => ⟨S1024x1024x32, .i32⟩
  | 93 => ⟨S1024x1024x32, .i32⟩
  | 94 => ⟨S_, .i32⟩
  | 95 => ⟨S1024x1024x32, .i32⟩
  | 96 => ⟨S1024x1024x32, .i32⟩
  | 97 => ⟨S1024x1024x32, .i32⟩
  | 98 => ⟨S1024x1024x32, .i32⟩
  | 99 => ⟨S1024x1024x32, .i32⟩
  | 100 => ⟨S_, .i32⟩
  | 101 => ⟨S1024x1024x32, .i32⟩
  | 102 => ⟨S1024x1024x32, .i32⟩
  | 103 => ⟨S_, .i32⟩
  | 104 => ⟨S1024x1024x32, .i32⟩
  | 105 => ⟨S1024x1024x32, .i32⟩
  | 106 => ⟨S1024x1024x32, .i32⟩
  | 107 => ⟨S1024x1024x32, .i32⟩
  | 108 => ⟨S1024x1024x32, .i32⟩
  | 109 => ⟨S1024x1024x32, .i32⟩
  | 110 => ⟨S1024x1024x32, .i32⟩
  | 111 => ⟨S1024x1024x32, .i32⟩
  | 112 => ⟨S_, .i32⟩
  | 113 => ⟨S1024x1024x32, .i32⟩
  | 114 => ⟨S1024x1024x32, .i32⟩
  | 115 => ⟨S1024x1024x32, .i32⟩
  | 116 => ⟨S_, .i32⟩
  | 117 => ⟨S1024x1024x32, .i32⟩
  | 118 => ⟨S1024x1024x32, .i32⟩
  | 119 => ⟨S_, .i32⟩
  | 120 => ⟨S1024x1024x32, .i32⟩
  | 121 => ⟨S1024x1024x32, .i32⟩
  | 122 => ⟨S1024x1024x32, .f32⟩
  | 123 => ⟨S_, .f32⟩
  | 124 => ⟨S1024x1024x32, .f32⟩
  | 125 => ⟨S1024x1024x32, .f32⟩
  | 126 => ⟨S_, .f32⟩
  | 127 => ⟨S1024x1024x32, .f32⟩
  | _ => ⟨S1024x32, .f32⟩

abbrev hbmTy0_4 (i : Nat) : BufTy := match i % 128 with
  | 0 => ⟨S1024x1024x32, .f32⟩
  | 1 => ⟨S_, .f32⟩
  | 2 => ⟨S1024x1024x32, .f32⟩
  | 3 => ⟨S1024x1024x32, .f32⟩
  | 4 => ⟨S1024x1024x32, .f32⟩
  | 5 => ⟨S1024x1024x32, .f32⟩
  | 6 => ⟨S1024x1024x32, .f32⟩
  | 7 => ⟨S1024x1024x32, .f32⟩
  | 8 => ⟨S_, .f32⟩
  | 9 => ⟨S1024x1024x32, .f32⟩
  | 10 => ⟨S1024x1024x32, .i1⟩
  | 11 => ⟨S_, .f32⟩
  | 12 => ⟨S1024x1024x32, .f32⟩
  | 13 => ⟨S1024x1024x32, .f32⟩
  | 14 => ⟨S_, .f32⟩
  | 15 => ⟨S1024x1024x32, .f32⟩
  | 16 => ⟨S1024x1024x32, .f32⟩
  | 17 => ⟨S_, .f32⟩
  | 18 => ⟨S1024x1024x32, .f32⟩
  | 19 => ⟨S1024x1024x32, .f32⟩
  | 20 => ⟨S1024x1024x32, .f32⟩
  | 21 => ⟨S_, .f32⟩
  | 22 => ⟨S1024x1024x32, .f32⟩
  | 23 => ⟨S1024x1024x32, .f32⟩
  | 24 => ⟨S1024x1024x32, .f32⟩
  | 25 => ⟨S_, .f32⟩
  | 26 => ⟨S1024x1024x32, .f32⟩
  | 27 => ⟨S1024x1024x32, .f32⟩
  | 28 => ⟨S1024x1024x32, .f32⟩
  | 29 => ⟨S_, .f32⟩
  | 30 => ⟨S1024x1024x32, .f32⟩
  | 31 => ⟨S1024x1024x32, .f32⟩
  | 32 => ⟨S1024x1024x32, .f32⟩
  | 33 => ⟨S_, .f32⟩
  | 34 => ⟨S1024x1024x32, .f32⟩
  | 35 => ⟨S1024x1024x32, .f32⟩
  | 36 => ⟨S1024x1024x32, .f32⟩
  | 37 => ⟨S_, .f32⟩
  | 38 => ⟨S1024x1024x32, .f32⟩
  | 39 => ⟨S1024x1024x32, .f32⟩
  | 40 => ⟨S1024x1024x32, .f32⟩
  | 41 => ⟨S_, .f32⟩
  | 42 => ⟨S1024x1024x32, .f32⟩
  | 43 => ⟨S1024x1024x32, .f32⟩
  | 44 => ⟨S1024x1024x32, .f32⟩
  | 45 => ⟨S_, .f32⟩
  | 46 => ⟨S1024x1024x32, .f32⟩
  | 47 => ⟨S1024x1024x32, .f32⟩
  | 48 => ⟨S1024x1024x32, .f32⟩
  | 49 => ⟨S_, .f32⟩
  | 50 => ⟨S1024x1024x32, .f32⟩
  | 51 => ⟨S1024x1024x32, .f32⟩
  | 52 => ⟨S_, .f32⟩
  | 53 => ⟨S1024x1024x32, .f32⟩
  | 54 => ⟨S1024x1024x32, .f32⟩
  | 55 => ⟨S_, .f32⟩
  | 56 => ⟨S1024x1024x32, .f32⟩
  | 57 => ⟨S1024x1024x32, .f32⟩
  | 58 => ⟨S1024x1024x32, .f32⟩
  | 59 => ⟨S_, .f32⟩
  | 60 => ⟨S1024x1024x32, .f32⟩
  | 61 => ⟨S1024x1024x32, .f32⟩
  | 62 => ⟨S1024x1024x32, .f32⟩
  | 63 => ⟨S_, .f32⟩
  | 64 => ⟨S1024x1024x32, .f32⟩
  | 65 => ⟨S1024x1024x32, .f32⟩
  | 66 => ⟨S1024x1024x32, .f32⟩
  | 67 => ⟨S_, .f32⟩
  | 68 => ⟨S1024x1024x32, .f32⟩
  | 69 => ⟨S1024x1024x32, .f32⟩
  | 70 => ⟨S1024x1024x32, .f32⟩
  | 71 => ⟨S_, .f32⟩
  | 72 => ⟨S1024x1024x32, .f32⟩
  | 73 => ⟨S1024x1024x32, .f32⟩
  | 74 => ⟨S1024x1024x32, .f32⟩
  | 75 => ⟨S_, .f32⟩
  | 76 => ⟨S1024x1024x32, .f32⟩
  | 77 => ⟨S1024x1024x32, .f32⟩
  | 78 => ⟨S1024x1024x32, .f32⟩
  | 79 => ⟨S_, .f32⟩
  | 80 => ⟨S1024x1024x32, .f32⟩
  | 81 => ⟨S1024x1024x32, .f32⟩
  | 82 => ⟨S1024x1024x32, .f32⟩
  | 83 => ⟨S_, .f32⟩
  | 84 => ⟨S1024x1024x32, .f32⟩
  | 85 => ⟨S1024x1024x32, .f32⟩
  | 86 => ⟨S1024x1024x32, .f32⟩
  | 87 => ⟨S1024x1024x32, .f32⟩
  | 88 => ⟨S_, .f32⟩
  | 89 => ⟨S1024x1024x32, .f32⟩
  | 90 => ⟨S1024x1024x32, .f32⟩
  | 91 => ⟨S_, .f32⟩
  | 92 => ⟨S1024x1024x32, .f32⟩
  | 93 => ⟨S1024x1024x32, .f32⟩
  | 94 => ⟨S1024x1024x32, .f32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S1024x32x1, .f32⟩
  | 104 => ⟨S1024x32, .f32⟩
  | 105 => ⟨S1024x1x32, .f32⟩
  | 106 => ⟨S1024x1024x32, .f32⟩
  | 107 => ⟨S1024x1024x32, .f32⟩
  | 108 => ⟨S1024x1024x32, .f32⟩
  | 109 => ⟨S_, .f32⟩
  | 110 => ⟨S1024x1024, .f32⟩
  | 111 => ⟨S_, .f32⟩
  | 112 => ⟨S1024x1024, .f32⟩
  | 113 => ⟨S1024x1024, .f32⟩
  | 114 => ⟨S1024x1024, .f32⟩
  | 115 => ⟨S_, .f32⟩
  | 116 => ⟨S1024x1024, .f32⟩
  | 117 => ⟨S1024x1024, .f32⟩
  | 118 => ⟨S1024x1024, .f32⟩
  | 119 => ⟨S_, .f32⟩
  | 120 => ⟨S1024x1024, .f32⟩
  | 121 => ⟨S1024x1024, .f32⟩
  | 122 => ⟨S_, .f32⟩
  | 123 => ⟨S1024, .f32⟩
  | 124 => ⟨S1024x1, .f32⟩
  | 125 => ⟨S1024x1024, .f32⟩
  | 126 => ⟨S1024x1024, .f32⟩
  | 127 => ⟨S1, .i32⟩
  | _ => ⟨S1024x32, .f32⟩

abbrev hbmTy0_5 (i : Nat) : BufTy := match i % 128 with
  | 0 => ⟨S_, .i32⟩
  | 1 => ⟨S1, .i32⟩
  | 2 => ⟨S_, .i32⟩
  | 3 => ⟨S1024x1024x1024, .i32⟩
  | 4 => ⟨S_, .i32⟩
  | 5 => ⟨S1024x1024x1024, .i32⟩
  | 6 => ⟨S1024x1024x1024, .i32⟩
  | 7 => ⟨S1024x1024x1024, .i32⟩
  | 8 => ⟨S1024x1024x1024, .i32⟩
  | 9 => ⟨S_, .i32⟩
  | 10 => ⟨S1024x1024x1024, .i32⟩
  | 11 => ⟨S1024x1024x1024, .i32⟩
  | 12 => ⟨S1024x1024x1024, .i32⟩
  | 13 => ⟨S1024x1024x1024, .i32⟩
  | 14 => ⟨S_, .i32⟩
  | 15 => ⟨S1024x1024x1024, .i32⟩
  | 16 => ⟨S_, .i32⟩
  | 17 => ⟨S_, .i32⟩
  | 18 => ⟨S_, .i32⟩
  | 19 => ⟨S1024x1024x1024, .i32⟩
  | 20 => ⟨S1024x1024x1024, .i32⟩
  | 21 => ⟨S1024x1024x1024, .i32⟩
  | 22 => ⟨S1024x1024x1024, .i32⟩
  | 23 => ⟨S1024x1024x1024, .i32⟩
  | 24 => ⟨S_, .i32⟩
  | 25 => ⟨S1024x1024x1024, .i32⟩
  | 26 => ⟨S1024x1024x1024, .i32⟩
  | 27 => ⟨S_, .i32⟩
  | 28 => ⟨S1024x1024x1024, .i32⟩
  | 29 => ⟨S1024x1024x1024, .i32⟩
  | 30 => ⟨S1024x1024x1024, .i32⟩
  | 31 => ⟨S1024x1024x1024, .i32⟩
  | 32 => ⟨S1024x1024x1024, .i32⟩
  | 33 => ⟨S_, .i32⟩
  | 34 => ⟨S1024x1024x1024, .i32⟩
  | 35 => ⟨S1024x1024x1024, .i32⟩
  | 36 => ⟨S_, .i32⟩
  | 37 => ⟨S1024x1024x1024, .i32⟩
  | 38 => ⟨S1024x1024x1024, .i32⟩
  | 39 => ⟨S1024x1024x1024, .i32⟩
  | 40 => ⟨S1024x1024x1024, .i32⟩
  | 41 => ⟨S1024x1024x1024, .i32⟩
  | 42 => ⟨S_, .i32⟩
  | 43 => ⟨S1024x1024x1024, .i32⟩
  | 44 => ⟨S1024x1024x1024, .i32⟩
  | 45 => ⟨S_, .i32⟩
  | 46 => ⟨S1024x1024x1024, .i32⟩
  | 47 => ⟨S1024x1024x1024, .i32⟩
  | 48 => ⟨S1024x1024x1024, .i32⟩
  | 49 => ⟨S1024x1024x1024, .i32⟩
  | 50 => ⟨S1024x1024x1024, .i32⟩
  | 51 => ⟨S_, .i32⟩
  | 52 => ⟨S1024x1024x1024, .i32⟩
  | 53 => ⟨S1024x1024x1024, .i32⟩
  | 54 => ⟨S_, .i32⟩
  | 55 => ⟨S1024x1024x1024, .i32⟩
  | 56 => ⟨S1024x1024x1024, .i32⟩
  | 57 => ⟨S1024x1024x1024, .i32⟩
  | 58 => ⟨S1024x1024x1024, .i32⟩
  | 59 => ⟨S1024x1024x1024, .i32⟩
  | 60 => ⟨S1024x1024x1024, .i32⟩
  | 61 => ⟨S1024x1024x1024, .i32⟩
  | 62 => ⟨S1024x1024x1024, .i32⟩
  | 63 => ⟨S_, .i32⟩
  | 64 => ⟨S1024x1024x1024, .i32⟩
  | 65 => ⟨S1024x1024x1024, .i32⟩
  | 66 => ⟨S1024x1024x1024, .i32⟩
  | 67 => ⟨S_, .i32⟩
  | 68 => ⟨S1024x1024x1024, .i32⟩
  | 69 => ⟨S1024x1024x1024, .i32⟩
  | 70 => ⟨S_, .i32⟩
  | 71 => ⟨S1024x1024x1024, .i32⟩
  | 72 => ⟨S1024x1024x1024, .i32⟩
  | 73 => ⟨S1024x1024x1024, .i32⟩
  | 74 => ⟨S1024x1024x1024, .i32⟩
  | 75 => ⟨S1024x1024x1024, .i32⟩
  | 76 => ⟨S_, .i32⟩
  | 77 => ⟨S1024x1024x1024, .i32⟩
  | 78 => ⟨S1024x1024x1024, .i32⟩
  | 79 => ⟨S_, .i32⟩
  | 80 => ⟨S1024x1024x1024, .i32⟩
  | 81 => ⟨S1024x1024x1024, .i32⟩
  | 82 => ⟨S1024x1024x1024, .i32⟩
  | 83 => ⟨S1024x1024x1024, .i32⟩
  | 84 => ⟨S1024x1024x1024, .i32⟩
  | 85 => ⟨S_, .i32⟩
  | 86 => ⟨S1024x1024x1024, .i32⟩
  | 87 => ⟨S1024x1024x1024, .i32⟩
  | 88 => ⟨S_, .i32⟩
  | 89 => ⟨S1024x1024x1024, .i32⟩
  | 90 => ⟨S1024x1024x1024, .i32⟩
  | 91 => ⟨S1024x1024x1024, .i32⟩
  | 92 => ⟨S1024x1024x1024, .i32⟩
  | 93 => ⟨S1024x1024x1024, .i32⟩
  | 94 => ⟨S_, .i32⟩
  | 95 => ⟨S1024x1024x1024, .i32⟩
  | 96 => ⟨S1024x1024x1024, .i32⟩
  | 97 => ⟨S_, .i32⟩
  | 98 => ⟨S1024x1024x1024, .i32⟩
  | 99 => ⟨S1024x1024x1024, .i32⟩
  | 100 => ⟨S1024x1024x1024, .i32⟩
  | 101 => ⟨S1024x1024x1024, .i32⟩
  | 102 => ⟨S1024x1024x1024, .i32⟩
  | 103 => ⟨S1024x1024x1024, .i32⟩
  | 104 => ⟨S1024x1024x1024, .i32⟩
  | 105 => ⟨S1024x1024x1024, .i32⟩
  | 106 => ⟨S_, .i32⟩
  | 107 => ⟨S1024x1024x1024, .i32⟩
  | 108 => ⟨S1024x1024x1024, .i32⟩
  | 109 => ⟨S1024x1024x1024, .i32⟩
  | 110 => ⟨S_, .i32⟩
  | 111 => ⟨S1024x1024x1024, .i32⟩
  | 112 => ⟨S1024x1024x1024, .i32⟩
  | 113 => ⟨S_, .i32⟩
  | 114 => ⟨S1024x1024x1024, .i32⟩
  | 115 => ⟨S1024x1024x1024, .i32⟩
  | 116 => ⟨S1024x1024x1024, .i32⟩
  | 117 => ⟨S1024x1024x1024, .i32⟩
  | 118 => ⟨S1024x1024x1024, .i32⟩
  | 119 => ⟨S_, .i32⟩
  | 120 => ⟨S1024x1024x1024, .i32⟩
  | 121 => ⟨S1024x1024x1024, .i32⟩
  | 122 => ⟨S_, .i32⟩
  | 123 => ⟨S1024x1024x1024, .i32⟩
  | 124 => ⟨S1024x1024x1024, .i32⟩
  | 125 => ⟨S1024x1024x1024, .i32⟩
  | 126 => ⟨S1024x1024x1024, .i32⟩
  | 127 => ⟨S1024x1024x1024, .i32⟩
  | _ => ⟨S1024x32, .f32⟩

abbrev hbmTy0_6 (i : Nat) : BufTy := match i % 128 with
  | 0 => ⟨S_, .i32⟩
  | 1 => ⟨S1024x1024x1024, .i32⟩
  | 2 => ⟨S1024x1024x1024, .i32⟩
  | 3 => ⟨S_, .i32⟩
  | 4 => ⟨S1024x1024x1024, .i32⟩
  | 5 => ⟨S1024x1024x1024, .i32⟩
  | 6 => ⟨S1024x1024x1024, .i32⟩
  | 7 => ⟨S1024x1024x1024, .i32⟩
  | 8 => ⟨S1024x1024x1024, .i32⟩
  | 9 => ⟨S_, .i32⟩
  | 10 => ⟨S1024x1024x1024, .i32⟩
  | 11 => ⟨S1024x1024x1024, .i32⟩
  | 12 => ⟨S_, .i32⟩
  | 13 => ⟨S1024x1024x1024, .i32⟩
  | 14 => ⟨S1024x1024x1024, .i32⟩
  | 15 => ⟨S1024x1024x1024, .i32⟩
  | 16 => ⟨S1024x1024x1024, .i32⟩
  | 17 => ⟨S1024x1024x1024, .i32⟩
  | 18 => ⟨S1024x1024x1024, .i32⟩
  | 19 => ⟨S1024x1024x1024, .i32⟩
  | 20 => ⟨S1024x1024x1024, .i32⟩
  | 21 => ⟨S_, .i32⟩
  | 22 => ⟨S1024x1024x1024, .i32⟩
  | 23 => ⟨S1024x1024x1024, .i32⟩
  | 24 => ⟨S1024x1024x1024, .i32⟩
  | 25 => ⟨S_, .i32⟩
  | 26 => ⟨S1024x1024x1024, .i32⟩
  | 27 => ⟨S1024x1024x1024, .i32⟩
  | 28 => ⟨S_, .i32⟩
  | 29 => ⟨S1024x1024x1024, .i32⟩
  | 30 => ⟨S1024x1024x1024, .i32⟩
  | 31 => ⟨S1024x1024x1024, .i32⟩
  | 32 => ⟨S1024x1024x1024, .i32⟩
  | 33 => ⟨S1024x1024x1024, .i32⟩
  | 34 => ⟨S_, .i32⟩
  | 35 => ⟨S1024x1024x1024, .i32⟩
  | 36 => ⟨S1024x1024x1024, .i32⟩
  | 37 => ⟨S_, .i32⟩
  | 38 => ⟨S1024x1024x1024, .i32⟩
  | 39 => ⟨S1024x1024x1024, .i32⟩
  | 40 => ⟨S1024x1024x1024, .i32⟩
  | 41 => ⟨S1024x1024x1024, .i32⟩
  | 42 => ⟨S1024x1024x1024, .i32⟩
  | 43 => ⟨S_, .i32⟩
  | 44 => ⟨S1024x1024x1024, .i32⟩
  | 45 => ⟨S1024x1024x1024, .i32⟩
  | 46 => ⟨S_, .i32⟩
  | 47 => ⟨S1024x1024x1024, .i32⟩
  | 48 => ⟨S1024x1024x1024, .i32⟩
  | 49 => ⟨S1024x1024x1024, .i32⟩
  | 50 => ⟨S1024x1024x1024, .i32⟩
  | 51 => ⟨S1024x1024x1024, .i32⟩
  | 52 => ⟨S_, .i32⟩
  | 53 => ⟨S1024x1024x1024, .i32⟩
  | 54 => ⟨S1024x1024x1024, .i32⟩
  | 55 => ⟨S_, .i32⟩
  | 56 => ⟨S1024x1024x1024, .i32⟩
  | 57 => ⟨S1024x1024x1024, .i32⟩
  | 58 => ⟨S1024x1024x1024, .i32⟩
  | 59 => ⟨S1024x1024x1024, .i32⟩
  | 60 => ⟨S1024x1024x1024, .i32⟩
  | 61 => ⟨S1024x1024x1024, .i32⟩
  | 62 => ⟨S1024x1024x1024, .i32⟩
  | 63 => ⟨S1024x1024x1024, .i32⟩
  | 64 => ⟨S_, .i32⟩
  | 65 => ⟨S1024x1024x1024, .i32⟩
  | 66 => ⟨S1024x1024x1024, .i32⟩
  | 67 => ⟨S1024x1024x1024, .i32⟩
  | 68 => ⟨S_, .i32⟩
  | 69 => ⟨S1024x1024x1024, .i32⟩
  | 70 => ⟨S1024x1024x1024, .i32⟩
  | 71 => ⟨S_, .i32⟩
  | 72 => ⟨S1024x1024x1024, .i32⟩
  | 73 => ⟨S1024x1024x1024, .i32⟩
  | 74 => ⟨S1024x1024x1024, .i32⟩
  | 75 => ⟨S1024x1024x1024, .i32⟩
  | 76 => ⟨S1024x1024x1024, .i32⟩
  | 77 => ⟨S_, .i32⟩
  | 78 => ⟨S1024x1024x1024, .i32⟩
  | 79 => ⟨S1024x1024x1024, .i32⟩
  | 80 => ⟨S_, .i32⟩
  | 81 => ⟨S1024x1024x1024, .i32⟩
  | 82 => ⟨S1024x1024x1024, .i32⟩
  | 83 => ⟨S1024x1024x1024, .i32⟩
  | 84 => ⟨S1024x1024x1024, .i32⟩
  | 85 => ⟨S1024x1024x1024, .i32⟩
  | 86 => ⟨S_, .i32⟩
  | 87 => ⟨S1024x1024x1024, .i32⟩
  | 88 => ⟨S1024x1024x1024, .i32⟩
  | 89 => ⟨S_, .i32⟩
  | 90 => ⟨S1024x1024x1024, .i32⟩
  | 91 => ⟨S1024x1024x1024, .i32⟩
  | 92 => ⟨S1024x1024x1024, .i32⟩
  | 93 => ⟨S1024x1024x1024, .i32⟩
  | 94 => ⟨S1024x1024x1024, .i32⟩
  | 95 => ⟨S_, .i32⟩
  | 96 => ⟨S1024x1024x1024, .i32⟩
  | 97 => ⟨S1024x1024x1024, .i32⟩
  | 98 => ⟨S_, .i32⟩
  | 99 => ⟨S1024x1024x1024, .i32⟩
  | 100 => ⟨S1024x1024x1024, .i32⟩
  | 101 => ⟨S1024x1024x1024, .i32⟩
  | 102 => ⟨S1024x1024x1024, .i32⟩
  | 103 => ⟨S1024x1024x1024, .i32⟩
  | 104 => ⟨S1024x1024x1024, .i32⟩
  | 105 => ⟨S1024x1024x1024, .i32⟩
  | 106 => ⟨S1024x1024x1024, .i32⟩
  | 107 => ⟨S_, .i32⟩
  | 108 => ⟨S1024x1024x1024, .i32⟩
  | 109 => ⟨S1024x1024x1024, .i32⟩
  | 110 => ⟨S1024x1024x1024, .i32⟩
  | 111 => ⟨S_, .i32⟩
  | 112 => ⟨S1024x1024x1024, .i32⟩
  | 113 => ⟨S1024x1024x1024, .i32⟩
  | 114 => ⟨S_, .i32⟩
  | 115 => ⟨S1024x1024x1024, .i32⟩
  | 116 => ⟨S1024x1024x1024, .i32⟩
  | 117 => ⟨S1024x1024x1024, .f32⟩
  | 118 => ⟨S_, .f32⟩
  | 119 => ⟨S1024x1024x1024, .f32⟩
  | 120 => ⟨S1024x1024x1024, .f32⟩
  | 121 => ⟨S1024x1024x1024, .f32⟩
  | 122 => ⟨S1024x1024x1024, .f32⟩
  | 123 => ⟨S1024x1024x1024, .f32⟩
  | 124 => ⟨S1024x1024x1024, .f32⟩
  | 125 => ⟨S1024x1024, .f32⟩
  | 126 => ⟨S1024x1x1024, .f32⟩
  | 127 => ⟨S1024x1024x1024, .f32⟩
  | _ => ⟨S1024x32, .f32⟩

abbrev hbmTy0_7 (i : Nat) : BufTy := match i % 128 with
  | 0 => ⟨S1024x1024x1024, .f32⟩
  | 1 => ⟨S_, .f32⟩
  | 2 => ⟨S1024x1024, .f32⟩
  | 3 => ⟨S1024x1024x1, .f32⟩
  | 4 => ⟨S1024x1024x1024, .i32⟩
  | 5 => ⟨S1024x1024x1024, .f32⟩
  | 6 => ⟨S1024x1024x1024, .i1⟩
  | 7 => ⟨S_, .i32⟩
  | 8 => ⟨S_, .i32⟩
  | 9 => ⟨S1024x1024x1024, .i32⟩
  | 10 => ⟨S1024x1024x1024, .i32⟩
  | 11 => ⟨S_, .i32⟩
  | 12 => ⟨S1024x1024, .i32⟩
  | 13 => ⟨S1024x1024x1, .i32⟩
  | 14 => ⟨S_, .i32⟩
  | 15 => ⟨S1024x1024x1, .i32⟩
  | 16 => ⟨S1024x1024x1, .i1⟩
  | 17 => ⟨S_, .i32⟩
  | 18 => ⟨S1024x1024x1, .i32⟩
  | 19 => ⟨S1024x1024x1, .i32⟩
  | 20 => ⟨S1024x1024x1, .i32⟩
  | 21 => ⟨S1024x1024x32, .f32⟩
  | 22 => ⟨S_, .i32⟩
  | 23 => ⟨S_, .i32⟩
  | 24 => ⟨S_, .f32⟩
  | 25 => ⟨S1024x32, .f32⟩
  | 26 => ⟨S_, .f32⟩
  | 27 => ⟨S1024x32, .f32⟩
  | 28 => ⟨S1024x32, .f32⟩
  | _ => ⟨S1024x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1024x32, .f32⟩

abbrev bufTy : (tb : Table) → Fin (tcTables nBuf tb) → BufTy
  | .hbm, ⟨i, _⟩ => hbmTy i
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_1 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_while0c_c_8 : Ref sig .tc := ⟨.hbm, 16, rfl⟩
abbrev main_while0c_v9 : Ref sig .tc := ⟨.hbm, 17, rfl⟩
abbrev main_while0b_c_8 : Ref sig .tc := ⟨.hbm, 18, rfl⟩
abbrev main_while0b_v9 : Ref sig .tc := ⟨.hbm, 19, rfl⟩
abbrev main_while0b_v10 : Ref sig .tc := ⟨.hbm, 20, rfl⟩
abbrev main_while0b_c_9 : Ref sig .tc := ⟨.hbm, 21, rfl⟩
abbrev main_while0b_v11 : Ref sig .tc := ⟨.hbm, 22, rfl⟩
abbrev main_while0b_v12 : Ref sig .tc := ⟨.hbm, 23, rfl⟩
abbrev main_while0b_v13 : Ref sig .tc := ⟨.hbm, 24, rfl⟩
abbrev main_while0b_v14 : Ref sig .tc := ⟨.hbm, 25, rfl⟩
abbrev main_while0b_c_10 : Ref sig .tc := ⟨.hbm, 26, rfl⟩
abbrev main_while0b_v15 : Ref sig .tc := ⟨.hbm, 27, rfl⟩
abbrev main_while0b_c_11 : Ref sig .tc := ⟨.hbm, 28, rfl⟩
abbrev main_while0b_c_12 : Ref sig .tc := ⟨.hbm, 29, rfl⟩
abbrev main_while0b_v16 : Ref sig .tc := ⟨.hbm, 30, rfl⟩
abbrev main_while0b_c_13 : Ref sig .tc := ⟨.hbm, 31, rfl⟩
abbrev main_while0b_v17 : Ref sig .tc := ⟨.hbm, 32, rfl⟩
abbrev main_while0b_c_14 : Ref sig .tc := ⟨.hbm, 33, rfl⟩
abbrev main_while0b_v18 : Ref sig .tc := ⟨.hbm, 34, rfl⟩
abbrev main_while0b_v19 : Ref sig .tc := ⟨.hbm, 35, rfl⟩
abbrev main_while0b_c_15 : Ref sig .tc := ⟨.hbm, 36, rfl⟩
abbrev main_while0b_v20 : Ref sig .tc := ⟨.hbm, 37, rfl⟩
abbrev main_while0b_v21 : Ref sig .tc := ⟨.hbm, 38, rfl⟩
abbrev main_while0b_v22 : Ref sig .tc := ⟨.hbm, 39, rfl⟩
abbrev main_while0b_c_16 : Ref sig .tc := ⟨.hbm, 40, rfl⟩
abbrev main_while0b_v23 : Ref sig .tc := ⟨.hbm, 41, rfl⟩
abbrev main_while0b_v24 : Ref sig .tc := ⟨.hbm, 42, rfl⟩
abbrev main_while0b_c_17 : Ref sig .tc := ⟨.hbm, 43, rfl⟩
abbrev main_while0b_v25 : Ref sig .tc := ⟨.hbm, 44, rfl⟩
abbrev main_while0b_v26 : Ref sig .tc := ⟨.hbm, 45, rfl⟩
abbrev main_while0b_v27 : Ref sig .tc := ⟨.hbm, 46, rfl⟩
abbrev main_while0b_v28 : Ref sig .tc := ⟨.hbm, 47, rfl⟩
abbrev main_while0b_v29 : Ref sig .tc := ⟨.hbm, 48, rfl⟩
abbrev main_while0b_c_18 : Ref sig .tc := ⟨.hbm, 49, rfl⟩
abbrev main_while0b_v30 : Ref sig .tc := ⟨.hbm, 50, rfl⟩
abbrev main_while0b_v31 : Ref sig .tc := ⟨.hbm, 51, rfl⟩
abbrev main_while0b_c_19 : Ref sig .tc := ⟨.hbm, 52, rfl⟩
abbrev main_while0b_v32 : Ref sig .tc := ⟨.hbm, 53, rfl⟩
abbrev main_while0b_v33 : Ref sig .tc := ⟨.hbm, 54, rfl⟩
abbrev main_while0b_v34 : Ref sig .tc := ⟨.hbm, 55, rfl⟩
abbrev main_while0b_v35 : Ref sig .tc := ⟨.hbm, 56, rfl⟩
abbrev main_while0b_v36 : Ref sig .tc := ⟨.hbm, 57, rfl⟩
abbrev main_while0b_c_20 : Ref sig .tc := ⟨.hbm, 58, rfl⟩
abbrev main_while0b_v37 : Ref sig .tc := ⟨.hbm, 59, rfl⟩
abbrev main_while0b_v38 : Ref sig .tc := ⟨.hbm, 60, rfl⟩
abbrev main_while0b_c_21 : Ref sig .tc := ⟨.hbm, 61, rfl⟩
abbrev main_while0b_v39 : Ref sig .tc := ⟨.hbm, 62, rfl⟩
abbrev main_while0b_v40 : Ref sig .tc := ⟨.hbm, 63, rfl⟩
abbrev main_while0b_v41 : Ref sig .tc := ⟨.hbm, 64, rfl⟩
abbrev main_while0b_v42 : Ref sig .tc := ⟨.hbm, 65, rfl⟩
abbrev main_while0b_v43 : Ref sig .tc := ⟨.hbm, 66, rfl⟩
abbrev main_while0b_c_22 : Ref sig .tc := ⟨.hbm, 67, rfl⟩
abbrev main_while0b_v44 : Ref sig .tc := ⟨.hbm, 68, rfl⟩
abbrev main_while0b_v45 : Ref sig .tc := ⟨.hbm, 69, rfl⟩
abbrev main_while0b_c_23 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_v49 : Ref sig .tc := ⟨.hbm, 74, rfl⟩
abbrev main_while0b_c_24 : Ref sig .tc := ⟨.hbm, 75, rfl⟩
abbrev main_while0b_v50 : Ref sig .tc := ⟨.hbm, 76, rfl⟩
abbrev main_while0b_v51 : Ref sig .tc := ⟨.hbm, 77, rfl⟩
abbrev main_while0b_v52 : Ref sig .tc := ⟨.hbm, 78, rfl⟩
abbrev main_while0b_v53 : Ref sig .tc := ⟨.hbm, 79, rfl⟩
abbrev main_while0b_c_25 : Ref sig .tc := ⟨.hbm, 80, rfl⟩
abbrev main_while0b_v54 : Ref sig .tc := ⟨.hbm, 81, rfl⟩
abbrev main_while0b_v55 : Ref sig .tc := ⟨.hbm, 82, rfl⟩
abbrev main_while0b_v56 : Ref sig .tc := ⟨.hbm, 83, rfl⟩
abbrev main_while0b_c_26 : Ref sig .tc := ⟨.hbm, 84, rfl⟩
abbrev main_while0b_v57 : Ref sig .tc := ⟨.hbm, 85, rfl⟩
abbrev main_while0b_v58 : Ref sig .tc := ⟨.hbm, 86, rfl⟩
abbrev main_while0b_c_27 : Ref sig .tc := ⟨.hbm, 87, rfl⟩
abbrev main_while0b_v59 : Ref sig .tc := ⟨.hbm, 88, rfl⟩
abbrev main_while0b_v60 : Ref sig .tc := ⟨.hbm, 89, rfl⟩
abbrev main_while0b_v61 : Ref sig .tc := ⟨.hbm, 90, rfl⟩
abbrev main_while0b_v62 : Ref sig .tc := ⟨.hbm, 91, rfl⟩
abbrev main_while0b_v63 : Ref sig .tc := ⟨.hbm, 92, rfl⟩
abbrev main_while0b_c_28 : Ref sig .tc := ⟨.hbm, 93, rfl⟩
abbrev main_while0b_v64 : Ref sig .tc := ⟨.hbm, 94, rfl⟩
abbrev main_while0b_v65 : Ref sig .tc := ⟨.hbm, 95, rfl⟩
abbrev main_while0b_c_29 : Ref sig .tc := ⟨.hbm, 96, rfl⟩
abbrev main_while0b_v66 : Ref sig .tc := ⟨.hbm, 97, rfl⟩
abbrev main_while0b_v67 : Ref sig .tc := ⟨.hbm, 98, rfl⟩
abbrev main_while0b_v68 : Ref sig .tc := ⟨.hbm, 99, rfl⟩
abbrev main_while0b_v69 : Ref sig .tc := ⟨.hbm, 100, rfl⟩
abbrev main_while0b_v70 : Ref sig .tc := ⟨.hbm, 101, rfl⟩
abbrev main_while0b_c_30 : Ref sig .tc := ⟨.hbm, 102, rfl⟩
abbrev main_while0b_v71 : Ref sig .tc := ⟨.hbm, 103, rfl⟩
abbrev main_while0b_v72 : Ref sig .tc := ⟨.hbm, 104, rfl⟩
abbrev main_while0b_c_31 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_v76 : Ref sig .tc := ⟨.hbm, 109, rfl⟩
abbrev main_while0b_v77 : Ref sig .tc := ⟨.hbm, 110, rfl⟩
abbrev main_while0b_c_32 : Ref sig .tc := ⟨.hbm, 111, rfl⟩
abbrev main_while0b_v78 : Ref sig .tc := ⟨.hbm, 112, rfl⟩
abbrev main_while0b_v79 : Ref sig .tc := ⟨.hbm, 113, rfl⟩
abbrev main_while0b_c_33 : Ref sig .tc := ⟨.hbm, 114, rfl⟩
abbrev main_while0b_v80 : Ref sig .tc := ⟨.hbm, 115, rfl⟩
abbrev main_while0b_v81 : Ref sig .tc := ⟨.hbm, 116, rfl⟩
abbrev main_while0b_v82 : Ref sig .tc := ⟨.hbm, 117, rfl⟩
abbrev main_while0b_v83 : Ref sig .tc := ⟨.hbm, 118, rfl⟩
abbrev main_while0b_v84 : Ref sig .tc := ⟨.hbm, 119, rfl⟩
abbrev main_while0b_v85 : Ref sig .tc := ⟨.hbm, 120, rfl⟩
abbrev main_while0b_c_34 : Ref sig .tc := ⟨.hbm, 121, rfl⟩
abbrev main_while0b_v86 : Ref sig .tc := ⟨.hbm, 122, rfl⟩
abbrev main_while0b_v87 : Ref sig .tc := ⟨.hbm, 123, rfl⟩
abbrev main_while0b_c_35 : Ref sig .tc := ⟨.hbm, 124, rfl⟩
abbrev main_while0b_v88 : Ref sig .tc := ⟨.hbm, 125, rfl⟩
abbrev main_while0b_v89 : Ref sig .tc := ⟨.hbm, 126, rfl⟩
abbrev main_while0b_v90 : Ref sig .tc := ⟨.hbm, 127, rfl⟩
abbrev main_while0b_c_36 : Ref sig .tc := ⟨.hbm, 128, rfl⟩
abbrev main_while0b_v91 : Ref sig .tc := ⟨.hbm, 129, rfl⟩
abbrev main_while0b_v92 : Ref sig .tc := ⟨.hbm, 130, rfl⟩
abbrev main_while0b_c_37 : Ref sig .tc := ⟨.hbm, 131, rfl⟩
abbrev main_while0b_v93 : Ref sig .tc := ⟨.hbm, 132, rfl⟩
abbrev main_while0b_v94 : Ref sig .tc := ⟨.hbm, 133, rfl⟩
abbrev main_while0b_v95 : Ref sig .tc := ⟨.hbm, 134, rfl⟩
abbrev main_while0b_v96 : Ref sig .tc := ⟨.hbm, 135, rfl⟩
abbrev main_while0b_v97 : Ref sig .tc := ⟨.hbm, 136, rfl⟩
abbrev main_while0b_c_38 : Ref sig .tc := ⟨.hbm, 137, rfl⟩
abbrev main_while0b_v98 : Ref sig .tc := ⟨.hbm, 138, rfl⟩
abbrev main_while0b_v99 : Ref sig .tc := ⟨.hbm, 139, rfl⟩
abbrev main_while0b_c_39 : Ref sig .tc := ⟨.hbm, 140, rfl⟩
abbrev main_while0b_v100 : Ref sig .tc := ⟨.hbm, 141, rfl⟩
abbrev main_while0b_v101 : Ref sig .tc := ⟨.hbm, 142, rfl⟩
abbrev main_while0b_v102 : Ref sig .tc := ⟨.hbm, 143, rfl⟩
abbrev main_while0b_v103 : Ref sig .tc := ⟨.hbm, 144, rfl⟩
abbrev main_while0b_v104 : Ref sig .tc := ⟨.hbm, 145, rfl⟩
abbrev main_while0b_c_40 : Ref sig .tc := ⟨.hbm, 146, rfl⟩
abbrev main_while0b_v105 : Ref sig .tc := ⟨.hbm, 147, rfl⟩
abbrev main_while0b_v106 : Ref sig .tc := ⟨.hbm, 148, rfl⟩
abbrev main_while0b_c_41 : Ref sig .tc := ⟨.hbm, 149, rfl⟩
abbrev main_while0b_v107 : Ref sig .tc := ⟨.hbm, 150, rfl⟩
abbrev main_while0b_v108 : Ref sig .tc := ⟨.hbm, 151, rfl⟩
abbrev main_while0b_v109 : Ref sig .tc := ⟨.hbm, 152, rfl⟩
abbrev main_while0b_v110 : Ref sig .tc := ⟨.hbm, 153, rfl⟩
abbrev main_while0b_v111 : Ref sig .tc := ⟨.hbm, 154, rfl⟩
abbrev main_while0b_c_42 : Ref sig .tc := ⟨.hbm, 155, rfl⟩
abbrev main_while0b_v112 : Ref sig .tc := ⟨.hbm, 156, rfl⟩
abbrev main_while0b_v113 : Ref sig .tc := ⟨.hbm, 157, rfl⟩
abbrev main_while0b_c_43 : Ref sig .tc := ⟨.hbm, 158, rfl⟩
abbrev main_while0b_v114 : Ref sig .tc := ⟨.hbm, 159, rfl⟩
abbrev main_while0b_v115 : Ref sig .tc := ⟨.hbm, 160, rfl⟩
abbrev main_while0b_v116 : Ref sig .tc := ⟨.hbm, 161, rfl⟩
abbrev main_while0b_v117 : Ref sig .tc := ⟨.hbm, 162, rfl⟩
abbrev main_while0b_c_44 : Ref sig .tc := ⟨.hbm, 163, rfl⟩
abbrev main_while0b_v118 : Ref sig .tc := ⟨.hbm, 164, rfl⟩
abbrev main_while0b_v119 : Ref sig .tc := ⟨.hbm, 165, rfl⟩
abbrev main_while0b_c_45 : Ref sig .tc := ⟨.hbm, 166, rfl⟩
abbrev main_while0b_v120 : Ref sig .tc := ⟨.hbm, 167, rfl⟩
abbrev main_while0b_v121 : Ref sig .tc := ⟨.hbm, 168, rfl⟩
abbrev main_while0b_c_46 : Ref sig .tc := ⟨.hbm, 169, rfl⟩
abbrev main_while0b_v122 : Ref sig .tc := ⟨.hbm, 170, rfl⟩
abbrev main_while0b_v123 : Ref sig .tc := ⟨.hbm, 171, rfl⟩
abbrev main_while0b_v124 : Ref sig .tc := ⟨.hbm, 172, rfl⟩
abbrev main_while0b_c_47 : Ref sig .tc := ⟨.hbm, 173, rfl⟩
abbrev main_while0b_v125 : Ref sig .tc := ⟨.hbm, 174, rfl⟩
abbrev main_while0b_v126 : Ref sig .tc := ⟨.hbm, 175, rfl⟩
abbrev main_while0b_c_48 : Ref sig .tc := ⟨.hbm, 176, rfl⟩
abbrev main_while0b_v127 : Ref sig .tc := ⟨.hbm, 177, rfl⟩
abbrev main_while0b_v128 : Ref sig .tc := ⟨.hbm, 178, rfl⟩
abbrev main_while0b_v129 : Ref sig .tc := ⟨.hbm, 179, rfl⟩
abbrev main_while0b_v130 : Ref sig .tc := ⟨.hbm, 180, rfl⟩
abbrev main_while0b_v131 : Ref sig .tc := ⟨.hbm, 181, rfl⟩
abbrev main_while0b_c_49 : Ref sig .tc := ⟨.hbm, 182, rfl⟩
abbrev main_while0b_v132 : Ref sig .tc := ⟨.hbm, 183, rfl⟩
abbrev main_while0b_v133 : Ref sig .tc := ⟨.hbm, 184, rfl⟩
abbrev main_while0b_c_50 : Ref sig .tc := ⟨.hbm, 185, rfl⟩
abbrev main_while0b_v134 : Ref sig .tc := ⟨.hbm, 186, rfl⟩
abbrev main_while0b_v135 : Ref sig .tc := ⟨.hbm, 187, rfl⟩
abbrev main_while0b_v136 : Ref sig .tc := ⟨.hbm, 188, rfl⟩
abbrev main_while0b_v137 : Ref sig .tc := ⟨.hbm, 189, rfl⟩
abbrev main_while0b_v138 : Ref sig .tc := ⟨.hbm, 190, rfl⟩
abbrev main_while0b_c_51 : Ref sig .tc := ⟨.hbm, 191, rfl⟩
abbrev main_while0b_v139 : Ref sig .tc := ⟨.hbm, 192, rfl⟩
abbrev main_while0b_v140 : Ref sig .tc := ⟨.hbm, 193, rfl⟩
abbrev main_while0b_c_52 : Ref sig .tc := ⟨.hbm, 194, rfl⟩
abbrev main_while0b_v141 : Ref sig .tc := ⟨.hbm, 195, rfl⟩
abbrev main_while0b_v142 : Ref sig .tc := ⟨.hbm, 196, rfl⟩
abbrev main_while0b_v143 : Ref sig .tc := ⟨.hbm, 197, rfl⟩
abbrev main_while0b_v144 : Ref sig .tc := ⟨.hbm, 198, rfl⟩
abbrev main_while0b_v145 : Ref sig .tc := ⟨.hbm, 199, rfl⟩
abbrev main_while0b_c_53 : Ref sig .tc := ⟨.hbm, 200, rfl⟩
abbrev main_while0b_v146 : Ref sig .tc := ⟨.hbm, 201, rfl⟩
abbrev main_while0b_v147 : Ref sig .tc := ⟨.hbm, 202, rfl⟩
abbrev main_while0b_c_54 : Ref sig .tc := ⟨.hbm, 203, rfl⟩
abbrev main_while0b_v148 : Ref sig .tc := ⟨.hbm, 204, rfl⟩
abbrev main_while0b_v149 : Ref sig .tc := ⟨.hbm, 205, rfl⟩
abbrev main_while0b_v150 : Ref sig .tc := ⟨.hbm, 206, rfl⟩
abbrev main_while0b_v151 : Ref sig .tc := ⟨.hbm, 207, rfl⟩
abbrev main_while0b_c_55 : Ref sig .tc := ⟨.hbm, 208, rfl⟩
abbrev main_while0b_v152 : Ref sig .tc := ⟨.hbm, 209, rfl⟩
abbrev main_while0b_v153 : Ref sig .tc := ⟨.hbm, 210, rfl⟩
abbrev main_while0b_v154 : Ref sig .tc := ⟨.hbm, 211, rfl⟩
abbrev main_while0b_v155 : Ref sig .tc := ⟨.hbm, 212, rfl⟩
abbrev main_while0b_c_56 : Ref sig .tc := ⟨.hbm, 213, rfl⟩
abbrev main_while0b_v156 : Ref sig .tc := ⟨.hbm, 214, rfl⟩
abbrev main_while0b_v157 : Ref sig .tc := ⟨.hbm, 215, rfl⟩
abbrev main_while0b_v158 : Ref sig .tc := ⟨.hbm, 216, rfl⟩
abbrev main_while0b_c_57 : Ref sig .tc := ⟨.hbm, 217, rfl⟩
abbrev main_while0b_v159 : Ref sig .tc := ⟨.hbm, 218, rfl⟩
abbrev main_while0b_v160 : Ref sig .tc := ⟨.hbm, 219, rfl⟩
abbrev main_while0b_c_58 : Ref sig .tc := ⟨.hbm, 220, rfl⟩
abbrev main_while0b_v161 : Ref sig .tc := ⟨.hbm, 221, rfl⟩
abbrev main_while0b_v162 : Ref sig .tc := ⟨.hbm, 222, rfl⟩
abbrev main_while0b_v163 : Ref sig .tc := ⟨.hbm, 223, rfl⟩
abbrev main_while0b_v164 : Ref sig .tc := ⟨.hbm, 224, rfl⟩
abbrev main_while0b_v165 : Ref sig .tc := ⟨.hbm, 225, rfl⟩
abbrev main_while0b_c_59 : Ref sig .tc := ⟨.hbm, 226, rfl⟩
abbrev main_while0b_v166 : Ref sig .tc := ⟨.hbm, 227, rfl⟩
abbrev main_while0b_v167 : Ref sig .tc := ⟨.hbm, 228, rfl⟩
abbrev main_while0b_c_60 : Ref sig .tc := ⟨.hbm, 229, rfl⟩
abbrev main_while0b_v168 : Ref sig .tc := ⟨.hbm, 230, rfl⟩
abbrev main_while0b_v169 : Ref sig .tc := ⟨.hbm, 231, rfl⟩
abbrev main_while0b_v170 : Ref sig .tc := ⟨.hbm, 232, rfl⟩
abbrev main_while0b_v171 : Ref sig .tc := ⟨.hbm, 233, rfl⟩
abbrev main_while0b_v172 : Ref sig .tc := ⟨.hbm, 234, rfl⟩
abbrev main_while0b_c_61 : Ref sig .tc := ⟨.hbm, 235, rfl⟩
abbrev main_while0b_v173 : Ref sig .tc := ⟨.hbm, 236, rfl⟩
abbrev main_while0b_v174 : Ref sig .tc := ⟨.hbm, 237, rfl⟩
abbrev main_while0b_c_62 : Ref sig .tc := ⟨.hbm, 238, rfl⟩
abbrev main_while0b_v175 : Ref sig .tc := ⟨.hbm, 239, rfl⟩
abbrev main_while0b_v176 : Ref sig .tc := ⟨.hbm, 240, rfl⟩
abbrev main_while0b_v177 : Ref sig .tc := ⟨.hbm, 241, rfl⟩
abbrev main_while0b_v178 : Ref sig .tc := ⟨.hbm, 242, rfl⟩
abbrev main_while0b_v179 : Ref sig .tc := ⟨.hbm, 243, rfl⟩
abbrev main_while0b_c_63 : Ref sig .tc := ⟨.hbm, 244, rfl⟩
abbrev main_while0b_v180 : Ref sig .tc := ⟨.hbm, 245, rfl⟩
abbrev main_while0b_v181 : Ref sig .tc := ⟨.hbm, 246, rfl⟩
abbrev main_while0b_c_64 : Ref sig .tc := ⟨.hbm, 247, rfl⟩
abbrev main_while0b_v182 : Ref sig .tc := ⟨.hbm, 248, rfl⟩
abbrev main_while0b_v183 : Ref sig .tc := ⟨.hbm, 249, rfl⟩
abbrev main_while0b_v184 : Ref sig .tc := ⟨.hbm, 250, rfl⟩
abbrev main_while0b_v185 : Ref sig .tc := ⟨.hbm, 251, rfl⟩
abbrev main_while0b_v186 : Ref sig .tc := ⟨.hbm, 252, rfl⟩
abbrev main_while0b_v187 : Ref sig .tc := ⟨.hbm, 253, rfl⟩
abbrev main_while0b_c_65 : Ref sig .tc := ⟨.hbm, 254, rfl⟩
abbrev main_while0b_v188 : Ref sig .tc := ⟨.hbm, 255, rfl⟩
abbrev main_while0b_v189 : Ref sig .tc := ⟨.hbm, 256, rfl⟩
abbrev main_while0b_c_66 : Ref sig .tc := ⟨.hbm, 257, rfl⟩
abbrev main_while0b_v190 : Ref sig .tc := ⟨.hbm, 258, rfl⟩
abbrev main_while0b_v191 : Ref sig .tc := ⟨.hbm, 259, rfl⟩
abbrev main_while0b_v192 : Ref sig .tc := ⟨.hbm, 260, rfl⟩
abbrev main_while0b_v193 : Ref sig .tc := ⟨.hbm, 261, rfl⟩
abbrev main_while0b_v194 : Ref sig .tc := ⟨.hbm, 262, rfl⟩
abbrev main_while0b_v195 : Ref sig .tc := ⟨.hbm, 263, rfl⟩
abbrev main_while0b_v196 : Ref sig .tc := ⟨.hbm, 264, rfl⟩
abbrev main_while0b_c_67 : Ref sig .tc := ⟨.hbm, 265, rfl⟩
abbrev main_while0b_v197 : Ref sig .tc := ⟨.hbm, 266, rfl⟩
abbrev main_while0b_v198 : Ref sig .tc := ⟨.hbm, 267, rfl⟩
abbrev main_while0b_v199 : Ref sig .tc := ⟨.hbm, 268, rfl⟩
abbrev main_while0b_v200 : Ref sig .tc := ⟨.hbm, 269, rfl⟩
abbrev main_while0b_c_68 : Ref sig .tc := ⟨.hbm, 270, rfl⟩
abbrev main_while0b_v201 : Ref sig .tc := ⟨.hbm, 271, rfl⟩
abbrev main_while0b_v202 : Ref sig .tc := ⟨.hbm, 272, rfl⟩
abbrev main_while0b_v203 : Ref sig .tc := ⟨.hbm, 273, rfl⟩
abbrev main_while0b_v204 : Ref sig .tc := ⟨.hbm, 274, rfl⟩
abbrev main_while0b_c_69 : Ref sig .tc := ⟨.hbm, 275, rfl⟩
abbrev main_while0b_v205 : Ref sig .tc := ⟨.hbm, 276, rfl⟩
abbrev main_while0b_v206 : Ref sig .tc := ⟨.hbm, 277, rfl⟩
abbrev main_while0b_c_70 : Ref sig .tc := ⟨.hbm, 278, rfl⟩
abbrev main_while0b_v207 : Ref sig .tc := ⟨.hbm, 279, rfl⟩
abbrev main_while0b_v208 : Ref sig .tc := ⟨.hbm, 280, rfl⟩
abbrev main_while0b_v209 : Ref sig .tc := ⟨.hbm, 281, rfl⟩
abbrev main_while0b_v210 : Ref sig .tc := ⟨.hbm, 282, rfl⟩
abbrev main_while0b_v211 : Ref sig .tc := ⟨.hbm, 283, rfl⟩
abbrev main_while0b_v212 : Ref sig .tc := ⟨.hbm, 284, rfl⟩
abbrev main_while0b_c_71 : Ref sig .tc := ⟨.hbm, 285, rfl⟩
abbrev main_while0b_v213 : Ref sig .tc := ⟨.hbm, 286, rfl⟩
abbrev main_while0b_v214 : Ref sig .tc := ⟨.hbm, 287, rfl⟩
abbrev main_while0b_c_72 : Ref sig .tc := ⟨.hbm, 288, rfl⟩
abbrev main_while0b_v215 : Ref sig .tc := ⟨.hbm, 289, rfl⟩
abbrev main_while0b_v216 : Ref sig .tc := ⟨.hbm, 290, rfl⟩
abbrev main_while0b_v217 : Ref sig .tc := ⟨.hbm, 291, rfl⟩
abbrev main_while0b_v218 : Ref sig .tc := ⟨.hbm, 292, rfl⟩
abbrev main_while0b_v219 : Ref sig .tc := ⟨.hbm, 293, rfl⟩
abbrev main_while0b_c_73 : Ref sig .tc := ⟨.hbm, 294, rfl⟩
abbrev main_while0b_v220 : Ref sig .tc := ⟨.hbm, 295, rfl⟩
abbrev main_while0b_v221 : Ref sig .tc := ⟨.hbm, 296, rfl⟩
abbrev main_while0b_c_74 : Ref sig .tc := ⟨.hbm, 297, rfl⟩
abbrev main_while0b_v222 : Ref sig .tc := ⟨.hbm, 298, rfl⟩
abbrev main_while0b_v223 : Ref sig .tc := ⟨.hbm, 299, rfl⟩
abbrev main_while0b_v224 : Ref sig .tc := ⟨.hbm, 300, rfl⟩
abbrev main_while0b_v225 : Ref sig .tc := ⟨.hbm, 301, rfl⟩
abbrev main_while0b_v226 : Ref sig .tc := ⟨.hbm, 302, rfl⟩
abbrev main_while0b_c_75 : Ref sig .tc := ⟨.hbm, 303, rfl⟩
abbrev main_while0b_v227 : Ref sig .tc := ⟨.hbm, 304, rfl⟩
abbrev main_while0b_v228 : Ref sig .tc := ⟨.hbm, 305, rfl⟩
abbrev main_while0b_c_76 : Ref sig .tc := ⟨.hbm, 306, rfl⟩
abbrev main_while0b_v229 : Ref sig .tc := ⟨.hbm, 307, rfl⟩
abbrev main_while0b_v230 : Ref sig .tc := ⟨.hbm, 308, rfl⟩
abbrev main_while0b_v231 : Ref sig .tc := ⟨.hbm, 309, rfl⟩
abbrev main_while0b_v232 : Ref sig .tc := ⟨.hbm, 310, rfl⟩
abbrev main_while0b_v233 : Ref sig .tc := ⟨.hbm, 311, rfl⟩
abbrev main_while0b_c_77 : Ref sig .tc := ⟨.hbm, 312, rfl⟩
abbrev main_while0b_v234 : Ref sig .tc := ⟨.hbm, 313, rfl⟩
abbrev main_while0b_v235 : Ref sig .tc := ⟨.hbm, 314, rfl⟩
abbrev main_while0b_c_78 : Ref sig .tc := ⟨.hbm, 315, rfl⟩
abbrev main_while0b_v236 : Ref sig .tc := ⟨.hbm, 316, rfl⟩
abbrev main_while0b_v237 : Ref sig .tc := ⟨.hbm, 317, rfl⟩
abbrev main_while0b_v238 : Ref sig .tc := ⟨.hbm, 318, rfl⟩
abbrev main_while0b_v239 : Ref sig .tc := ⟨.hbm, 319, rfl⟩
abbrev main_while0b_v240 : Ref sig .tc := ⟨.hbm, 320, rfl⟩
abbrev main_while0b_v241 : Ref sig .tc := ⟨.hbm, 321, rfl⟩
abbrev main_while0b_v242 : Ref sig .tc := ⟨.hbm, 322, rfl⟩
abbrev main_while0b_v243 : Ref sig .tc := ⟨.hbm, 323, rfl⟩
abbrev main_while0b_c_79 : Ref sig .tc := ⟨.hbm, 324, rfl⟩
abbrev main_while0b_v244 : Ref sig .tc := ⟨.hbm, 325, rfl⟩
abbrev main_while0b_v245 : Ref sig .tc := ⟨.hbm, 326, rfl⟩
abbrev main_while0b_v246 : Ref sig .tc := ⟨.hbm, 327, rfl⟩
abbrev main_while0b_c_80 : Ref sig .tc := ⟨.hbm, 328, rfl⟩
abbrev main_while0b_v247 : Ref sig .tc := ⟨.hbm, 329, rfl⟩
abbrev main_while0b_v248 : Ref sig .tc := ⟨.hbm, 330, rfl⟩
abbrev main_while0b_c_81 : Ref sig .tc := ⟨.hbm, 331, rfl⟩
abbrev main_while0b_v249 : Ref sig .tc := ⟨.hbm, 332, rfl⟩
abbrev main_while0b_v250 : Ref sig .tc := ⟨.hbm, 333, rfl⟩
abbrev main_while0b_v251 : Ref sig .tc := ⟨.hbm, 334, rfl⟩
abbrev main_while0b_v252 : Ref sig .tc := ⟨.hbm, 335, rfl⟩
abbrev main_while0b_v253 : Ref sig .tc := ⟨.hbm, 336, rfl⟩
abbrev main_while0b_c_82 : Ref sig .tc := ⟨.hbm, 337, rfl⟩
abbrev main_while0b_v254 : Ref sig .tc := ⟨.hbm, 338, rfl⟩
abbrev main_while0b_v255 : Ref sig .tc := ⟨.hbm, 339, rfl⟩
abbrev main_while0b_c_83 : Ref sig .tc := ⟨.hbm, 340, rfl⟩
abbrev main_while0b_v256 : Ref sig .tc := ⟨.hbm, 341, rfl⟩
abbrev main_while0b_v257 : Ref sig .tc := ⟨.hbm, 342, rfl⟩
abbrev main_while0b_v258 : Ref sig .tc := ⟨.hbm, 343, rfl⟩
abbrev main_while0b_v259 : Ref sig .tc := ⟨.hbm, 344, rfl⟩
abbrev main_while0b_v260 : Ref sig .tc := ⟨.hbm, 345, rfl⟩
abbrev main_while0b_c_84 : Ref sig .tc := ⟨.hbm, 346, rfl⟩
abbrev main_while0b_v261 : Ref sig .tc := ⟨.hbm, 347, rfl⟩
abbrev main_while0b_v262 : Ref sig .tc := ⟨.hbm, 348, rfl⟩
abbrev main_while0b_c_85 : Ref sig .tc := ⟨.hbm, 349, rfl⟩
abbrev main_while0b_v263 : Ref sig .tc := ⟨.hbm, 350, rfl⟩
abbrev main_while0b_v264 : Ref sig .tc := ⟨.hbm, 351, rfl⟩
abbrev main_while0b_v265 : Ref sig .tc := ⟨.hbm, 352, rfl⟩
abbrev main_while0b_v266 : Ref sig .tc := ⟨.hbm, 353, rfl⟩
abbrev main_while0b_v267 : Ref sig .tc := ⟨.hbm, 354, rfl⟩
abbrev main_while0b_c_86 : Ref sig .tc := ⟨.hbm, 355, rfl⟩
abbrev main_while0b_v268 : Ref sig .tc := ⟨.hbm, 356, rfl⟩
abbrev main_while0b_v269 : Ref sig .tc := ⟨.hbm, 357, rfl⟩
abbrev main_while0b_c_87 : Ref sig .tc := ⟨.hbm, 358, rfl⟩
abbrev main_while0b_v270 : Ref sig .tc := ⟨.hbm, 359, rfl⟩
abbrev main_while0b_v271 : Ref sig .tc := ⟨.hbm, 360, rfl⟩
abbrev main_while0b_v272 : Ref sig .tc := ⟨.hbm, 361, rfl⟩
abbrev main_while0b_v273 : Ref sig .tc := ⟨.hbm, 362, rfl⟩
abbrev main_while0b_v274 : Ref sig .tc := ⟨.hbm, 363, rfl⟩
abbrev main_while0b_v275 : Ref sig .tc := ⟨.hbm, 364, rfl⟩
abbrev main_while0b_v276 : Ref sig .tc := ⟨.hbm, 365, rfl⟩
abbrev main_while0b_v277 : Ref sig .tc := ⟨.hbm, 366, rfl⟩
abbrev main_while0b_c_88 : Ref sig .tc := ⟨.hbm, 367, rfl⟩
abbrev main_while0b_v278 : Ref sig .tc := ⟨.hbm, 368, rfl⟩
abbrev main_while0b_v279 : Ref sig .tc := ⟨.hbm, 369, rfl⟩
abbrev main_while0b_v280 : Ref sig .tc := ⟨.hbm, 370, rfl⟩
abbrev main_while0b_c_89 : Ref sig .tc := ⟨.hbm, 371, rfl⟩
abbrev main_while0b_v281 : Ref sig .tc := ⟨.hbm, 372, rfl⟩
abbrev main_while0b_v282 : Ref sig .tc := ⟨.hbm, 373, rfl⟩
abbrev main_while0b_c_90 : Ref sig .tc := ⟨.hbm, 374, rfl⟩
abbrev main_while0b_v283 : Ref sig .tc := ⟨.hbm, 375, rfl⟩
abbrev main_while0b_v284 : Ref sig .tc := ⟨.hbm, 376, rfl⟩
abbrev main_while0b_v285 : Ref sig .tc := ⟨.hbm, 377, rfl⟩
abbrev main_while0b_v286 : Ref sig .tc := ⟨.hbm, 378, rfl⟩
abbrev main_while0b_v287 : Ref sig .tc := ⟨.hbm, 379, rfl⟩
abbrev main_while0b_c_91 : Ref sig .tc := ⟨.hbm, 380, rfl⟩
abbrev main_while0b_v288 : Ref sig .tc := ⟨.hbm, 381, rfl⟩
abbrev main_while0b_v289 : Ref sig .tc := ⟨.hbm, 382, rfl⟩
abbrev main_while0b_c_92 : Ref sig .tc := ⟨.hbm, 383, rfl⟩
abbrev main_while0b_v290 : Ref sig .tc := ⟨.hbm, 384, rfl⟩
abbrev main_while0b_v291 : Ref sig .tc := ⟨.hbm, 385, rfl⟩
abbrev main_while0b_v292 : Ref sig .tc := ⟨.hbm, 386, rfl⟩
abbrev main_while0b_v293 : Ref sig .tc := ⟨.hbm, 387, rfl⟩
abbrev main_while0b_v294 : Ref sig .tc := ⟨.hbm, 388, rfl⟩
abbrev main_while0b_c_93 : Ref sig .tc := ⟨.hbm, 389, rfl⟩
abbrev main_while0b_v295 : Ref sig .tc := ⟨.hbm, 390, rfl⟩
abbrev main_while0b_v296 : Ref sig .tc := ⟨.hbm, 391, rfl⟩
abbrev main_while0b_c_94 : Ref sig .tc := ⟨.hbm, 392, rfl⟩
abbrev main_while0b_v297 : Ref sig .tc := ⟨.hbm, 393, rfl⟩
abbrev main_while0b_v298 : Ref sig .tc := ⟨.hbm, 394, rfl⟩
abbrev main_while0b_v299 : Ref sig .tc := ⟨.hbm, 395, rfl⟩
abbrev main_while0b_v300 : Ref sig .tc := ⟨.hbm, 396, rfl⟩
abbrev main_while0b_v301 : Ref sig .tc := ⟨.hbm, 397, rfl⟩
abbrev main_while0b_c_95 : Ref sig .tc := ⟨.hbm, 398, rfl⟩
abbrev main_while0b_v302 : Ref sig .tc := ⟨.hbm, 399, rfl⟩
abbrev main_while0b_v303 : Ref sig .tc := ⟨.hbm, 400, rfl⟩
abbrev main_while0b_c_96 : Ref sig .tc := ⟨.hbm, 401, rfl⟩
abbrev main_while0b_v304 : Ref sig .tc := ⟨.hbm, 402, rfl⟩
abbrev main_while0b_v305 : Ref sig .tc := ⟨.hbm, 403, rfl⟩
abbrev main_while0b_v306 : Ref sig .tc := ⟨.hbm, 404, rfl⟩
abbrev main_while0b_v307 : Ref sig .tc := ⟨.hbm, 405, rfl⟩
abbrev main_while0b_v308 : Ref sig .tc := ⟨.hbm, 406, rfl⟩
abbrev main_while0b_v309 : Ref sig .tc := ⟨.hbm, 407, rfl⟩
abbrev main_while0b_v310 : Ref sig .tc := ⟨.hbm, 408, rfl⟩
abbrev main_while0b_v311 : Ref sig .tc := ⟨.hbm, 409, rfl⟩
abbrev main_while0b_c_97 : Ref sig .tc := ⟨.hbm, 410, rfl⟩
abbrev main_while0b_v312 : Ref sig .tc := ⟨.hbm, 411, rfl⟩
abbrev main_while0b_v313 : Ref sig .tc := ⟨.hbm, 412, rfl⟩
abbrev main_while0b_v314 : Ref sig .tc := ⟨.hbm, 413, rfl⟩
abbrev main_while0b_c_98 : Ref sig .tc := ⟨.hbm, 414, rfl⟩
abbrev main_while0b_v315 : Ref sig .tc := ⟨.hbm, 415, rfl⟩
abbrev main_while0b_v316 : Ref sig .tc := ⟨.hbm, 416, rfl⟩
abbrev main_while0b_c_99 : Ref sig .tc := ⟨.hbm, 417, rfl⟩
abbrev main_while0b_v317 : Ref sig .tc := ⟨.hbm, 418, rfl⟩
abbrev main_while0b_v318 : Ref sig .tc := ⟨.hbm, 419, rfl⟩
abbrev main_while0b_v319 : Ref sig .tc := ⟨.hbm, 420, rfl⟩
abbrev main_while0b_v320 : Ref sig .tc := ⟨.hbm, 421, rfl⟩
abbrev main_while0b_v321 : Ref sig .tc := ⟨.hbm, 422, rfl⟩
abbrev main_while0b_c_100 : Ref sig .tc := ⟨.hbm, 423, rfl⟩
abbrev main_while0b_v322 : Ref sig .tc := ⟨.hbm, 424, rfl⟩
abbrev main_while0b_v323 : Ref sig .tc := ⟨.hbm, 425, rfl⟩
abbrev main_while0b_c_101 : Ref sig .tc := ⟨.hbm, 426, rfl⟩
abbrev main_while0b_v324 : Ref sig .tc := ⟨.hbm, 427, rfl⟩
abbrev main_while0b_v325 : Ref sig .tc := ⟨.hbm, 428, rfl⟩
abbrev main_while0b_v326 : Ref sig .tc := ⟨.hbm, 429, rfl⟩
abbrev main_while0b_v327 : Ref sig .tc := ⟨.hbm, 430, rfl⟩
abbrev main_while0b_v328 : Ref sig .tc := ⟨.hbm, 431, rfl⟩
abbrev main_while0b_c_102 : Ref sig .tc := ⟨.hbm, 432, rfl⟩
abbrev main_while0b_v329 : Ref sig .tc := ⟨.hbm, 433, rfl⟩
abbrev main_while0b_v330 : Ref sig .tc := ⟨.hbm, 434, rfl⟩
abbrev main_while0b_c_103 : Ref sig .tc := ⟨.hbm, 435, rfl⟩
abbrev main_while0b_v331 : Ref sig .tc := ⟨.hbm, 436, rfl⟩
abbrev main_while0b_v332 : Ref sig .tc := ⟨.hbm, 437, rfl⟩
abbrev main_while0b_v333 : Ref sig .tc := ⟨.hbm, 438, rfl⟩
abbrev main_while0b_v334 : Ref sig .tc := ⟨.hbm, 439, rfl⟩
abbrev main_while0b_v335 : Ref sig .tc := ⟨.hbm, 440, rfl⟩
abbrev main_while0b_c_104 : Ref sig .tc := ⟨.hbm, 441, rfl⟩
abbrev main_while0b_v336 : Ref sig .tc := ⟨.hbm, 442, rfl⟩
abbrev main_while0b_v337 : Ref sig .tc := ⟨.hbm, 443, rfl⟩
abbrev main_while0b_c_105 : Ref sig .tc := ⟨.hbm, 444, rfl⟩
abbrev main_while0b_v338 : Ref sig .tc := ⟨.hbm, 445, rfl⟩
abbrev main_while0b_v339 : Ref sig .tc := ⟨.hbm, 446, rfl⟩
abbrev main_while0b_v340 : Ref sig .tc := ⟨.hbm, 447, rfl⟩
abbrev main_while0b_v341 : Ref sig .tc := ⟨.hbm, 448, rfl⟩
abbrev main_while0b_v342 : Ref sig .tc := ⟨.hbm, 449, rfl⟩
abbrev main_while0b_v343 : Ref sig .tc := ⟨.hbm, 450, rfl⟩
abbrev main_while0b_v344 : Ref sig .tc := ⟨.hbm, 451, rfl⟩
abbrev main_while0b_v345 : Ref sig .tc := ⟨.hbm, 452, rfl⟩
abbrev main_while0b_c_106 : Ref sig .tc := ⟨.hbm, 453, rfl⟩
abbrev main_while0b_v346 : Ref sig .tc := ⟨.hbm, 454, rfl⟩
abbrev main_while0b_v347 : Ref sig .tc := ⟨.hbm, 455, rfl⟩
abbrev main_while0b_v348 : Ref sig .tc := ⟨.hbm, 456, rfl⟩
abbrev main_while0b_c_107 : Ref sig .tc := ⟨.hbm, 457, rfl⟩
abbrev main_while0b_v349 : Ref sig .tc := ⟨.hbm, 458, rfl⟩
abbrev main_while0b_v350 : Ref sig .tc := ⟨.hbm, 459, rfl⟩
abbrev main_while0b_c_108 : Ref sig .tc := ⟨.hbm, 460, rfl⟩
abbrev main_while0b_v351 : Ref sig .tc := ⟨.hbm, 461, rfl⟩
abbrev main_while0b_v352 : Ref sig .tc := ⟨.hbm, 462, rfl⟩
abbrev main_while0b_v353 : Ref sig .tc := ⟨.hbm, 463, rfl⟩
abbrev main_while0b_v354 : Ref sig .tc := ⟨.hbm, 464, rfl⟩
abbrev main_while0b_v355 : Ref sig .tc := ⟨.hbm, 465, rfl⟩
abbrev main_while0b_c_109 : Ref sig .tc := ⟨.hbm, 466, rfl⟩
abbrev main_while0b_v356 : Ref sig .tc := ⟨.hbm, 467, rfl⟩
abbrev main_while0b_v357 : Ref sig .tc := ⟨.hbm, 468, rfl⟩
abbrev main_while0b_c_110 : Ref sig .tc := ⟨.hbm, 469, rfl⟩
abbrev main_while0b_v358 : Ref sig .tc := ⟨.hbm, 470, rfl⟩
abbrev main_while0b_v359 : Ref sig .tc := ⟨.hbm, 471, rfl⟩
abbrev main_while0b_v360 : Ref sig .tc := ⟨.hbm, 472, rfl⟩
abbrev main_while0b_v361 : Ref sig .tc := ⟨.hbm, 473, rfl⟩
abbrev main_while0b_v362 : Ref sig .tc := ⟨.hbm, 474, rfl⟩
abbrev main_while0b_c_111 : Ref sig .tc := ⟨.hbm, 475, rfl⟩
abbrev main_while0b_v363 : Ref sig .tc := ⟨.hbm, 476, rfl⟩
abbrev main_while0b_v364 : Ref sig .tc := ⟨.hbm, 477, rfl⟩
abbrev main_while0b_c_112 : Ref sig .tc := ⟨.hbm, 478, rfl⟩
abbrev main_while0b_v365 : Ref sig .tc := ⟨.hbm, 479, rfl⟩
abbrev main_while0b_v366 : Ref sig .tc := ⟨.hbm, 480, rfl⟩
abbrev main_while0b_v367 : Ref sig .tc := ⟨.hbm, 481, rfl⟩
abbrev main_while0b_v368 : Ref sig .tc := ⟨.hbm, 482, rfl⟩
abbrev main_while0b_v369 : Ref sig .tc := ⟨.hbm, 483, rfl⟩
abbrev main_while0b_c_113 : Ref sig .tc := ⟨.hbm, 484, rfl⟩
abbrev main_while0b_v370 : Ref sig .tc := ⟨.hbm, 485, rfl⟩
abbrev main_while0b_v371 : Ref sig .tc := ⟨.hbm, 486, rfl⟩
abbrev main_while0b_c_114 : Ref sig .tc := ⟨.hbm, 487, rfl⟩
abbrev main_while0b_v372 : Ref sig .tc := ⟨.hbm, 488, rfl⟩
abbrev main_while0b_v373 : Ref sig .tc := ⟨.hbm, 489, rfl⟩
abbrev main_while0b_v374 : Ref sig .tc := ⟨.hbm, 490, rfl⟩
abbrev main_while0b_v375 : Ref sig .tc := ⟨.hbm, 491, rfl⟩
abbrev main_while0b_v376 : Ref sig .tc := ⟨.hbm, 492, rfl⟩
abbrev main_while0b_v377 : Ref sig .tc := ⟨.hbm, 493, rfl⟩
abbrev main_while0b_v378 : Ref sig .tc := ⟨.hbm, 494, rfl⟩
abbrev main_while0b_v379 : Ref sig .tc := ⟨.hbm, 495, rfl⟩
abbrev main_while0b_c_115 : Ref sig .tc := ⟨.hbm, 496, rfl⟩
abbrev main_while0b_v380 : Ref sig .tc := ⟨.hbm, 497, rfl⟩
abbrev main_while0b_v381 : Ref sig .tc := ⟨.hbm, 498, rfl⟩
abbrev main_while0b_v382 : Ref sig .tc := ⟨.hbm, 499, rfl⟩
abbrev main_while0b_c_116 : Ref sig .tc := ⟨.hbm, 500, rfl⟩
abbrev main_while0b_v383 : Ref sig .tc := ⟨.hbm, 501, rfl⟩
abbrev main_while0b_v384 : Ref sig .tc := ⟨.hbm, 502, rfl⟩
abbrev main_while0b_c_117 : Ref sig .tc := ⟨.hbm, 503, rfl⟩
abbrev main_while0b_v385 : Ref sig .tc := ⟨.hbm, 504, rfl⟩
abbrev main_while0b_v386 : Ref sig .tc := ⟨.hbm, 505, rfl⟩
abbrev main_while0b_v387 : Ref sig .tc := ⟨.hbm, 506, rfl⟩
abbrev main_while0b_cst_118 : Ref sig .tc := ⟨.hbm, 507, rfl⟩
abbrev main_while0b_v388 : Ref sig .tc := ⟨.hbm, 508, rfl⟩
abbrev main_while0b_v389 : Ref sig .tc := ⟨.hbm, 509, rfl⟩
abbrev main_while0b_cst_119 : Ref sig .tc := ⟨.hbm, 510, rfl⟩
abbrev main_while0b_v390 : Ref sig .tc := ⟨.hbm, 511, rfl⟩
abbrev main_while0b_v391 : Ref sig .tc := ⟨.hbm, 512, rfl⟩
abbrev main_while0b_cst_120 : Ref sig .tc := ⟨.hbm, 513, rfl⟩
abbrev main_while0b_v392 : Ref sig .tc := ⟨.hbm, 514, rfl⟩
abbrev main_while0b_v393 : Ref sig .tc := ⟨.hbm, 515, rfl⟩
abbrev main_while0b_v394 : Ref sig .tc := ⟨.hbm, 516, rfl⟩
abbrev main_while0b_v395 : Ref sig .tc := ⟨.hbm, 517, rfl⟩
abbrev main_while0b_v396 : Ref sig .tc := ⟨.hbm, 518, rfl⟩
abbrev main_while0b_v397 : Ref sig .tc := ⟨.hbm, 519, rfl⟩
abbrev main_while0b_cst_121 : Ref sig .tc := ⟨.hbm, 520, rfl⟩
abbrev main_while0b_v398 : Ref sig .tc := ⟨.hbm, 521, rfl⟩
abbrev main_while0b_v399 : Ref sig .tc := ⟨.hbm, 522, rfl⟩
abbrev main_while0b_cst_122 : Ref sig .tc := ⟨.hbm, 523, rfl⟩
abbrev main_while0b_v400 : Ref sig .tc := ⟨.hbm, 524, rfl⟩
abbrev main_while0b_v401 : Ref sig .tc := ⟨.hbm, 525, rfl⟩
abbrev main_while0b_cst_123 : Ref sig .tc := ⟨.hbm, 526, rfl⟩
abbrev main_while0b_v402 : Ref sig .tc := ⟨.hbm, 527, rfl⟩
abbrev main_while0b_v403 : Ref sig .tc := ⟨.hbm, 528, rfl⟩
abbrev main_while0b_cst_124 : Ref sig .tc := ⟨.hbm, 529, rfl⟩
abbrev main_while0b_v404 : Ref sig .tc := ⟨.hbm, 530, rfl⟩
abbrev main_while0b_v405 : Ref sig .tc := ⟨.hbm, 531, rfl⟩
abbrev main_while0b_v406 : Ref sig .tc := ⟨.hbm, 532, rfl⟩
abbrev main_while0b_cst_125 : Ref sig .tc := ⟨.hbm, 533, rfl⟩
abbrev main_while0b_v407 : Ref sig .tc := ⟨.hbm, 534, rfl⟩
abbrev main_while0b_v408 : Ref sig .tc := ⟨.hbm, 535, rfl⟩
abbrev main_while0b_v409 : Ref sig .tc := ⟨.hbm, 536, rfl⟩
abbrev main_while0b_cst_126 : Ref sig .tc := ⟨.hbm, 537, rfl⟩
abbrev main_while0b_v410 : Ref sig .tc := ⟨.hbm, 538, rfl⟩
abbrev main_while0b_v411 : Ref sig .tc := ⟨.hbm, 539, rfl⟩
abbrev main_while0b_v412 : Ref sig .tc := ⟨.hbm, 540, rfl⟩
abbrev main_while0b_cst_127 : Ref sig .tc := ⟨.hbm, 541, rfl⟩
abbrev main_while0b_v413 : Ref sig .tc := ⟨.hbm, 542, rfl⟩
abbrev main_while0b_v414 : Ref sig .tc := ⟨.hbm, 543, rfl⟩
abbrev main_while0b_v415 : Ref sig .tc := ⟨.hbm, 544, rfl⟩
abbrev main_while0b_cst_128 : Ref sig .tc := ⟨.hbm, 545, rfl⟩
abbrev main_while0b_v416 : Ref sig .tc := ⟨.hbm, 546, rfl⟩
abbrev main_while0b_v417 : Ref sig .tc := ⟨.hbm, 547, rfl⟩
abbrev main_while0b_v418 : Ref sig .tc := ⟨.hbm, 548, rfl⟩
abbrev main_while0b_cst_129 : Ref sig .tc := ⟨.hbm, 549, rfl⟩
abbrev main_while0b_v419 : Ref sig .tc := ⟨.hbm, 550, rfl⟩
abbrev main_while0b_v420 : Ref sig .tc := ⟨.hbm, 551, rfl⟩
abbrev main_while0b_v421 : Ref sig .tc := ⟨.hbm, 552, rfl⟩
abbrev main_while0b_cst_130 : Ref sig .tc := ⟨.hbm, 553, rfl⟩
abbrev main_while0b_v422 : Ref sig .tc := ⟨.hbm, 554, rfl⟩
abbrev main_while0b_v423 : Ref sig .tc := ⟨.hbm, 555, rfl⟩
abbrev main_while0b_v424 : Ref sig .tc := ⟨.hbm, 556, rfl⟩
abbrev main_while0b_cst_131 : Ref sig .tc := ⟨.hbm, 557, rfl⟩
abbrev main_while0b_v425 : Ref sig .tc := ⟨.hbm, 558, rfl⟩
abbrev main_while0b_v426 : Ref sig .tc := ⟨.hbm, 559, rfl⟩
abbrev main_while0b_v427 : Ref sig .tc := ⟨.hbm, 560, rfl⟩
abbrev main_while0b_cst_132 : Ref sig .tc := ⟨.hbm, 561, rfl⟩
abbrev main_while0b_v428 : Ref sig .tc := ⟨.hbm, 562, rfl⟩
abbrev main_while0b_v429 : Ref sig .tc := ⟨.hbm, 563, rfl⟩
abbrev main_while0b_cst_133 : Ref sig .tc := ⟨.hbm, 564, rfl⟩
abbrev main_while0b_v430 : Ref sig .tc := ⟨.hbm, 565, rfl⟩
abbrev main_while0b_v431 : Ref sig .tc := ⟨.hbm, 566, rfl⟩
abbrev main_while0b_cst_134 : Ref sig .tc := ⟨.hbm, 567, rfl⟩
abbrev main_while0b_v432 : Ref sig .tc := ⟨.hbm, 568, rfl⟩
abbrev main_while0b_v433 : Ref sig .tc := ⟨.hbm, 569, rfl⟩
abbrev main_while0b_v434 : Ref sig .tc := ⟨.hbm, 570, rfl⟩
abbrev main_while0b_cst_135 : Ref sig .tc := ⟨.hbm, 571, rfl⟩
abbrev main_while0b_v435 : Ref sig .tc := ⟨.hbm, 572, rfl⟩
abbrev main_while0b_v436 : Ref sig .tc := ⟨.hbm, 573, rfl⟩
abbrev main_while0b_v437 : Ref sig .tc := ⟨.hbm, 574, rfl⟩
abbrev main_while0b_cst_136 : Ref sig .tc := ⟨.hbm, 575, rfl⟩
abbrev main_while0b_v438 : Ref sig .tc := ⟨.hbm, 576, rfl⟩
abbrev main_while0b_v439 : Ref sig .tc := ⟨.hbm, 577, rfl⟩
abbrev main_while0b_v440 : Ref sig .tc := ⟨.hbm, 578, rfl⟩
abbrev main_while0b_cst_137 : Ref sig .tc := ⟨.hbm, 579, rfl⟩
abbrev main_while0b_v441 : Ref sig .tc := ⟨.hbm, 580, rfl⟩
abbrev main_while0b_v442 : Ref sig .tc := ⟨.hbm, 581, rfl⟩
abbrev main_while0b_v443 : Ref sig .tc := ⟨.hbm, 582, rfl⟩
abbrev main_while0b_cst_138 : Ref sig .tc := ⟨.hbm, 583, rfl⟩
abbrev main_while0b_v444 : Ref sig .tc := ⟨.hbm, 584, rfl⟩
abbrev main_while0b_v445 : Ref sig .tc := ⟨.hbm, 585, rfl⟩
abbrev main_while0b_v446 : Ref sig .tc := ⟨.hbm, 586, rfl⟩
abbrev main_while0b_cst_139 : Ref sig .tc := ⟨.hbm, 587, rfl⟩
abbrev main_while0b_v447 : Ref sig .tc := ⟨.hbm, 588, rfl⟩
abbrev main_while0b_v448 : Ref sig .tc := ⟨.hbm, 589, rfl⟩
abbrev main_while0b_v449 : Ref sig .tc := ⟨.hbm, 590, rfl⟩
abbrev main_while0b_cst_140 : Ref sig .tc := ⟨.hbm, 591, rfl⟩
abbrev main_while0b_v450 : Ref sig .tc := ⟨.hbm, 592, rfl⟩
abbrev main_while0b_v451 : Ref sig .tc := ⟨.hbm, 593, rfl⟩
abbrev main_while0b_v452 : Ref sig .tc := ⟨.hbm, 594, rfl⟩
abbrev main_while0b_cst_141 : Ref sig .tc := ⟨.hbm, 595, rfl⟩
abbrev main_while0b_v453 : Ref sig .tc := ⟨.hbm, 596, rfl⟩
abbrev main_while0b_v454 : Ref sig .tc := ⟨.hbm, 597, rfl⟩
abbrev main_while0b_v455 : Ref sig .tc := ⟨.hbm, 598, rfl⟩
abbrev main_while0b_v456 : Ref sig .tc := ⟨.hbm, 599, rfl⟩
abbrev main_while0b_cst_142 : Ref sig .tc := ⟨.hbm, 600, rfl⟩
abbrev main_while0b_v457 : Ref sig .tc := ⟨.hbm, 601, rfl⟩
abbrev main_while0b_v458 : Ref sig .tc := ⟨.hbm, 602, rfl⟩
abbrev main_while0b_cst_143 : Ref sig .tc := ⟨.hbm, 603, rfl⟩
abbrev main_while0b_v459 : Ref sig .tc := ⟨.hbm, 604, rfl⟩
abbrev main_while0b_v460 : Ref sig .tc := ⟨.hbm, 605, rfl⟩
abbrev main_while0b_v461 : Ref sig .tc := ⟨.hbm, 606, rfl⟩
abbrev main_while0b_call1_c : Ref sig .tc := ⟨.hbm, 607, rfl⟩
abbrev main_while0b_call1_v0 : Ref sig .tc := ⟨.hbm, 608, rfl⟩
abbrev main_while0b_call1_v1 : Ref sig .tc := ⟨.hbm, 609, rfl⟩
abbrev main_while0b_call1_c_0 : Ref sig .tc := ⟨.hbm, 610, rfl⟩
abbrev main_while0b_call1_v2 : Ref sig .tc := ⟨.hbm, 611, rfl⟩
abbrev main_while0b_call1_v3 : Ref sig .tc := ⟨.hbm, 612, rfl⟩
abbrev main_while0b_call1_c_1 : Ref sig .tc := ⟨.hbm, 613, rfl⟩
abbrev main_while0b_call1_c_2 : Ref sig .tc := ⟨.hbm, 614, rfl⟩
abbrev main_while0b_call1_v4 : Ref sig .tc := ⟨.hbm, 615, rfl⟩
abbrev main_while0b_v462 : Ref sig .tc := ⟨.hbm, 616, rfl⟩
abbrev main_while0b_v463 : Ref sig .tc := ⟨.hbm, 617, rfl⟩
abbrev main_while0b_v464 : Ref sig .tc := ⟨.hbm, 618, rfl⟩
abbrev main_while0b_v465 : Ref sig .tc := ⟨.hbm, 619, rfl⟩
abbrev main_while0b_v466 : Ref sig .tc := ⟨.hbm, 620, rfl⟩
abbrev main_while0b_cst_144 : Ref sig .tc := ⟨.hbm, 621, rfl⟩
abbrev main_while0b_v467 : Ref sig .tc := ⟨.hbm, 622, rfl⟩
abbrev main_while0b_cst_145 : Ref sig .tc := ⟨.hbm, 623, rfl⟩
abbrev main_while0b_v468 : Ref sig .tc := ⟨.hbm, 624, rfl⟩
abbrev main_while0b_v469 : Ref sig .tc := ⟨.hbm, 625, rfl⟩
abbrev main_while0b_v470 : Ref sig .tc := ⟨.hbm, 626, rfl⟩
abbrev main_while0b_cst_146 : Ref sig .tc := ⟨.hbm, 627, rfl⟩
abbrev main_while0b_v471 : Ref sig .tc := ⟨.hbm, 628, rfl⟩
abbrev main_while0b_v472 : Ref sig .tc := ⟨.hbm, 629, rfl⟩
abbrev main_while0b_v473 : Ref sig .tc := ⟨.hbm, 630, rfl⟩
abbrev main_while0b_cst_147 : Ref sig .tc := ⟨.hbm, 631, rfl⟩
abbrev main_while0b_v474 : Ref sig .tc := ⟨.hbm, 632, rfl⟩
abbrev main_while0b_v475 : Ref sig .tc := ⟨.hbm, 633, rfl⟩
abbrev main_while0b_cst_148 : Ref sig .tc := ⟨.hbm, 634, rfl⟩
abbrev main_while0b_v476 : Ref sig .tc := ⟨.hbm, 635, rfl⟩
abbrev main_while0b_v477 : Ref sig .tc := ⟨.hbm, 636, rfl⟩
abbrev main_while0b_v478 : Ref sig .tc := ⟨.hbm, 637, rfl⟩
abbrev main_while0b_v479 : Ref sig .tc := ⟨.hbm, 638, rfl⟩
abbrev main_while0b_v480 : Ref sig .tc := ⟨.hbm, 639, rfl⟩
abbrev main_while0b_v481 : Ref sig .tc := ⟨.hbm, 640, rfl⟩
abbrev main_while0b_v482 : Ref sig .tc := ⟨.hbm, 641, rfl⟩
abbrev main_while0b_v483 : Ref sig .tc := ⟨.hbm, 642, rfl⟩
abbrev main_while0b_v484 : Ref sig .tc := ⟨.hbm, 643, rfl⟩
abbrev main_while0b_c_149 : Ref sig .tc := ⟨.hbm, 644, rfl⟩
abbrev main_while0b_v485 : Ref sig .tc := ⟨.hbm, 645, rfl⟩
abbrev main_while0b_v486 : Ref sig .tc := ⟨.hbm, 646, rfl⟩
abbrev main_while0b_v487 : Ref sig .tc := ⟨.hbm, 647, rfl⟩
abbrev main_while0b_v488 : Ref sig .tc := ⟨.hbm, 648, rfl⟩
abbrev main_while0b_c_150 : Ref sig .tc := ⟨.hbm, 649, rfl⟩
abbrev main_while0b_v489 : Ref sig .tc := ⟨.hbm, 650, rfl⟩
abbrev main_while0b_v490 : Ref sig .tc := ⟨.hbm, 651, rfl⟩
abbrev main_while0b_v491 : Ref sig .tc := ⟨.hbm, 652, rfl⟩
abbrev main_while0b_v492 : Ref sig .tc := ⟨.hbm, 653, rfl⟩
abbrev main_while0b_c_151 : Ref sig .tc := ⟨.hbm, 654, rfl⟩
abbrev main_while0b_v493 : Ref sig .tc := ⟨.hbm, 655, rfl⟩
abbrev main_while0b_v494 : Ref sig .tc := ⟨.hbm, 656, rfl⟩
abbrev main_while0b_c_152 : Ref sig .tc := ⟨.hbm, 657, rfl⟩
abbrev main_while0b_v495 : Ref sig .tc := ⟨.hbm, 658, rfl⟩
abbrev main_while0b_v496 : Ref sig .tc := ⟨.hbm, 659, rfl⟩
abbrev main_while0b_v497 : Ref sig .tc := ⟨.hbm, 660, rfl⟩
abbrev main_while0b_v498 : Ref sig .tc := ⟨.hbm, 661, rfl⟩
abbrev main_while0b_v499 : Ref sig .tc := ⟨.hbm, 662, rfl⟩
abbrev main_while0b_v500 : Ref sig .tc := ⟨.hbm, 663, rfl⟩
abbrev main_while0b_c_153 : Ref sig .tc := ⟨.hbm, 664, rfl⟩
abbrev main_while0b_v501 : Ref sig .tc := ⟨.hbm, 665, rfl⟩
abbrev main_while0b_v502 : Ref sig .tc := ⟨.hbm, 666, rfl⟩
abbrev main_while0b_c_154 : Ref sig .tc := ⟨.hbm, 667, rfl⟩
abbrev main_while0b_v503 : Ref sig .tc := ⟨.hbm, 668, rfl⟩
abbrev main_while0b_v504 : Ref sig .tc := ⟨.hbm, 669, rfl⟩
abbrev main_while0b_v505 : Ref sig .tc := ⟨.hbm, 670, rfl⟩
abbrev main_while0b_v506 : Ref sig .tc := ⟨.hbm, 671, rfl⟩
abbrev main_while0b_v507 : Ref sig .tc := ⟨.hbm, 672, rfl⟩
abbrev main_while0b_c_155 : Ref sig .tc := ⟨.hbm, 673, rfl⟩
abbrev main_while0b_v508 : Ref sig .tc := ⟨.hbm, 674, rfl⟩
abbrev main_while0b_v509 : Ref sig .tc := ⟨.hbm, 675, rfl⟩
abbrev main_while0b_c_156 : Ref sig .tc := ⟨.hbm, 676, rfl⟩
abbrev main_while0b_v510 : Ref sig .tc := ⟨.hbm, 677, rfl⟩
abbrev main_while0b_v511 : Ref sig .tc := ⟨.hbm, 678, rfl⟩
abbrev main_while0b_v512 : Ref sig .tc := ⟨.hbm, 679, rfl⟩
abbrev main_while0b_v513 : Ref sig .tc := ⟨.hbm, 680, rfl⟩
abbrev main_while0b_v514 : Ref sig .tc := ⟨.hbm, 681, rfl⟩
abbrev main_while0b_c_157 : Ref sig .tc := ⟨.hbm, 682, rfl⟩
abbrev main_while0b_v515 : Ref sig .tc := ⟨.hbm, 683, rfl⟩
abbrev main_while0b_v516 : Ref sig .tc := ⟨.hbm, 684, rfl⟩
abbrev main_while0b_c_158 : Ref sig .tc := ⟨.hbm, 685, rfl⟩
abbrev main_while0b_v517 : Ref sig .tc := ⟨.hbm, 686, rfl⟩
abbrev main_while0b_v518 : Ref sig .tc := ⟨.hbm, 687, rfl⟩
abbrev main_while0b_v519 : Ref sig .tc := ⟨.hbm, 688, rfl⟩
abbrev main_while0b_v520 : Ref sig .tc := ⟨.hbm, 689, rfl⟩
abbrev main_while0b_v521 : Ref sig .tc := ⟨.hbm, 690, rfl⟩
abbrev main_while0b_c_159 : Ref sig .tc := ⟨.hbm, 691, rfl⟩
abbrev main_while0b_v522 : Ref sig .tc := ⟨.hbm, 692, rfl⟩
abbrev main_while0b_v523 : Ref sig .tc := ⟨.hbm, 693, rfl⟩
abbrev main_while0b_c_160 : Ref sig .tc := ⟨.hbm, 694, rfl⟩
abbrev main_while0b_v524 : Ref sig .tc := ⟨.hbm, 695, rfl⟩
abbrev main_while0b_v525 : Ref sig .tc := ⟨.hbm, 696, rfl⟩
abbrev main_while0b_v526 : Ref sig .tc := ⟨.hbm, 697, rfl⟩
abbrev main_while0b_v527 : Ref sig .tc := ⟨.hbm, 698, rfl⟩
abbrev main_while0b_v528 : Ref sig .tc := ⟨.hbm, 699, rfl⟩
abbrev main_while0b_v529 : Ref sig .tc := ⟨.hbm, 700, rfl⟩
abbrev main_while0b_v530 : Ref sig .tc := ⟨.hbm, 701, rfl⟩
abbrev main_while0b_v531 : Ref sig .tc := ⟨.hbm, 702, rfl⟩
abbrev main_while0b_c_161 : Ref sig .tc := ⟨.hbm, 703, rfl⟩
abbrev main_while0b_v532 : Ref sig .tc := ⟨.hbm, 704, rfl⟩
abbrev main_while0b_v533 : Ref sig .tc := ⟨.hbm, 705, rfl⟩
abbrev main_while0b_v534 : Ref sig .tc := ⟨.hbm, 706, rfl⟩
abbrev main_while0b_c_162 : Ref sig .tc := ⟨.hbm, 707, rfl⟩
abbrev main_while0b_v535 : Ref sig .tc := ⟨.hbm, 708, rfl⟩
abbrev main_while0b_v536 : Ref sig .tc := ⟨.hbm, 709, rfl⟩
abbrev main_while0b_c_163 : Ref sig .tc := ⟨.hbm, 710, rfl⟩
abbrev main_while0b_v537 : Ref sig .tc := ⟨.hbm, 711, rfl⟩
abbrev main_while0b_v538 : Ref sig .tc := ⟨.hbm, 712, rfl⟩
abbrev main_while0b_v539 : Ref sig .tc := ⟨.hbm, 713, rfl⟩
abbrev main_while0b_v540 : Ref sig .tc := ⟨.hbm, 714, rfl⟩
abbrev main_while0b_v541 : Ref sig .tc := ⟨.hbm, 715, rfl⟩
abbrev main_while0b_c_164 : Ref sig .tc := ⟨.hbm, 716, rfl⟩
abbrev main_while0b_v542 : Ref sig .tc := ⟨.hbm, 717, rfl⟩
abbrev main_while0b_v543 : Ref sig .tc := ⟨.hbm, 718, rfl⟩
abbrev main_while0b_c_165 : Ref sig .tc := ⟨.hbm, 719, rfl⟩
abbrev main_while0b_v544 : Ref sig .tc := ⟨.hbm, 720, rfl⟩
abbrev main_while0b_v545 : Ref sig .tc := ⟨.hbm, 721, rfl⟩
abbrev main_while0b_v546 : Ref sig .tc := ⟨.hbm, 722, rfl⟩
abbrev main_while0b_v547 : Ref sig .tc := ⟨.hbm, 723, rfl⟩
abbrev main_while0b_v548 : Ref sig .tc := ⟨.hbm, 724, rfl⟩
abbrev main_while0b_c_166 : Ref sig .tc := ⟨.hbm, 725, rfl⟩
abbrev main_while0b_v549 : Ref sig .tc := ⟨.hbm, 726, rfl⟩
abbrev main_while0b_v550 : Ref sig .tc := ⟨.hbm, 727, rfl⟩
abbrev main_while0b_c_167 : Ref sig .tc := ⟨.hbm, 728, rfl⟩
abbrev main_while0b_v551 : Ref sig .tc := ⟨.hbm, 729, rfl⟩
abbrev main_while0b_v552 : Ref sig .tc := ⟨.hbm, 730, rfl⟩
abbrev main_while0b_v553 : Ref sig .tc := ⟨.hbm, 731, rfl⟩
abbrev main_while0b_v554 : Ref sig .tc := ⟨.hbm, 732, rfl⟩
abbrev main_while0b_v555 : Ref sig .tc := ⟨.hbm, 733, rfl⟩
abbrev main_while0b_c_168 : Ref sig .tc := ⟨.hbm, 734, rfl⟩
abbrev main_while0b_v556 : Ref sig .tc := ⟨.hbm, 735, rfl⟩
abbrev main_while0b_v557 : Ref sig .tc := ⟨.hbm, 736, rfl⟩
abbrev main_while0b_c_169 : Ref sig .tc := ⟨.hbm, 737, rfl⟩
abbrev main_while0b_v558 : Ref sig .tc := ⟨.hbm, 738, rfl⟩
abbrev main_while0b_v559 : Ref sig .tc := ⟨.hbm, 739, rfl⟩
abbrev main_while0b_v560 : Ref sig .tc := ⟨.hbm, 740, rfl⟩
abbrev main_while0b_v561 : Ref sig .tc := ⟨.hbm, 741, rfl⟩
abbrev main_while0b_v562 : Ref sig .tc := ⟨.hbm, 742, rfl⟩
abbrev main_while0b_v563 : Ref sig .tc := ⟨.hbm, 743, rfl⟩
abbrev main_while0b_v564 : Ref sig .tc := ⟨.hbm, 744, rfl⟩
abbrev main_while0b_v565 : Ref sig .tc := ⟨.hbm, 745, rfl⟩
abbrev main_while0b_c_170 : Ref sig .tc := ⟨.hbm, 746, rfl⟩
abbrev main_while0b_v566 : Ref sig .tc := ⟨.hbm, 747, rfl⟩
abbrev main_while0b_v567 : Ref sig .tc := ⟨.hbm, 748, rfl⟩
abbrev main_while0b_v568 : Ref sig .tc := ⟨.hbm, 749, rfl⟩
abbrev main_while0b_c_171 : Ref sig .tc := ⟨.hbm, 750, rfl⟩
abbrev main_while0b_v569 : Ref sig .tc := ⟨.hbm, 751, rfl⟩
abbrev main_while0b_v570 : Ref sig .tc := ⟨.hbm, 752, rfl⟩
abbrev main_while0b_c_172 : Ref sig .tc := ⟨.hbm, 753, rfl⟩
abbrev main_while0b_v571 : Ref sig .tc := ⟨.hbm, 754, rfl⟩
abbrev main_while0b_v572 : Ref sig .tc := ⟨.hbm, 755, rfl⟩
abbrev main_while0b_v573 : Ref sig .tc := ⟨.hbm, 756, rfl⟩
abbrev main_while0b_v574 : Ref sig .tc := ⟨.hbm, 757, rfl⟩
abbrev main_while0b_v575 : Ref sig .tc := ⟨.hbm, 758, rfl⟩
abbrev main_while0b_c_173 : Ref sig .tc := ⟨.hbm, 759, rfl⟩
abbrev main_while0b_v576 : Ref sig .tc := ⟨.hbm, 760, rfl⟩
abbrev main_while0b_v577 : Ref sig .tc := ⟨.hbm, 761, rfl⟩
abbrev main_while0b_c_174 : Ref sig .tc := ⟨.hbm, 762, rfl⟩
abbrev main_while0b_v578 : Ref sig .tc := ⟨.hbm, 763, rfl⟩
abbrev main_while0b_v579 : Ref sig .tc := ⟨.hbm, 764, rfl⟩
abbrev main_while0b_v580 : Ref sig .tc := ⟨.hbm, 765, rfl⟩
abbrev main_while0b_v581 : Ref sig .tc := ⟨.hbm, 766, rfl⟩
abbrev main_while0b_v582 : Ref sig .tc := ⟨.hbm, 767, rfl⟩
abbrev main_while0b_c_175 : Ref sig .tc := ⟨.hbm, 768, rfl⟩
abbrev main_while0b_v583 : Ref sig .tc := ⟨.hbm, 769, rfl⟩
abbrev main_while0b_v584 : Ref sig .tc := ⟨.hbm, 770, rfl⟩
abbrev main_while0b_c_176 : Ref sig .tc := ⟨.hbm, 771, rfl⟩
abbrev main_while0b_v585 : Ref sig .tc := ⟨.hbm, 772, rfl⟩
abbrev main_while0b_v586 : Ref sig .tc := ⟨.hbm, 773, rfl⟩
abbrev main_while0b_v587 : Ref sig .tc := ⟨.hbm, 774, rfl⟩
abbrev main_while0b_v588 : Ref sig .tc := ⟨.hbm, 775, rfl⟩
abbrev main_while0b_v589 : Ref sig .tc := ⟨.hbm, 776, rfl⟩
abbrev main_while0b_c_177 : Ref sig .tc := ⟨.hbm, 777, rfl⟩
abbrev main_while0b_v590 : Ref sig .tc := ⟨.hbm, 778, rfl⟩
abbrev main_while0b_v591 : Ref sig .tc := ⟨.hbm, 779, rfl⟩
abbrev main_while0b_c_178 : Ref sig .tc := ⟨.hbm, 780, rfl⟩
abbrev main_while0b_v592 : Ref sig .tc := ⟨.hbm, 781, rfl⟩
abbrev main_while0b_v593 : Ref sig .tc := ⟨.hbm, 782, rfl⟩
abbrev main_while0b_v594 : Ref sig .tc := ⟨.hbm, 783, rfl⟩
abbrev main_while0b_v595 : Ref sig .tc := ⟨.hbm, 784, rfl⟩
abbrev main_while0b_v596 : Ref sig .tc := ⟨.hbm, 785, rfl⟩
abbrev main_while0b_v597 : Ref sig .tc := ⟨.hbm, 786, rfl⟩
abbrev main_while0b_v598 : Ref sig .tc := ⟨.hbm, 787, rfl⟩
abbrev main_while0b_v599 : Ref sig .tc := ⟨.hbm, 788, rfl⟩
abbrev main_while0b_c_179 : Ref sig .tc := ⟨.hbm, 789, rfl⟩
abbrev main_while0b_v600 : Ref sig .tc := ⟨.hbm, 790, rfl⟩
abbrev main_while0b_v601 : Ref sig .tc := ⟨.hbm, 791, rfl⟩
abbrev main_while0b_v602 : Ref sig .tc := ⟨.hbm, 792, rfl⟩
abbrev main_while0b_c_180 : Ref sig .tc := ⟨.hbm, 793, rfl⟩
abbrev main_while0b_v603 : Ref sig .tc := ⟨.hbm, 794, rfl⟩
abbrev main_while0b_v604 : Ref sig .tc := ⟨.hbm, 795, rfl⟩
abbrev main_while0b_c_181 : Ref sig .tc := ⟨.hbm, 796, rfl⟩
abbrev main_while0b_v605 : Ref sig .tc := ⟨.hbm, 797, rfl⟩
abbrev main_while0b_v606 : Ref sig .tc := ⟨.hbm, 798, rfl⟩
abbrev main_while0b_v607 : Ref sig .tc := ⟨.hbm, 799, rfl⟩
abbrev main_while0b_v608 : Ref sig .tc := ⟨.hbm, 800, rfl⟩
abbrev main_while0b_v609 : Ref sig .tc := ⟨.hbm, 801, rfl⟩
abbrev main_while0b_c_182 : Ref sig .tc := ⟨.hbm, 802, rfl⟩
abbrev main_while0b_v610 : Ref sig .tc := ⟨.hbm, 803, rfl⟩
abbrev main_while0b_v611 : Ref sig .tc := ⟨.hbm, 804, rfl⟩
abbrev main_while0b_c_183 : Ref sig .tc := ⟨.hbm, 805, rfl⟩
abbrev main_while0b_v612 : Ref sig .tc := ⟨.hbm, 806, rfl⟩
abbrev main_while0b_v613 : Ref sig .tc := ⟨.hbm, 807, rfl⟩
abbrev main_while0b_v614 : Ref sig .tc := ⟨.hbm, 808, rfl⟩
abbrev main_while0b_v615 : Ref sig .tc := ⟨.hbm, 809, rfl⟩
abbrev main_while0b_v616 : Ref sig .tc := ⟨.hbm, 810, rfl⟩
abbrev main_while0b_c_184 : Ref sig .tc := ⟨.hbm, 811, rfl⟩
abbrev main_while0b_v617 : Ref sig .tc := ⟨.hbm, 812, rfl⟩
abbrev main_while0b_v618 : Ref sig .tc := ⟨.hbm, 813, rfl⟩
abbrev main_while0b_c_185 : Ref sig .tc := ⟨.hbm, 814, rfl⟩
abbrev main_while0b_v619 : Ref sig .tc := ⟨.hbm, 815, rfl⟩
abbrev main_while0b_v620 : Ref sig .tc := ⟨.hbm, 816, rfl⟩
abbrev main_while0b_v621 : Ref sig .tc := ⟨.hbm, 817, rfl⟩
abbrev main_while0b_v622 : Ref sig .tc := ⟨.hbm, 818, rfl⟩
abbrev main_while0b_v623 : Ref sig .tc := ⟨.hbm, 819, rfl⟩
abbrev main_while0b_c_186 : Ref sig .tc := ⟨.hbm, 820, rfl⟩
abbrev main_while0b_v624 : Ref sig .tc := ⟨.hbm, 821, rfl⟩
abbrev main_while0b_v625 : Ref sig .tc := ⟨.hbm, 822, rfl⟩
abbrev main_while0b_c_187 : Ref sig .tc := ⟨.hbm, 823, rfl⟩
abbrev main_while0b_v626 : Ref sig .tc := ⟨.hbm, 824, rfl⟩
abbrev main_while0b_v627 : Ref sig .tc := ⟨.hbm, 825, rfl⟩
abbrev main_while0b_v628 : Ref sig .tc := ⟨.hbm, 826, rfl⟩
abbrev main_while0b_v629 : Ref sig .tc := ⟨.hbm, 827, rfl⟩
abbrev main_while0b_v630 : Ref sig .tc := ⟨.hbm, 828, rfl⟩
abbrev main_while0b_v631 : Ref sig .tc := ⟨.hbm, 829, rfl⟩
abbrev main_while0b_v632 : Ref sig .tc := ⟨.hbm, 830, rfl⟩
abbrev main_while0b_v633 : Ref sig .tc := ⟨.hbm, 831, rfl⟩
abbrev main_while0b_c_188 : Ref sig .tc := ⟨.hbm, 832, rfl⟩
abbrev main_while0b_v634 : Ref sig .tc := ⟨.hbm, 833, rfl⟩
abbrev main_while0b_v635 : Ref sig .tc := ⟨.hbm, 834, rfl⟩
abbrev main_while0b_v636 : Ref sig .tc := ⟨.hbm, 835, rfl⟩
abbrev main_while0b_c_189 : Ref sig .tc := ⟨.hbm, 836, rfl⟩
abbrev main_while0b_v637 : Ref sig .tc := ⟨.hbm, 837, rfl⟩
abbrev main_while0b_v638 : Ref sig .tc := ⟨.hbm, 838, rfl⟩
abbrev main_while0b_c_190 : Ref sig .tc := ⟨.hbm, 839, rfl⟩
abbrev main_while0b_v639 : Ref sig .tc := ⟨.hbm, 840, rfl⟩
abbrev main_while0b_v640 : Ref sig .tc := ⟨.hbm, 841, rfl⟩
abbrev main_while0b_v641 : Ref sig .tc := ⟨.hbm, 842, rfl⟩
abbrev main_while0b_v642 : Ref sig .tc := ⟨.hbm, 843, rfl⟩
abbrev main_while0b_v643 : Ref sig .tc := ⟨.hbm, 844, rfl⟩
abbrev main_while0b_c_191 : Ref sig .tc := ⟨.hbm, 845, rfl⟩
abbrev main_while0b_v644 : Ref sig .tc := ⟨.hbm, 846, rfl⟩
abbrev main_while0b_v645 : Ref sig .tc := ⟨.hbm, 847, rfl⟩
abbrev main_while0b_c_192 : Ref sig .tc := ⟨.hbm, 848, rfl⟩
abbrev main_while0b_v646 : Ref sig .tc := ⟨.hbm, 849, rfl⟩
abbrev main_while0b_v647 : Ref sig .tc := ⟨.hbm, 850, rfl⟩
abbrev main_while0b_v648 : Ref sig .tc := ⟨.hbm, 851, rfl⟩
abbrev main_while0b_v649 : Ref sig .tc := ⟨.hbm, 852, rfl⟩
abbrev main_while0b_v650 : Ref sig .tc := ⟨.hbm, 853, rfl⟩
abbrev main_while0b_c_193 : Ref sig .tc := ⟨.hbm, 854, rfl⟩
abbrev main_while0b_v651 : Ref sig .tc := ⟨.hbm, 855, rfl⟩
abbrev main_while0b_v652 : Ref sig .tc := ⟨.hbm, 856, rfl⟩
abbrev main_while0b_c_194 : Ref sig .tc := ⟨.hbm, 857, rfl⟩
abbrev main_while0b_v653 : Ref sig .tc := ⟨.hbm, 858, rfl⟩
abbrev main_while0b_v654 : Ref sig .tc := ⟨.hbm, 859, rfl⟩
abbrev main_while0b_v655 : Ref sig .tc := ⟨.hbm, 860, rfl⟩
abbrev main_while0b_v656 : Ref sig .tc := ⟨.hbm, 861, rfl⟩
abbrev main_while0b_v657 : Ref sig .tc := ⟨.hbm, 862, rfl⟩
abbrev main_while0b_c_195 : Ref sig .tc := ⟨.hbm, 863, rfl⟩
abbrev main_while0b_v658 : Ref sig .tc := ⟨.hbm, 864, rfl⟩
abbrev main_while0b_v659 : Ref sig .tc := ⟨.hbm, 865, rfl⟩
abbrev main_while0b_c_196 : Ref sig .tc := ⟨.hbm, 866, rfl⟩
abbrev main_while0b_v660 : Ref sig .tc := ⟨.hbm, 867, rfl⟩
abbrev main_while0b_v661 : Ref sig .tc := ⟨.hbm, 868, rfl⟩
abbrev main_while0b_v662 : Ref sig .tc := ⟨.hbm, 869, rfl⟩
abbrev main_while0b_v663 : Ref sig .tc := ⟨.hbm, 870, rfl⟩
abbrev main_while0b_v664 : Ref sig .tc := ⟨.hbm, 871, rfl⟩
abbrev main_while0b_v665 : Ref sig .tc := ⟨.hbm, 872, rfl⟩
abbrev main_while0b_v666 : Ref sig .tc := ⟨.hbm, 873, rfl⟩
abbrev main_while0b_v667 : Ref sig .tc := ⟨.hbm, 874, rfl⟩
abbrev main_while0b_c_197 : Ref sig .tc := ⟨.hbm, 875, rfl⟩
abbrev main_while0b_v668 : Ref sig .tc := ⟨.hbm, 876, rfl⟩
abbrev main_while0b_v669 : Ref sig .tc := ⟨.hbm, 877, rfl⟩
abbrev main_while0b_v670 : Ref sig .tc := ⟨.hbm, 878, rfl⟩
abbrev main_while0b_c_198 : Ref sig .tc := ⟨.hbm, 879, rfl⟩
abbrev main_while0b_v671 : Ref sig .tc := ⟨.hbm, 880, rfl⟩
abbrev main_while0b_v672 : Ref sig .tc := ⟨.hbm, 881, rfl⟩
abbrev main_while0b_c_199 : Ref sig .tc := ⟨.hbm, 882, rfl⟩
abbrev main_while0b_v673 : Ref sig .tc := ⟨.hbm, 883, rfl⟩
abbrev main_while0b_v674 : Ref sig .tc := ⟨.hbm, 884, rfl⟩
abbrev main_while0b_v675 : Ref sig .tc := ⟨.hbm, 885, rfl⟩
abbrev main_while0b_cst_200 : Ref sig .tc := ⟨.hbm, 886, rfl⟩
abbrev main_while0b_v676 : Ref sig .tc := ⟨.hbm, 887, rfl⟩
abbrev main_while0b_v677 : Ref sig .tc := ⟨.hbm, 888, rfl⟩
abbrev main_while0b_v678 : Ref sig .tc := ⟨.hbm, 889, rfl⟩
abbrev main_while0b_v679 : Ref sig .tc := ⟨.hbm, 890, rfl⟩
abbrev main_while0b_v680 : Ref sig .tc := ⟨.hbm, 891, rfl⟩
abbrev main_while0b_v681 : Ref sig .tc := ⟨.hbm, 892, rfl⟩
abbrev main_while0b_v682 : Ref sig .tc := ⟨.hbm, 893, rfl⟩
abbrev main_while0b_v683 : Ref sig .tc := ⟨.hbm, 894, rfl⟩
abbrev main_while0b_v684 : Ref sig .tc := ⟨.hbm, 895, rfl⟩
abbrev main_while0b_v685 : Ref sig .tc := ⟨.hbm, 896, rfl⟩
abbrev main_while0b_cst_201 : Ref sig .tc := ⟨.hbm, 897, rfl⟩
abbrev main_while0b_v686 : Ref sig .tc := ⟨.hbm, 898, rfl⟩
abbrev main_while0b_v687 : Ref sig .tc := ⟨.hbm, 899, rfl⟩
abbrev main_while0b_v688 : Ref sig .tc := ⟨.hbm, 900, rfl⟩
abbrev main_while0b_v689 : Ref sig .tc := ⟨.hbm, 901, rfl⟩
abbrev main_while0b_v690 : Ref sig .tc := ⟨.hbm, 902, rfl⟩
abbrev main_while0b_c_202 : Ref sig .tc := ⟨.hbm, 903, rfl⟩
abbrev main_while0b_call2_v0 : Ref sig .tc := ⟨.hbm, 904, rfl⟩
abbrev main_while0b_call2_v1 : Ref sig .tc := ⟨.hbm, 905, rfl⟩
abbrev main_while0b_v691 : Ref sig .tc := ⟨.hbm, 906, rfl⟩
abbrev main_while0b_c_203 : Ref sig .tc := ⟨.hbm, 907, rfl⟩
abbrev main_while0b_v692 : Ref sig .tc := ⟨.hbm, 908, rfl⟩
abbrev main_while0b_v693 : Ref sig .tc := ⟨.hbm, 909, rfl⟩
abbrev main_while0b_call3_c : Ref sig .tc := ⟨.hbm, 910, rfl⟩
abbrev main_while0b_call3_v0 : Ref sig .tc := ⟨.hbm, 911, rfl⟩
abbrev main_while0b_call3_v1 : Ref sig .tc := ⟨.hbm, 912, rfl⟩
abbrev main_while0b_call3_c_0 : Ref sig .tc := ⟨.hbm, 913, rfl⟩
abbrev main_while0b_call3_v2 : Ref sig .tc := ⟨.hbm, 914, rfl⟩
abbrev main_while0b_call3_v3 : Ref sig .tc := ⟨.hbm, 915, rfl⟩
abbrev main_while0b_call3_v4 : Ref sig .tc := ⟨.hbm, 916, rfl⟩
abbrev main_while0b_v694 : Ref sig .tc := ⟨.hbm, 917, rfl⟩
abbrev main_while0b_c_204 : Ref sig .tc := ⟨.hbm, 918, rfl⟩
abbrev main_while0b_v695 : Ref sig .tc := ⟨.hbm, 919, rfl⟩
abbrev main_cst_2 : Ref sig .tc := ⟨.hbm, 920, rfl⟩
abbrev main_v6 : Ref sig .tc := ⟨.hbm, 921, rfl⟩
abbrev main_cst_3 : Ref sig .tc := ⟨.hbm, 922, rfl⟩
abbrev main_v7 : Ref sig .tc := ⟨.hbm, 923, rfl⟩
abbrev main_v8 : Ref sig .tc := ⟨.hbm, 924, rfl⟩

abbrev nD : Nat := 1
abbrev τ : Topo := Topo.v7x

variable {F : FTy → Type} [FloatOps F]

abbrev main_while0_count : Scf.Loop 32 := ⟨0#32, 20#32, 1#32⟩
-- ==== Proof.Ops.lean ====
/- What the kernel computes on one grid point, as functions of vectors: the counter hash, the uniform it
   gives, the normal deviate, the weights, the choice of a tile's ancestors, the gather and the mean. -/
module

public import proofs.«01_k».proof.Proof.Gen.KernelIdeal.Skeleton

@[expose] public section

noncomputable section

namespace Cert.KernelIdeal.Own

open Cert.KernelIdeal Cert.KernelIdeal.Gen
open Idealize.ShloMosaic Idealize.ShloMosaic.TcCoe

variable {F : FTy → Type} [FloatOps F]

section Hash

variable {s : Shape}

/-- Every lane rotated left by `r` (and right by `q = 32 - r`). -/
def rotV (s : Shape) (r q : BitVec 32) (x : IVec s 32) : IVec s 32 :=
  ori (shli x (broadcast s r)) (shrui x (broadcast s q))

/-- One round of the hash, handing its two words on to `f`. -/
def mixV {α : Type} (s : Shape) (r q : BitVec 32) (x0 x1 : IVec s 32)
    (f : IVec s 32 → IVec s 32 → α) : α :=
  f (addi x0 x1) (xori (rotV s r q x1) (addi x0 x1))

/-- A key injection: the two scalars are added to the two words, lane by lane. -/
def keyV {α : Type} (s : Shape) (a b : BitVec 32) (x0 x1 : IVec s 32)
    (f : IVec s 32 → IVec s 32 → α) : α :=
  f (addi x0 (broadcast s a)) (addi x1 (broadcast s b))

/-- The first and third group of four rounds. -/
def rndA {α : Type} (s : Shape) (x0 x1 : IVec s 32) (f : IVec s 32 → IVec s 32 → α) : α :=
  mixV s 13#32 19#32 x0 x1 fun x0 x1 => mixV s 15#32 17#32 x0 x1 fun x0 x1 =>
  mixV s 26#32 6#32 x0 x1 fun x0 x1 => mixV s 6#32 26#32 x0 x1 f

/-- The second and fourth group of four rounds. -/
def rndB {α : Type} (s : Shape) (x0 x1 : IVec s 32) (f : IVec s 32 → IVec s 32 → α) : α :=
  mixV s 17#32 15#32 x0 x1 fun x0 x1 => mixV s 29#32 3#32 x0 x1 fun x0 x1 =>
  mixV s 16#32 16#32 x0 x1 fun x0 x1 => mixV s 24#32 8#32 x0 x1 f

/-- The third word of the key. -/
def key2 (k0 k1 : BitVec 32) : BitVec 32 := Scalar.xori (Scalar.xori k0 k1) 466688986#32

/-- The threefry hash of the counters `(0, cnt)` under the key `(k0, k1)`, its two words xored. -/
def hashV (s : Shape) (k0 k1 : BitVec 32) (cnt : IVec s 32) : IVec s 32 :=
  let x1 := addi cnt (broadcast s k1)
  let x0 := addi x1 (broadcast s k0)
  let y1 := xori (rotV s 13#32 19#32 x1) x0
  mixV s 15#32 17#32 x0 y1 fun x0 x1 => mixV s 26#32 6#32 x0 x1 fun x0 x1 =>
  mixV s 6#32 26#32 x0 x1 fun x0 x1 =>
  keyV s k1 (Scalar.addi (key2 k0 k1) 1#32) x0 x1 fun x0 x1 => rndB s x0 x1 fun x0 x1 =>
  keyV s (key2 k0 k1) (Scalar.addi k0 2#32) x0 x1 fun x0 x1 => rndA s x0 x1 fun x0 x1 =>
  keyV s k0 (Scalar.addi k1 3#32) x0 x1 fun x0 x1 => rndB s x0 x1 fun x0 x1 =>
  keyV s k1 (Scalar.addi (key2 k0 k1) 4#32) x0 x1 fun x0 x1 => rndA s x0 x1 fun x0 x1 =>
  keyV s (key2 k0 k1) (Scalar.addi k0 5#32) x0 x1 fun x0 x1 => xori x0 x1

/-- The number of `[0, 1)` whose leading bits are the given word's. -/
def unitV (s : Shape) (h : IVec s 32) : FVec F s .f32 :=
  subf (bitcastToFloat .f32 (ori (shrui h (broadcast s 9#32)) (broadcast s 1065353216#32)))
    (broadcast s (Scalar.ofBits .f32 0x3F800000#32 : F .f32))

/-- A step of Horner's rule. -/
def hornerV (s : Shape) (w : FVec F s .f32) (c : BitVec 32) (a : FVec F s .f32) : FVec F s .f32 :=
  addf (mulf a w) (broadcast s (Scalar.ofBits .f32 c : F .f32))

/-- The central polynomial of the inverse error function. -/
def centralV (s : Shape) (w : FVec F s .f32) : FVec F s .f32 :=
  hornerV s w 0x3FC02E2F#32 <| hornerV s w 0x3E7C8F63#32 <| hornerV s w 0xBB88E4EF#32 <|
  hornerV s w 0xBAA45408#32 <| hornerV s w 0x396532DB#32 <| hornerV s w 0xB6935AC1#32 <|
  hornerV s w 0xB66C7357#32 <| hornerV s w 0x34B84B36#32 <|
  broadcast s (Scalar.ofBits .f32 0x32F16588#32 : F .f32)

/-- The tail polynomial of the inverse error function. -/
def tailV (s : Shape) (w : FVec F s .f32) : FVec F s .f32 :=
  hornerV s w 0x40354F7E#32 <| hornerV s w 0x3F8036DB#32 <| hornerV s w 0x3C1AA57E#32 <|
  hornerV s w 0xBBF9C5D7#32 <| hornerV s w 0x3BBC127B#32 <| hornerV s w 0xBB70BDE7#32 <|
  hornerV s w 0x3AB0DC72#32 <| hornerV s w 0x38D3B56B#32 <|
  broadcast s (Scalar.ofBits .f32 0xB951F09B#32 : F .f32)

/-- `-log1p(-x * x)`. -/
def logArgV (s : Shape) (x : FVec F s .f32) : FVec F s .f32 :=
  subf (broadcast s (Scalar.ofBits .f32 0x00000000#32 : F .f32))
    (log1p (mulf (subf (broadcast s (Scalar.ofBits .f32 0x00000000#32 : F .f32)) x) x))

/-- The inverse error function as the kernel computes it. -/
def erfinvV (s : Shape) (x : FVec F s .f32) : FVec F s .f32 :=
  mulf (select (cmpf .olt (logArgV s x) (broadcast s (Scalar.ofBits .f32 0x40A00000#32 : F .f32)))
      (centralV s (subf (logArgV s x) (broadcast s (Scalar.ofBits .f32 0x40200000#32 : F .f32))))
      (tailV s (subf (sqrt (logArgV s x)) (broadcast s (Scalar.ofBits .f32 0x40400000#32 : F .f32))))) x

/-- The scaled normal deviate of the counters `cnt` under the key `(k0, k1)`. -/
def noiseV (s : Shape) (k0 k1 : BitVec 32) (cnt : IVec s 32) : FVec F s .f32 :=
  mulf (broadcast s (Scalar.ofBits .f32 0x3DCCCCCD#32 : F .f32))
    (mulf (broadcast s (Scalar.ofBits .f32 0x3FB504F3#32 : F .f32))
      (erfinvV s (addf (mulf (unitV s (hashV s k0 k1 cnt))
        (broadcast s (Scalar.ofBits .f32 0x40000000#32 : F .f32)))
        (broadcast s (Scalar.ofBits .f32 0xBF7FFFFF#32 : F .f32)))))

end Hash

/-- The counters of one chunk of the noise. -/
def noiseCnt (b c : BitVec 32) (cnt0 : IVec S32x128 32) : IVec S32x128 32 :=
  addi (broadcast S32x128 (Scalar.addi (Scalar.muli b 32768#32) c)) cnt0

/-- One chunk of the noise. -/
def noiseChunk (b c k0 k1 : BitVec 32) (cnt0 : IVec S32x128 32) : FVec F S32x128 .f32 :=
  shapeCast S32x128 (noiseV S32x128 k0 k1 (noiseCnt b c cnt0)) shapeCasts_S32x128_S32x128

/-- The first counter of tile `k` of the categorical draws. -/
def tileBase (cbase : BitVec 32) (k : Fin k0_t2_loop.trips) : BitVec 32 :=
  Scalar.addi cbase (Scalar.muli (Scalar.muli (Scf.iv 0#32 1#32 k) 128#32) 1024#32)

/-- The counters of chunk `c` of a tile. -/
def tileCnt (base c : BitVec 32) (cnts : IVec S128x128 32) : IVec S128x128 32 :=
  addi (broadcast S128x128 (Scalar.addi base c)) cnts

/-- The scores of one chunk of a tile: log of the uniform times the reciprocal weight. -/
def tileVal (k0 k1 : BitVec 32) (rwc : FVec F S1x128 .f32) (cnt : IVec S128x128 32) :
    FVec F S128x128 .f32 :=
  mulf (log (unitV S128x128 (hashV S128x128 k0 k1 cnt)))
    (broadcastTo S128x128 rwc broadcasts_S1x128_S128x128)

/-- One more chunk is compared with the running best. -/
def better {α : Type} (av : FVec F S128x128 .f32) (ac : IVec S128x128 32) (v : FVec F S128x128 .f32)
    (c : IVec S128x128 32) (f : FVec F S128x128 .f32 → IVec S128x128 32 → α) : α :=
  f (maximumf av v) (select (cmpf .ogt v av) c ac)

/-- From the running best of every lane, the chosen index of every row of the tile. -/
def tilePick (col : IVec S128x1 32) (base : BitVec 32) (av : FVec F S128x128 .f32)
    (ac : IVec S128x128 32) : IVec S128x1 32 :=
  subi (subi (shapeCast S128x1 (multiReductionI .minsi [1] S128
      (select (cmpf .oeq av (broadcastTo S128x128 (shapeCast S128x1
          (multiReduction .maximumf [1] S128 av 0xFF800000#32 reduces_S128x128_S128 (.inl rfl) rfl)
          shapeCasts_S128_S128x1) broadcasts_S128x1_S128x128)) ac (broadcast S128x128 2147483647#32))
      2147483647#32 reduces_S128x128_S128 rfl) shapeCasts_S128_S128x1) (broadcast S128x1 base))
    (muli col (broadcast S128x1 1024#32))

/-- The indices of one tile. -/
def tileV (col : IVec S128x1 32) (base k0 k1 : BitVec 32) (rw : FVec F S1x1024 .f32)
    (c0 c1 c2 c3 c4 c5 c6 c7 : IVec S128x128 32) : IVec S128x1 32 :=
  better (tileVal k0 k1 (extractStridedSlice S1x128 ![0, 0] rw slices_S1x1024_o0_0_S1x128)
      (tileCnt base 0#32 c0)) (tileCnt base 0#32 c0)
    (tileVal k0 k1 (extractStridedSlice S1x128 ![0, 128] rw slices_S1x1024_o0_128_S1x128)
      (tileCnt base 128#32 c1)) (tileCnt base 128#32 c1) fun av ac =>
  better av ac
    (tileVal k0 k1 (extractStridedSlice S1x128 ![0, 256] rw slices_S1x1024_o0_256_S1x128)
      (tileCnt base 256#32 c2)) (tileCnt base 256#32 c2) fun av ac =>
  better av ac
    (tileVal k0 k1 (extractStridedSlice S1x128 ![0, 384] rw slices_S1x1024_o0_384_S1x128)
      (tileCnt base 384#32 c3)) (tileCnt base 384#32 c3) fun av ac =>
  better av ac
    (tileVal k0 k1 (extractStridedSlice S1x128 ![0, 512] rw slices_S1x1024_o0_512_S1x128)
      (tileCnt base 512#32 c4)) (tileCnt base 512#32 c4) fun av ac =>
  better av ac
    (tileVal k0 k1 (extractStridedSlice S1x128 ![0, 640] rw slices_S1x1024_o0_640_S1x128)
      (tileCnt base 640#32 c5)) (tileCnt base 640#32 c5) fun av ac =>
  better av ac
    (tileVal k0 k1 (extractStridedSlice S1x128 ![0, 768] rw slices_S1x1024_o0_768_S1x128)
      (tileCnt base 768#32 c6)) (tileCnt base 768#32 c6) fun av ac =>
  better av ac
    (tileVal k0 k1 (extractStridedSlice S1x128 ![0, 896] rw slices_S1x1024_o0_896_S1x128)
      (tileCnt base 896#32 c7)) (tileCnt base 896#32 c7) fun av ac =>
  shapeCast S128x1 (tilePick col base av ac) shapeCasts_S128x1_S128x1

/-- The particles as three pieces of narrower format, one above the other. -/
def piecesV (x : FVec F S32x1024 .f32) : FVec F S96x1024 .bf16 :=
  let p1 : FVec F S32x1024 .bf16 := truncf .bf16 x bitsLt_bf16_f32
  let r1 : FVec F S32x1024 .f32 := subf x (extf .f32 p1 bitsLt_bf16_f32)
  let p2 : FVec F S32x1024 .bf16 := truncf .bf16 r1 bitsLt_bf16_f32
  let r2 : FVec F S32x1024 .f32 := subf r1 (extf .f32 p2 bitsLt_bf16_f32)
  let p3 : FVec F S32x1024 .bf16 := truncf .bf16 r2 bitsLt_bf16_f32
  concatenate S96x1024 0 [⟨S32x1024, p1⟩, ⟨S32x1024, p2⟩, ⟨S32x1024, p3⟩]
    concatenates_S32x1024_S32x1024_S32x1024_S96x1024_d0

/-- The one-hot matrix of the chosen indices. -/
def oneHotV (io : IVec S1024x1024 32) (ix : IVec S1024x1 32) : FVec F S1024x1024 .bf16 :=
  truncf .bf16 (sitofp .f32 (extui 32 (cmpi .eq io
    (broadcastTo S1024x1024 ix broadcasts_S1024x1_S1024x1024)) natLt_1_32) : FVec F S1024x1024 .f32)
    bitsLt_bf16_f32

/-- The product of the pieces with the one-hot matrix. -/
def pickV (p : FVec F S96x1024 .bf16) (io : IVec S1024x1024 32) (ix : IVec S1024x1 32) :
    FVec F S96x1024 .f32 :=
  matmul dot_S96x1024_S1024x1024_S96x1024_1_1_0_0_n_n none p (oneHotV io ix)
    (constant S96x1024 .f32 0x00000000#32)

/-- The sum of the three bands of a product. -/
def bandsV (g : FVec F S96x1024 .f32) : FVec F S32x1024 .f32 :=
  shapeCast S32x1024 (addf (addf
      (extractStridedSlice S32x1024 ![0, 0] g slices_S96x1024_o0_0_S32x1024)
      (extractStridedSlice S32x1024 ![32, 0] g slices_S96x1024_o32_0_S32x1024))
    (extractStridedSlice S32x1024 ![64, 0] g slices_S96x1024_o64_0_S32x1024))
    shapeCasts_S32x1024_S32x1024

/-- The particles gathered at the chosen indices. -/
def gatherV (io : IVec S1024x1024 32) (x : FVec F S32x1024 .f32) (ix : IVec S1024x1 32) :
    FVec F S32x1024 .f32 :=
  bandsV (pickV (piecesV x) io ix)

/-- The unnormalised weights. -/
def rawWeightsV (x : FVec F S32x1024 .f32) (o : FVec F S1x1x32x1 .f32) (w : FVec F S1x1024 .f32) :
    FVec F S1x1024 .f32 :=
  let d : FVec F S32x1024 .f32 := subf x (broadcastTo S32x1024
    (shapeCast S32x1 o shapeCasts_S1x1x32x1_S32x1) broadcasts_S32x1_S32x1024)
  let q : FVec F S1x1024 .f32 := shapeCast S1x1024
    (multiReduction .add [0] S1024 (mulf d d) 0x00000000#32 reduces_S32x1024_S1024 (.inl rfl) rfl)
    shapeCasts_S1024_S1x1024
  addf (mulf w (addf (exp (mulf (broadcast S1x1024 (Scalar.ofBits .f32 0xBF000000#32 : F .f32)) q))
      (broadcast S1x1024 (Scalar.ofBits .f32 0x322BCC77#32 : F .f32))))
    (broadcast S1x1024 (Scalar.ofBits .f32 0x2EDBE6FF#32 : F .f32))

/-- The weights divided by their sum. -/
def normalV (w : FVec F S1x1024 .f32) : FVec F S1x1024 .f32 :=
  divf w (broadcast S1x1024 (extractAt ![0, 0, 0] (shapeCast S1x1x1
    (multiReduction .add [1, 2] S1 (shapeCast S1x1x1024 w shapeCasts_S1x1024_S1x1x1024) 0x00000000#32
      reduces_S1x1x1024_S1 (.inl rfl) rfl) shapeCasts_S1_S1x1x1) inpos_S1x1x1_p0_0_0))

/-- The weights of one step. -/
def weightsV (x : FVec F S32x1024 .f32) (o : FVec F S1x1x32x1 .f32) (w : FVec F S1x1024 .f32) :
    FVec F S1x1024 .f32 :=
  normalV (rawWeightsV x o w)

/-- The reciprocals of the weights. -/
def recipV (w : FVec F S1x1024 .f32) : FVec F S1x1024 .f32 :=
  divf (broadcast S1x1024 (Scalar.ofBits .f32 0x3F800000#32 : F .f32)) w

/-- The mean of every row of particles. -/
def meanV (x : FVec F S32x1024 .f32) : FVec F S1x32x1 .f32 :=
  shapeCast S1x32x1 (mulf (shapeCast S32x1
      (multiReduction .add [1] S32 x 0x00000000#32 reduces_S32x1024_S32 (.inl rfl) rfl)
      shapeCasts_S32_S32x1) (broadcast S32x1 (Scalar.ofBits .f32 0x3A800000#32 : F .f32)))
    shapeCasts_S32x1_S1x32x1

end Cert.KernelIdeal.Own

end
-- ==== Proof.Clean.lean ====
/- The kernel's two loop bodies and the kernel itself as short programs over the functions of Ops. -/
module

public import proofs.«01_k».proof.Proof.Ops

@[expose] public section

set_option maxRecDepth 65536

noncomputable section

namespace Cert.KernelIdeal.Own

open Cert.KernelIdeal Cert.KernelIdeal.Gen
open Idealize.ShloMosaic Idealize.ShloMosaic.TcCoe Idealize.SL.Sem

variable {F : FTy → Type} [FloatOps F]

/-- One trip over the tiles: the eight reads of the tile's counters, the read of the tile's slot, and the
    store of the tile's chosen indices. -/
def tileBody (arg9 : Memref sig .tc .vmem S1024x1 .i32) (arg10 : Memref sig .tc .vmem S128x128 .i32)
    (v24 : IVec S128x1 32) (v64 v66 : BitVec 32) (rw : FVec F S1x1024 .f32) (cbase : BitVec 32)
    (k : Fin k0_t2_loop.trips) : Prog (TpuEff nD τ sig (Elt F) Λ₀ .tc) Unit := do
  let c0 : Vec F S128x128 .i32 ← Prog.lift (.load arg10 (Rect.unit (s := S128x128) ![0, 0] S128x128.size inb_S128x128_S128x128_0_0).toLoadRect (View.loadsAt_vmem h_S128x128))
  let c1 : Vec F S128x128 .i32 ← Prog.lift (.load arg10 (Rect.unit (s := S128x128) ![0, 0] S128x128.size inb_S128x128_S128x128_0_0).toLoadRect (View.loadsAt_vmem h_S128x128))
  let c2 : Vec F S128x128 .i32 ← Prog.lift (.load arg10 (Rect.unit (s := S128x128) ![0, 0] S128x128.size inb_S128x128_S128x128_0_0).toLoadRect (View.loadsAt_vmem h_S128x128))
  let c3 : Vec F S128x128 .i32 ← Prog.lift (.load arg10 (Rect.unit (s := S128x128) ![0, 0] S128x128.size inb_S128x128_S128x128_0_0).toLoadRect (View.loadsAt_vmem h_S128x128))
  let c4 : Vec F S128x128 .i32 ← Prog.lift (.load arg10 (Rect.unit (s := S128x128) ![0, 0] S128x128.size inb_S128x128_S128x128_0_0).toLoadRect (View.loadsAt_vmem h_S128x128))
  let c5 : Vec F S128x128 .i32 ← Prog.lift (.load arg10 (Rect.unit (s := S128x128) ![0, 0] S128x128.size inb_S128x128_S128x128_0_0).toLoadRect (View.loadsAt_vmem h_S128x128))
  let c6 : Vec F S128x128 .i32 ← Prog.lift (.load arg10 (Rect.unit (s := S128x128) ![0, 0] S128x128.size inb_S128x128_S128x128_0_0).toLoadRect (View.loadsAt_vmem h_S128x128))
  let c7 : Vec F S128x128 .i32 ← Prog.lift (.load arg10 (Rect.unit (s := S128x128) ![0, 0] S128x128.size inb_S128x128_S128x128_0_0).toLoadRect (View.loadsAt_vmem h_S128x128))
  let _o : Vec F S128x1 .i32 ← Prog.lift (.load arg9 (Rect.unit (s := S1024x1) (k0_off4 k) S128x1.size (k0_off4_inb k)).toLoadRect (View.loadsAt_vmem h_S128x1))
  Prog.lift (.store arg9 (Rect.unit (s := S1024x1) (k0_off4 k) S128x1.size (k0_off4_inb k))
    (tileV v24 (tileBase cbase k) v64 v66 rw c0 c1 c2 c3 c4 c5 c6 c7) Finset.univ (View.stores_vmem_bits_univ h_S128x1 rfl) (.inl rfl))
  pure ⟨⟩

/-- The printed body of the loop over the tiles is `tileBody`. -/
theorem t2_body_eq (i : grid0.Coords) (arg1 : Memref sig .tc .smem S20x2 .i32) (harg1 : arg1.IsWhole) (arg2 : Memref sig .tc .smem S20x2 .i32) (harg2 : arg2.IsWhole) (arg3 : Memref sig .tc .vmem S1x32x1 .f32) (harg3 : arg3.IsWhole) (arg4 : Memref sig .tc .vmem S1x20x32x1 .f32) (harg4 : arg4.IsWhole) (arg5 : Memref sig .tc .vmem S1x32x1 .f32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1 .i32) (harg9 : arg9.IsWhole) (arg10 : Memref sig .tc .vmem S128x128 .i32) (harg10 : arg10.IsWhole)
    (v24 : IVec S128x1 32) (v64 v66 : Elt F .i32) (v2156 v2160 : FVec F S1x1024 .f32) (v2162 : BitVec 32)
    (k : Fin k0_t2_loop.trips) (a : Unit) :
    Gen.k0_t2_body (F := F) i arg1 harg1 arg2 harg2 arg3 harg3 arg4 harg4 arg5 harg5 arg6 harg6 arg7 harg7
      arg8 harg8 arg9 harg9 arg10 harg10 v24 v64 v66 v2156 v2160 v2162 k a
    = tileBody arg9 arg10 v24 v64 v66 (divf v2160 v2156) v2162 k := rfl

/-- Whether trip `k` of the steps is not the first. -/
def notFirst (k : Fin k0_t1_loop.trips) : BitVec 1 :=
  Scalar.cmpi .ne (Scalar.extui (Scalar.cmpi .sgt (Scf.iv 0#32 1#32 k) 0#32) : BitVec 32) 0#32

/-- The gather of the particles at the chosen indices, in place. -/
def gatherBody (arg6 : Memref sig .tc .vmem S32x1024 .f32) (arg9 : Memref sig .tc .vmem S1024x1 .i32)
    (v25 : IVec S1024x1024 32) : Prog (TpuEff nD τ sig (Elt F) Λ₀ .tc) Unit := do
  let x : Vec F S32x1024 .f32 ← Prog.lift (.load arg6 (Rect.unit (s := S32x1024) ![0, 0] S32x1024.size inb_S32x1024_S32x1024_0_0).toLoadRect (View.loadsAt_vmem h_S32x1024))
  let ix : Vec F S1024x1 .i32 ← Prog.lift (.load arg9 (Rect.unit (s := S1024x1) ![0, 0] S1024x1.size inb_S1024x1_S1024x1_0_0).toLoadRect (View.loadsAt_vmem h_S1024x1))
  let _o : Vec F S32x1024 .f32 ← Prog.lift (.load arg6 (Rect.unit (s := S32x1024) ![0, 0] S32x1024.size inb_S32x1024_S32x1024_0_0).toLoadRect (View.loadsAt_vmem h_S32x1024))
  Prog.lift (.store arg6 (Rect.unit (s := S32x1024) ![0, 0] S32x1024.size inb_S32x1024_S32x1024_0_0) (gatherV v25 x ix) Finset.univ (View.stores_vmem_bits_univ h_S32x1024 rfl) (.inl rfl))
  pure ⟨⟩

/-- The noise of one step, chunk by chunk into its buffer. -/
def noiseBody (arg7 : Memref sig .tc .vmem S32x1024 .f32) (b k0 k1 : BitVec 32) :
    Prog (TpuEff nD τ sig (Elt F) Λ₀ .tc) Unit := do
  let _o0 : Vec F S32x128 .f32 ← Prog.lift (.load arg7 (Rect.unit (s := S32x1024) ![0, 0] S32x128.size inb_S32x1024_S32x128_0_0).toLoadRect (View.loadsAt_vmem h_S32x128))
  Prog.lift (.store arg7 (Rect.unit (s := S32x1024) ![0, 0] S32x128.size inb_S32x1024_S32x128_0_0) (noiseChunk b 0#32 k0 k1 Gen.k0_pay713) Finset.univ (View.stores_vmem_bits_univ h_S32x128 rfl) (.inl rfl))
  let _o1 : Vec F S32x128 .f32 ← Prog.lift (.load arg7 (Rect.unit (s := S32x1024) ![0, 128] S32x128.size inb_S32x1024_S32x128_0_128).toLoadRect (View.loadsAt_vmem h_S32x128))
  Prog.lift (.store arg7 (Rect.unit (s := S32x1024) ![0, 128] S32x128.size inb_S32x1024_S32x128_0_128) (noiseChunk b 4096#32 k0 k1 Gen.k0_pay713) Finset.univ (View.stores_vmem_bits_univ h_S32x128 rfl) (.inl rfl))
  let _o2 : Vec F S32x128 .f32 ← Prog.lift (.load arg7 (Rect.unit (s := S32x1024) ![0, 256] S32x128.size inb_S32x1024_S32x128_0_256).toLoadRect (View.loadsAt_vmem h_S32x128))
  Prog.lift (.store arg7 (Rect.unit (s := S32x1024) ![0, 256] S32x128.size inb_S32x1024_S32x128_0_256) (noiseChunk b 8192#32 k0 k1 Gen.k0_pay713) Finset.univ (View.stores_vmem_bits_univ h_S32x128 rfl) (.inl rfl))
  let _o3 : Vec F S32x128 .f32 ← Prog.lift (.load arg7 (Rect.unit (s := S32x1024) ![0, 384] S32x128.size inb_S32x1024_S32x128_0_384).toLoadRect (View.loadsAt_vmem h_S32x128))
  Prog.lift (.store arg7 (Rect.unit (s := S32x1024) ![0, 384] S32x128.size inb_S32x1024_S32x128_0_384) (noiseChunk b 12288#32 k0 k1 Gen.k0_pay713) Finset.univ (View.stores_vmem_bits_univ h_S32x128 rfl) (.inl rfl))
  let _o4 : Vec F S32x128 .f32 ← Prog.lift (.load arg7 (Rect.unit (s := S32x1024) ![0, 512] S32x128.size inb_S32x1024_S32x128_0_512).toLoadRect (View.loadsAt_vmem h_S32x128))
  Prog.lift (.store arg7 (Rect.unit (s := S32x1024) ![0, 512] S32x128.size inb_S32x1024_S32x128_0_512) (noiseChunk b 16384#32 k0 k1 Gen.k0_pay713) Finset.univ (View.stores_vmem_bits_univ h_S32x128 rfl) (.inl rfl))
  let _o5 : Vec F S32x128 .f32 ← Prog.lift (.load arg7 (Rect.unit (s := S32x1024) ![0, 640] S32x128.size inb_S32x1024_S32x128_0_640).toLoadRect (View.loadsAt_vmem h_S32x128))
  Prog.lift (.store arg7 (Rect.unit (s := S32x1024) ![0, 640] S32x128.size inb_S32x1024_S32x128_0_640) (noiseChunk b 20480#32 k0 k1 Gen.k0_pay713) Finset.univ (View.stores_vmem_bits_univ h_S32x128 rfl) (.inl rfl))
  let _o6 : Vec F S32x128 .f32 ← Prog.lift (.load arg7 (Rect.unit (s := S32x1024) ![0, 768] S32x128.size inb_S32x1024_S32x128_0_768).toLoadRect (View.loadsAt_vmem h_S32x128))
  Prog.lift (.store arg7 (Rect.unit (s := S32x1024) ![0, 768] S32x128.size inb_S32x1024_S32x128_0_768) (noiseChunk b 24576#32 k0 k1 Gen.k0_pay713) Finset.univ (View.stores_vmem_bits_univ h_S32x128 rfl) (.inl rfl))
  let _o7 : Vec F S32x128 .f32 ← Prog.lift (.load arg7 (Rect.unit (s := S32x1024) ![0, 896] S32x128.size inb_S32x1024_S32x128_0_896).toLoadRect (View.loadsAt_vmem h_S32x128))
  Prog.lift (.store arg7 (Rect.unit (s := S32x1024) ![0, 896] S32x128.size inb_S32x1024_S32x128_0_896) (noiseChunk b 28672#32 k0 k1 Gen.k0_pay713) Finset.univ (View.stores_vmem_bits_univ h_S32x128 rfl) (.inl rfl))
  pure ⟨⟩

/-- The noise is added, the weights are renewed, and the tiles choose their indices. -/
def weighBody (arg4 : Memref sig .tc .vmem S1x20x32x1 .f32) (arg6 arg7 : Memref sig .tc .vmem S32x1024 .f32)
    (arg8 : Memref sig .tc .vmem S1x1024 .f32) (arg9 : Memref sig .tc .vmem S1024x1 .i32)
    (arg10 : Memref sig .tc .vmem S128x128 .i32) (b : BitVec 32) (v24 : IVec S128x1 32) (v64 v66 : BitVec 32)
    (k : Fin k0_t1_loop.trips) : Prog (TpuEff nD τ sig (Elt F) Λ₀ .tc) Unit := do
  let x : Vec F S32x1024 .f32 ← Prog.lift (.load arg6 (Rect.unit (s := S32x1024) ![0, 0] S32x1024.size inb_S32x1024_S32x1024_0_0).toLoadRect (View.loadsAt_vmem h_S32x1024))
  let n : Vec F S32x1024 .f32 ← Prog.lift (.load arg7 (Rect.unit (s := S32x1024) ![0, 0] S32x1024.size inb_S32x1024_S32x1024_0_0).toLoadRect (View.loadsAt_vmem h_S32x1024))
  let _o6 : Vec F S32x1024 .f32 ← Prog.lift (.load arg6 (Rect.unit (s := S32x1024) ![0, 0] S32x1024.size inb_S32x1024_S32x1024_0_0).toLoadRect (View.loadsAt_vmem h_S32x1024))
  Prog.lift (.store arg6 (Rect.unit (s := S32x1024) ![0, 0] S32x1024.size inb_S32x1024_S32x1024_0_0) (shapeCast S32x1024 (addf x n : FVec F S32x1024 .f32) shapeCasts_S32x1024_S32x1024) Finset.univ (View.stores_vmem_bits_univ h_S32x1024 rfl) (.inl rfl))
  let y : Vec F S32x1024 .f32 ← Prog.lift (.load arg6 (Rect.unit (s := S32x1024) ![0, 0] S32x1024.size inb_S32x1024_S32x1024_0_0).toLoadRect (View.loadsAt_vmem h_S32x1024))
  let o : Vec F S1x1x32x1 .f32 ← Prog.lift (.load arg4 (Rect.unit (s := S1x20x32x1) (k0_off3 k) S1x1x32x1.size (k0_off3_inb k)).toLoadRect (View.loadsAt_vmem h_S1x1x32x1))
  let w : Vec F S1x1024 .f32 ← Prog.lift (.load arg8 (Rect.unit (s := S1x1024) ![0, 0] S1x1024.size inb_S1x1024_S1x1024_0_0).toLoadRect (View.loadsAt_vmem h_S1x1024))
  let _o8 : Vec F S1x1024 .f32 ← Prog.lift (.load arg8 (Rect.unit (s := S1x1024) ![0, 0] S1x1024.size inb_S1x1024_S1x1024_0_0).toLoadRect (View.loadsAt_vmem h_S1x1024))
  Prog.lift (.store arg8 (Rect.unit (s := S1x1024) ![0, 0] S1x1024.size inb_S1x1024_S1x1024_0_0) (shapeCast S1x1024 (weightsV y o w) shapeCasts_S1x1024_S1x1024) Finset.univ (View.stores_vmem_bits_univ h_S1x1024 rfl) (.inl rfl))
  Scf.Loop.for k0_t2_loop k0_t2_ok ⟨⟩ (fun k' _ => tileBody arg9 arg10 v24 v64 v66 (recipV (weightsV y o w))
    (Scalar.muli b 1048576#32) k')
  pure ⟨⟩

/-- A step after the first: its keys are read, the particles gathered, then moved and weighed. -/
def stepPos (arg1 arg2 : Memref sig .tc .smem S20x2 .i32)
    (arg4 : Memref sig .tc .vmem S1x20x32x1 .f32) (arg6 arg7 : Memref sig .tc .vmem S32x1024 .f32)
    (arg8 : Memref sig .tc .vmem S1x1024 .f32) (arg9 : Memref sig .tc .vmem S1024x1 .i32)
    (arg10 : Memref sig .tc .vmem S128x128 .i32) (b : BitVec 32) (v24 : IVec S128x1 32)
    (v25 : IVec S1024x1024 32)
    (k : Fin k0_t1_loop.trips) : Prog (TpuEff nD τ sig (Elt F) Λ₀ .tc) Unit := do
  let n0 : Elt F .i32 ← smemLoad arg1 (Rect.unit (s := S20x2) (k0_off1 k) S1x1.size (k0_off1_inb k)) numel1_S1x1 rfl
  let n1 : Elt F .i32 ← smemLoad arg1 (Rect.unit (s := S20x2) (k0_off2 k) S1x1.size (k0_off2_inb k)) numel1_S1x1 rfl
  let r0 : Elt F .i32 ← smemLoad arg2 (Rect.unit (s := S20x2) (k0_off1 k) S1x1.size (k0_off1_inb k)) numel1_S1x1 rfl
  let r1 : Elt F .i32 ← smemLoad arg2 (Rect.unit (s := S20x2) (k0_off2 k) S1x1.size (k0_off2_inb k)) numel1_S1x1 rfl
  gatherBody arg6 arg9 v25
  noiseBody arg7 b n0 n1
  weighBody arg4 arg6 arg7 arg8 arg9 arg10 b v24 r0 r1 k

/-- The first step: its keys are read, then the particles are moved and weighed. -/
def stepNeg (arg1 arg2 : Memref sig .tc .smem S20x2 .i32)
    (arg4 : Memref sig .tc .vmem S1x20x32x1 .f32) (arg6 arg7 : Memref sig .tc .vmem S32x1024 .f32)
    (arg8 : Memref sig .tc .vmem S1x1024 .f32) (arg9 : Memref sig .tc .vmem S1024x1 .i32)
    (arg10 : Memref sig .tc .vmem S128x128 .i32) (b : BitVec 32) (v24 : IVec S128x1 32)
    (v25 : IVec S1024x1024 32)
    (k : Fin k0_t1_loop.trips) : Prog (TpuEff nD τ sig (Elt F) Λ₀ .tc) Unit := do
  let n0 : Elt F .i32 ← smemLoad arg1 (Rect.unit (s := S20x2) (k0_off1 k) S1x1.size (k0_off1_inb k)) numel1_S1x1 rfl
  let n1 : Elt F .i32 ← smemLoad arg1 (Rect.unit (s := S20x2) (k0_off2 k) S1x1.size (k0_off2_inb k)) numel1_S1x1 rfl
  let r0 : Elt F .i32 ← smemLoad arg2 (Rect.unit (s := S20x2) (k0_off1 k) S1x1.size (k0_off1_inb k)) numel1_S1x1 rfl
  let r1 : Elt F .i32 ← smemLoad arg2 (Rect.unit (s := S20x2) (k0_off2 k) S1x1.size (k0_off2_inb k)) numel1_S1x1 rfl
  noiseBody arg7 b n0 n1
  weighBody arg4 arg6 arg7 arg8 arg9 arg10 b v24 r0 r1 k

/-- One step, the first or a later one. -/
def stepBody (arg1 arg2 : Memref sig .tc .smem S20x2 .i32)
    (arg4 : Memref sig .tc .vmem S1x20x32x1 .f32) (arg6 arg7 : Memref sig .tc .vmem S32x1024 .f32)
    (arg8 : Memref sig .tc .vmem S1x1024 .f32) (arg9 : Memref sig .tc .vmem S1024x1 .i32)
    (arg10 : Memref sig .tc .vmem S128x128 .i32) (b : BitVec 32) (v24 : IVec S128x1 32)
    (v25 : IVec S1024x1024 32)
    (k : Fin k0_t1_loop.trips) : Prog (TpuEff nD τ sig (Elt F) Λ₀ .tc) Unit :=
  if notFirst k = 1#1 then stepPos arg1 arg2 arg4 arg6 arg7 arg8 arg9 arg10 b v24 v25 k
  else stepNeg arg1 arg2 arg4 arg6 arg7 arg8 arg9 arg10 b v24 v25 k

/-- The kernel on one grid point up to the last gather: the scratch is filled, the steps are run, and the
    particles are read in three pieces. -/
def pointSteps (i : grid0.Coords) (arg1 arg2 : Memref sig .tc .smem S20x2 .i32)
    (arg3 : Memref sig .tc .vmem S1x32x1 .f32) (arg4 : Memref sig .tc .vmem S1x20x32x1 .f32)
    (arg6 arg7 : Memref sig .tc .vmem S32x1024 .f32)
    (arg8 : Memref sig .tc .vmem S1x1024 .f32) (arg9 : Memref sig .tc .vmem S1024x1 .i32)
    (arg10 : Memref sig .tc .vmem S128x128 .i32) :
    Prog (TpuEff nD τ sig (Elt F) Λ₀ .tc) (Σ' (_ : IVec S1024x1024 32), FVec F S96x1024 .bf16) := do
  let z : Vec F S1x32x1 .f32 ← Prog.lift (.load arg3 (Rect.unit (s := S1x32x1) ![0, 0, 0] S1x32x1.size inb_S1x32x1_S1x32x1_0_0_0).toLoadRect (View.loadsAt_vmem h_S1x32x1))
  let _o6 : Vec F S32x1024 .f32 ← Prog.lift (.load arg6 (Rect.unit (s := S32x1024) ![0, 0] S32x1024.size inb_S32x1024_S32x1024_0_0).toLoadRect (View.loadsAt_vmem h_S32x1024))
  Prog.lift (.store arg6 (Rect.unit (s := S32x1024) ![0, 0] S32x1024.size inb_S32x1024_S32x1024_0_0) (Gen.k0_pay711 z) Finset.univ (View.stores_vmem_bits_univ h_S32x1024 rfl) (.inl rfl))
  let _o8 : Vec F S1x1024 .f32 ← Prog.lift (.load arg8 (Rect.unit (s := S1x1024) ![0, 0] S1x1024.size inb_S1x1024_S1x1024_0_0).toLoadRect (View.loadsAt_vmem h_S1x1024))
  Prog.lift (.store arg8 (Rect.unit (s := S1x1024) ![0, 0] S1x1024.size inb_S1x1024_S1x1024_0_0) (Gen.k0_pay712 (F := F)) Finset.univ (View.stores_vmem_bits_univ h_S1x1024 rfl) (.inl rfl))
  let _o10 : Vec F S128x128 .i32 ← Prog.lift (.load arg10 (Rect.unit (s := S128x128) ![0, 0] S128x128.size inb_S128x128_S128x128_0_0).toLoadRect (View.loadsAt_vmem h_S128x128))
  Prog.lift (.store arg10 (Rect.unit (s := S128x128) ![0, 0] S128x128.size inb_S128x128_S128x128_0_0) (Gen.k0_pay714) Finset.univ (View.stores_vmem_bits_univ h_S128x128 rfl) (.inl rfl))
  Scf.Loop.for k0_t1_loop k0_t1_ok ⟨⟩ (fun k _ => stepBody arg1 arg2 arg4 arg6 arg7 arg8 arg9 arg10
    (BitVec.ofNat 32 (i 0).val) (iota .tc S128x1 32 [0] iota_S128x1_d0_w32)
    (iota .tc S1024x1024 32 [1] iota_S1024x1024_d1_w32) k)
  let x : Vec F S32x1024 .f32 ← Prog.lift (.load arg6 (Rect.unit (s := S32x1024) ![0, 0] S32x1024.size inb_S32x1024_S32x1024_0_0).toLoadRect (View.loadsAt_vmem h_S32x1024))
  pure ⟨iota .tc S1024x1024 32 [1] iota_S1024x1024_d1_w32, piecesV x⟩

/-- The kernel on one grid point. -/
def pointBody (i : grid0.Coords) (arg1 arg2 : Memref sig .tc .smem S20x2 .i32)
    (arg3 : Memref sig .tc .vmem S1x32x1 .f32) (arg4 : Memref sig .tc .vmem S1x20x32x1 .f32)
    (arg5 : Memref sig .tc .vmem S1x32x1 .f32) (arg6 arg7 : Memref sig .tc .vmem S32x1024 .f32)
    (arg8 : Memref sig .tc .vmem S1x1024 .f32) (arg9 : Memref sig .tc .vmem S1024x1 .i32)
    (arg10 : Memref sig .tc .vmem S128x128 .i32) : Prog (TpuEff nD τ sig (Elt F) Λ₀ .tc) Unit := do
  let ⟨io, p⟩ : Σ' (_ : IVec S1024x1024 32), FVec F S96x1024 .bf16 ← pointSteps i arg1 arg2 arg3 arg4 arg6 arg7 arg8 arg9 arg10
  let ix : Vec F S1024x1 .i32 ← Prog.lift (.load arg9 (Rect.unit (s := S1024x1) ![0, 0] S1024x1.size inb_S1024x1_S1024x1_0_0).toLoadRect (View.loadsAt_vmem h_S1024x1))
  let _o6 : Vec F S32x1024 .f32 ← Prog.lift (.load arg6 (Rect.unit (s := S32x1024) ![0, 0] S32x1024.size inb_S32x1024_S32x1024_0_0).toLoadRect (View.loadsAt_vmem h_S32x1024))
  Prog.lift (.store arg6 (Rect.unit (s := S32x1024) ![0, 0] S32x1024.size inb_S32x1024_S32x1024_0_0) (bandsV (pickV p io ix)) Finset.univ (View.stores_vmem_bits_univ h_S32x1024 rfl) (.inl rfl))
  let x : Vec F S32x1024 .f32 ← Prog.lift (.load arg6 (Rect.unit (s := S32x1024) ![0, 0] S32x1024.size inb_S32x1024_S32x1024_0_0).toLoadRect (View.loadsAt_vmem h_S32x1024))
  let _o5 : Vec F S1x32x1 .f32 ← Prog.lift (.load arg5 (Rect.unit (s := S1x32x1) ![0, 0, 0] S1x32x1.size inb_S1x32x1_S1x32x1_0_0_0).toLoadRect (View.loadsAt_vmem h_S1x32x1))
  Prog.lift (.store arg5 (Rect.unit (s := S1x32x1) ![0, 0, 0] S1x32x1.size inb_S1x32x1_S1x32x1_0_0_0) (meanV x) Finset.univ (View.stores_vmem_bits_univ h_S1x32x1 rfl) (.inl rfl))
  pure ⟨⟩

/-- A step's prologue when it gathers. -/
theorem part34_pos (i : grid0.Coords) (arg1 : Memref sig .tc .smem S20x2 .i32) (harg1 : arg1.IsWhole) (arg2 : Memref sig .tc .smem S20x2 .i32) (harg2 : arg2.IsWhole) (arg3 : Memref sig .tc .vmem S1x32x1 .f32) (harg3 : arg3.IsWhole) (arg4 : Memref sig .tc .vmem S1x20x32x1 .f32) (harg4 : arg4.IsWhole) (arg5 : Memref sig .tc .vmem S1x32x1 .f32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1 .i32) (harg9 : arg9.IsWhole) (arg10 : Memref sig .tc .vmem S128x128 .i32) (harg10 : arg10.IsWhole)
    (arg0 : BitVec 32) (v15 : IVec S32x128 32) (v25 : IVec S1024x1024 32) (k : Fin k0_t1_loop.trips)
    (h : notFirst k = 1#1) :
    k0_part34 (F := F) i arg1 harg1 arg2 harg2 arg3 harg3 arg4 harg4 arg5 harg5 arg6 harg6 arg7 harg7 arg8 harg8 arg9 harg9 arg10 harg10 arg0 v15 v25 0#32 1#32 k
    = (do
      let n0 : Elt F .i32 ← smemLoad arg1 (Rect.unit (s := S20x2) (k0_off1 k) S1x1.size (k0_off1_inb k)) numel1_S1x1 rfl
      let n1 : Elt F .i32 ← smemLoad arg1 (Rect.unit (s := S20x2) (k0_off2 k) S1x1.size (k0_off2_inb k)) numel1_S1x1 rfl
      let r0 : Elt F .i32 ← smemLoad arg2 (Rect.unit (s := S20x2) (k0_off1 k) S1x1.size (k0_off1_inb k)) numel1_S1x1 rfl
      let r1 : Elt F .i32 ← smemLoad arg2 (Rect.unit (s := S20x2) (k0_off2 k) S1x1.size (k0_off2_inb k)) numel1_S1x1 rfl
      gatherBody arg6 arg9 v25
      pure ⟨Scf.iv 0#32 1#32 k, n0, n1, r0, r1, Scalar.muli arg0 32768#32, key2 n0 n1,
        Gen.k0_pay339 arg0 v15 n0 n1, Gen.k0_pay340 arg0 v15 n0 n1, 6#32⟩) := by
  rw [Gen.k0_part34_eq_skeleton]
  unfold Gen.k0_part34_skel
  dsimp only
  unfold notFirst at h
  simp only [dif_pos h]
  rfl

/-- A step's prologue when it does not gather. -/
theorem part34_neg (i : grid0.Coords) (arg1 : Memref sig .tc .smem S20x2 .i32) (harg1 : arg1.IsWhole) (arg2 : Memref sig .tc .smem S20x2 .i32) (harg2 : arg2.IsWhole) (arg3 : Memref sig .tc .vmem S1x32x1 .f32) (harg3 : arg3.IsWhole) (arg4 : Memref sig .tc .vmem S1x20x32x1 .f32) (harg4 : arg4.IsWhole) (arg5 : Memref sig .tc .vmem S1x32x1 .f32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1 .i32) (harg9 : arg9.IsWhole) (arg10 : Memref sig .tc .vmem S128x128 .i32) (harg10 : arg10.IsWhole)
    (arg0 : BitVec 32) (v15 : IVec S32x128 32) (v25 : IVec S1024x1024 32) (k : Fin k0_t1_loop.trips)
    (h : ¬ notFirst k = 1#1) :
    k0_part34 (F := F) i arg1 harg1 arg2 harg2 arg3 harg3 arg4 harg4 arg5 harg5 arg6 harg6 arg7 harg7 arg8 harg8 arg9 harg9 arg10 harg10 arg0 v15 v25 0#32 1#32 k
    = (do
      let n0 : Elt F .i32 ← smemLoad arg1 (Rect.unit (s := S20x2) (k0_off1 k) S1x1.size (k0_off1_inb k)) numel1_S1x1 rfl
      let n1 : Elt F .i32 ← smemLoad arg1 (Rect.unit (s := S20x2) (k0_off2 k) S1x1.size (k0_off2_inb k)) numel1_S1x1 rfl
      let r0 : Elt F .i32 ← smemLoad arg2 (Rect.unit (s := S20x2) (k0_off1 k) S1x1.size (k0_off1_inb k)) numel1_S1x1 rfl
      let r1 : Elt F .i32 ← smemLoad arg2 (Rect.unit (s := S20x2) (k0_off2 k) S1x1.size (k0_off2_inb k)) numel1_S1x1 rfl
      pure ⟨Scf.iv 0#32 1#32 k, n0, n1, r0, r1, Scalar.muli arg0 32768#32, key2 n0 n1,
        Gen.k0_pay339 arg0 v15 n0 n1, Gen.k0_pay340 arg0 v15 n0 n1, 6#32⟩) := by
  rw [Gen.k0_part34_eq_skeleton]
  unfold Gen.k0_part34_skel
  dsimp only
  unfold notFirst at h
  simp only [dif_neg h]
  rfl

/-- The printed body of the loop over the steps is `stepBody`. -/
theorem t1_body_eq (i : grid0.Coords) (arg1 : Memref sig .tc .smem S20x2 .i32) (harg1 : arg1.IsWhole) (arg2 : Memref sig .tc .smem S20x2 .i32) (harg2 : arg2.IsWhole) (arg3 : Memref sig .tc .vmem S1x32x1 .f32) (harg3 : arg3.IsWhole) (arg4 : Memref sig .tc .vmem S1x20x32x1 .f32) (harg4 : arg4.IsWhole) (arg5 : Memref sig .tc .vmem S1x32x1 .f32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1 .i32) (harg9 : arg9.IsWhole) (arg10 : Memref sig .tc .vmem S128x128 .i32) (harg10 : arg10.IsWhole)
    (arg0 : BitVec 32) (v24 : IVec S128x1 32) (v25 : IVec S1024x1024 32) (k : Fin k0_t1_loop.trips) (a : Unit) :
    Gen.k0_t1_body (F := F) i arg1 harg1 arg2 harg2 arg3 harg3 arg4 harg4 arg5 harg5 arg6 harg6 arg7 harg7 arg8 harg8 arg9 harg9 arg10 harg10 arg0 v24 v25 k a
    = stepBody arg1 arg2 arg4 arg6 arg7 arg8 arg9 arg10 arg0 v24 v25 k := by
  unfold stepBody
  by_cases h : notFirst k = 1#1
  · rw [if_pos h]
    unfold Gen.k0_t1_body
    rw [Gen.k0_part80_eq_skeleton]
    unfold Gen.k0_part80_skel
    rw [part34_pos (h := h)]
    rfl
  · rw [if_neg h]
    unfold Gen.k0_t1_body
    rw [Gen.k0_part80_eq_skeleton]
    unfold Gen.k0_part80_skel
    rw [part34_neg (h := h)]
    rfl

/-- The printed kernel is `pointBody`, up to the bodies of the loop over the steps. -/
theorem kernel_eq (i : grid0.Coords) (arg1 : Memref sig .tc .smem S20x2 .i32) (harg1 : arg1.IsWhole) (arg2 : Memref sig .tc .smem S20x2 .i32) (harg2 : arg2.IsWhole) (arg3 : Memref sig .tc .vmem S1x32x1 .f32) (harg3 : arg3.IsWhole) (arg4 : Memref sig .tc .vmem S1x20x32x1 .f32) (harg4 : arg4.IsWhole) (arg5 : Memref sig .tc .vmem S1x32x1 .f32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S1x1024 .f32) (harg8 : arg8.IsWhole) (arg9 : Memref sig .tc .vmem S1024x1 .i32) (harg9 : arg9.IsWhole) (arg10 : Memref sig .tc .vmem S128x128 .i32) (harg10 : arg10.IsWhole) :
    cc0__pf_kernel (F := F) i arg1 harg1 arg2 harg2 arg3 harg3 arg4 harg4 arg5 harg5 arg6 harg6 arg7 harg7 arg8 harg8 arg9 harg9 arg10 harg10
    = pointBody i arg1 arg2 arg3 arg4 arg5 arg6 arg7 arg8 arg9 arg10 := by
  have hb := funext fun k => funext fun a => t1_body_eq (F := F) i arg1 harg1 arg2 harg2 arg3 harg3 arg4 harg4 arg5 harg5 arg6 harg6 arg7 harg7 arg8 harg8 arg9 harg9 arg10 harg10 (BitVec.ofNat 32 (i 0).val)
    (iota .tc S128x1 32 [0] iota_S128x1_d0_w32) (iota .tc S1024x1024 32 [1] iota_S1024x1024_d1_w32) k a
  rw [Gen.cc0__pf_kernel_eq_skeleton]
  unfold Gen.cc0__pf_kernel_skel pointBody pointSteps
  rw [Gen.k0_part81_eq_skeleton]
  unfold Gen.k0_part81_skel
  dsimp only
  rw [← hb]
  rfl

end Cert.KernelIdeal.Own

end
-- ==== Proof.Run.lean ====
/- The pieces of the kernel's clean program run on buffers held by their values. -/
module

public import proofs.«01_k».proof.Proof.Clean
public import proofs.«01_k».proof.Proof.Gen.KernelIdeal.Launch
public import Idealize.ShloMosaic.Lib.VecWindow
public import Idealize.ShloMosaic.Lib.Exec
public import Idealize.ShloMosaic.Lib.Ring
public import Idealize.ShloMosaic.Lib.Tactic
public import Idealize.ShloMosaic.Lib.Pipeline.FrameBody
public import Idealize.ShloMosaic.Lib.Pipeline.FrameSuffix
public import Idealize.ShloMosaic.Lib.Pipeline.Value

@[expose] public section

set_option maxRecDepth 65536

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

/-- The resource algebra of the launch. -/
local notation "𝕄" => MT nD τ sig Unit (Elt F) ℕ (UR sig nD τ) ℕ

/-- The gather leaves the particles at the chosen indices and the indices as they were. -/
theorem gather_wp (c : Dev nD) (arg6 : Memref sig .tc .vmem S32x1024 .f32) (arg9 : Memref sig .tc .vmem S1024x1 .i32)
    (v25 : IVec S1024x1024 32) (x : Vec F S32x1024 .f32) (ix : Vec F S1024x1 .i32) (E : Set ℕ) (K : Unit → sProp 𝕄) :
    iprop(owns (c : Thread nD τ) arg6 fullShare x ∗ owns (c : Thread nD τ) arg9 fullShare ix
      ∗ (iprop(owns (c : Thread nD τ) arg6 fullShare (gatherV v25 x ix) ∗ owns (c : Thread nD τ) arg9 fullShare ix) -∗ K ⟨⟩))
    ⊢ wp frame (wpE (defs₀ (F := F)) Variants.none c none) E (gatherBody arg6 arg9 v25) K := by
  unfold owns gatherBody
  iintro ⟨⟨%f6, %h6, H6⟩, ⟨%f9, %h9, H9⟩, Hk⟩
  sl_exec
  sl_step
  iapply Hk
  isplitl [H6]
  · iexists _; isplitr; swap; · iexact H6
    ipureintro
    rw [View.read_writes_full, View.readAt_full, View.readAt_full, h6, h9]
  iexists _; isplitr; swap; · iexact H9
  ipureintro; exact h9

/-- The noise of a step as one array: lane `p` belongs to chunk `p / 128`. -/
def noiseAll (b k0 k1 : BitVec 32) : FVec F S32x1024 .f32 := fun y =>
  noiseChunk b (BitVec.ofNat 32 (4096 * ((y 1).val / 128))) k0 k1 Gen.k0_pay713
    (fun a => match a with
      | ⟨0, _⟩ => ⟨(y 0).val, (y 0).isLt⟩
      | ⟨1, _⟩ => ⟨(y 1).val % 128, Nat.mod_lt _ (by decide)⟩)

/-- A lane of chunk `j` holds the chunk's noise. -/
theorem noiseAll_chunk (b k0 k1 : BitVec 32) (j : ℕ) (z : S32x128.Idx) (y : S32x1024.Idx)
    (h0 : (y 0).val = (z 0).val) (h1 : (y 1).val = 128 * j + (z 1).val) :
    noiseAll (F := F) b k0 k1 y = noiseChunk b (BitVec.ofNat 32 (4096 * j)) k0 k1 Gen.k0_pay713 z := by
  have hz : (z 1).val < 128 := (z 1).isLt
  have hd : (y 1).val / 128 = j := by omega
  unfold noiseAll
  rw [hd]
  congr 1
  funext a
  match a with
  | ⟨0, _⟩ => exact Fin.ext h0
  | ⟨1, _⟩ => exact Fin.ext (by show (y 1).val % 128 = (z 1).val; omega)

/-- The noise is left in its buffer, whatever was there. -/
theorem noise_wp (c : Dev nD) (arg7 : Memref sig .tc .vmem S32x1024 .f32) (b k0 k1 : BitVec 32)
    (x : Vec F S32x1024 .f32) (E : Set ℕ) (K : Unit → sProp 𝕄) :
    iprop(owns (c : Thread nD τ) arg7 fullShare x
      ∗ (owns (c : Thread nD τ) arg7 fullShare (noiseAll (F := F) b k0 k1) -∗ K ⟨⟩))
    ⊢ wp frame (wpE (defs₀ (F := F)) Variants.none c none) E (noiseBody arg7 b k0 k1) K := by
  unfold owns noiseBody
  iintro ⟨⟨%f7, %h7, H7⟩, Hk⟩
  sl_exec
  sl_step
  iapply Hk
  iexists _; isplitr; swap; · iexact H7
  ipureintro
  funext y
  refine View.read_writes_apply_of_pieces _ _ _ _ ?_ y (View.cover_of_tiledL _ ![32, 128] (by sl_kernel_rfl) y)
  intro p hp
  simp only [List.mem_cons, List.not_mem_nil, or_false] at hp
  rcases hp with rfl | rfl | rfl | rfl | rfl | rfl | rfl | rfl <;> intro z
  · exact (noiseAll_chunk b k0 k1 7 z _ (Nat.zero_add _ |>.trans (Nat.one_mul _)) (congrArg (896 + ·) (Nat.one_mul _))).symm
  · exact (noiseAll_chunk b k0 k1 6 z _ (Nat.zero_add _ |>.trans (Nat.one_mul _)) (congrArg (768 + ·) (Nat.one_mul _))).symm
  · exact (noiseAll_chunk b k0 k1 5 z _ (Nat.zero_add _ |>.trans (Nat.one_mul _)) (congrArg (640 + ·) (Nat.one_mul _))).symm
  · exact (noiseAll_chunk b k0 k1 4 z _ (Nat.zero_add _ |>.trans (Nat.one_mul _)) (congrArg (512 + ·) (Nat.one_mul _))).symm
  · exact (noiseAll_chunk b k0 k1 3 z _ (Nat.zero_add _ |>.trans (Nat.one_mul _)) (congrArg (384 + ·) (Nat.one_mul _))).symm
  · exact (noiseAll_chunk b k0 k1 2 z _ (Nat.zero_add _ |>.trans (Nat.one_mul _)) (congrArg (256 + ·) (Nat.one_mul _))).symm
  · exact (noiseAll_chunk b k0 k1 1 z _ (Nat.zero_add _ |>.trans (Nat.one_mul _)) (congrArg (128 + ·) (Nat.one_mul _))).symm
  · exact (noiseAll_chunk b k0 k1 0 z _ (Nat.zero_add _ |>.trans (Nat.one_mul _)) (congrArg (0 + ·) (Nat.one_mul _))).symm

/-- One trip over the tiles puts the tile's chosen indices in place. -/
theorem tile_wp (c : Dev nD) (arg9 : Memref sig .tc .vmem S1024x1 .i32) (arg10 : Memref sig .tc .vmem S128x128 .i32)
    (v24 : IVec S128x1 32) (v64 v66 : BitVec 32) (rw : FVec F S1x1024 .f32) (cbase : BitVec 32)
    (k : Fin k0_t2_loop.trips) (X : Vec F S1024x1 .i32) (C : Vec F S128x128 .i32) (E : Set ℕ) (K : Unit → sProp 𝕄) :
    iprop(owns (c : Thread nD τ) arg9 fullShare X ∗ owns (c : Thread nD τ) arg10 fullShare C
      ∗ (iprop(owns (c : Thread nD τ) arg9 fullShare (put X (k0_off4 k) S128x1.size
            (tileV v24 (tileBase cbase k) v64 v66 rw C C C C C C C C : IVec S128x1 32))
          ∗ owns (c : Thread nD τ) arg10 fullShare C) -∗ K ⟨⟩))
    ⊢ wp frame (wpE (defs₀ (F := F)) Variants.none c none) E (tileBody arg9 arg10 v24 v64 v66 rw cbase k) K := by
  unfold owns tileBody
  iintro ⟨⟨%f9, %h9, H9⟩, ⟨%f10, %h10, H10⟩, Hk⟩
  sl_exec
  sl_step
  iapply Hk
  isplitl [H9]
  · iexists _; isplitr; swap; · iexact H9
    ipureintro
    rw [View.read_writes_cons_put _ _ _ _ _ rfl, View.writes_nil, View.readAt_full, h10, h9]
  iexists _; isplitr; swap; · iexact H10
  ipureintro; exact h10

/-- The chosen indices after the tiles before `n`, over what was there at first. -/
def tilesV (v24 : IVec S128x1 32) (v64 v66 : BitVec 32) (rw : FVec F S1x1024 .f32) (cbase : BitVec 32)
    (C : IVec S128x128 32) (X : IVec S1024x1 32) : ℕ → IVec S1024x1 32
  | 0 => X
  | n + 1 => if h : n < k0_t2_loop.trips then
      put (tilesV v24 v64 v66 rw cbase C X n) (k0_off4 ⟨n, h⟩) S128x1.size
        (tileV v24 (tileBase cbase ⟨n, h⟩) v64 v66 rw C C C C C C C C)
    else tilesV v24 v64 v66 rw cbase C X n

/-- The number of tiles. -/
theorem trips_tiles : k0_t2_loop.trips = 8 := by decide +kernel

/-- The chosen indices of all the tiles: particle `p` belongs to tile `p / 128`. -/
def chosenV (v24 : IVec S128x1 32) (v64 v66 : BitVec 32) (rw : FVec F S1x1024 .f32) (cbase : BitVec 32)
    (C : IVec S128x128 32) : IVec S1024x1 32 := fun y =>
  tileV v24 (tileBase cbase ⟨(y 0).val / 128, by have : (y 0).val < 1024 := (y 0).isLt; rw [trips_tiles]; omega⟩) v64 v66 rw C C C C C C C C
    (fun a => match a with
      | ⟨0, _⟩ => ⟨(y 0).val % 128, Nat.mod_lt _ (by decide)⟩
      | ⟨1, _⟩ => ⟨0, Nat.one_pos⟩)

/-- The tiles before `n` hold their chosen indices. -/
theorem tilesV_apply (v24 : IVec S128x1 32) (v64 v66 : BitVec 32) (rw : FVec F S1x1024 .f32) (cbase : BitVec 32)
    (C : IVec S128x128 32) (X : IVec S1024x1 32) (n : ℕ) (hn : n ≤ 8) (y : S1024x1.Idx) (hy : (y 0).val < 128 * n) :
    tilesV v24 v64 v66 rw cbase C X n y = chosenV v24 v64 v66 rw cbase C y := by
  induction n with
  | zero => omega
  | succ n ih =>
    have hlt : n < k0_t2_loop.trips := by rw [trips_tiles]; omega
    have h1 : (y 1).val < 1 := (y 1).isLt
    rw [tilesV, dif_pos hlt]
    unfold put
    by_cases hin : 128 * n ≤ (y 0).val
    · have hc : ∀ a, k0_off4 ⟨n, hlt⟩ a ≤ (y a).val ∧ (y a).val < k0_off4 ⟨n, hlt⟩ a + S128x1.size a := by
        rw [k0_off4_eq]
        intro a
        match a with
        | ⟨0, _⟩ => exact ⟨hin, by show (y 0).val < 128 * n + 128; omega⟩
        | ⟨1, _⟩ => exact ⟨Nat.zero_le _, by show (y 1).val < 0 + 1; omega⟩
      rw [dif_pos hc]
      unfold chosenV
      have hd : (⟨(y 0).val / 128, by have : (y 0).val < 1024 := (y 0).isLt; rw [trips_tiles]; omega⟩ : Fin k0_t2_loop.trips) = ⟨n, hlt⟩ :=
        Fin.ext (by show (y 0).val / 128 = n; omega)
      rw [hd]
      congr 1
      funext a
      match a with
      | ⟨0, _⟩ =>
        refine Fin.ext ?_
        show (y 0).val - k0_off4 ⟨n, hlt⟩ 0 = (y 0).val % 128
        rw [k0_off4_eq]
        show (y 0).val - 128 * n = _
        omega
      | ⟨1, _⟩ =>
        refine Fin.ext ?_
        show (y 1).val - k0_off4 ⟨n, hlt⟩ 1 = 0
        omega
    · have hc : ¬ ∀ a, k0_off4 ⟨n, hlt⟩ a ≤ (y a).val ∧ (y a).val < k0_off4 ⟨n, hlt⟩ a + S128x1.size a := by
        rw [k0_off4_eq]
        intro hc
        have h0 : 128 * n ≤ (y 0).val := (hc ⟨0, Nat.zero_lt_succ 1⟩).1
        exact hin h0
      rw [dif_neg hc]
      exact ih (by omega) (by omega)

/-- After all the tiles nothing is left of what was there at first. -/
theorem tilesV_all (v24 : IVec S128x1 32) (v64 v66 : BitVec 32) (rw : FVec F S1x1024 .f32) (cbase : BitVec 32)
    (C : IVec S128x128 32) (X : IVec S1024x1 32) :
    tilesV v24 v64 v66 rw cbase C X k0_t2_loop.trips = chosenV v24 v64 v66 rw cbase C := by
  rw [trips_tiles]
  funext y
  exact tilesV_apply v24 v64 v66 rw cbase C X 8 (le_refl _) y (y 0).isLt

/-- The loop over the tiles: before trip `k` the tiles before `k` are in place. -/
def tilesInv (c : Dev nD) (arg9 : Memref sig .tc .vmem S1024x1 .i32) (arg10 : Memref sig .tc .vmem S128x128 .i32)
    (v24 : IVec S128x1 32) (v64 v66 : BitVec 32) (rw : FVec F S1x1024 .f32) (cbase : BitVec 32)
    (X : Vec F S1024x1 .i32) (C : Vec F S128x128 .i32) (n : ℕ) (_ : Unit) : sProp 𝕄 :=
  iprop(owns (c : Thread nD τ) arg9 fullShare (tilesV v24 v64 v66 rw cbase C X n) ∗ owns (c : Thread nD τ) arg10 fullShare C)

/-- One trip keeps the invariant. -/
theorem tilesInv_step (c : Dev nD) (E : Set ℕ) (arg9 : Memref sig .tc .vmem S1024x1 .i32) (arg10 : Memref sig .tc .vmem S128x128 .i32)
    (v24 : IVec S128x1 32) (v64 v66 : BitVec 32) (rw : FVec F S1x1024 .f32) (cbase : BitVec 32)
    (X : Vec F S1024x1 .i32) (C : Vec F S128x128 .i32) (k : Fin k0_t2_loop.trips) (a : Unit) :
    tilesInv (F := F) c arg9 arg10 v24 v64 v66 rw cbase X C k.val a
    ⊢ wp frame (wpE (defs₀ (F := F)) Variants.none c none) E (tileBody arg9 arg10 v24 v64 v66 rw cbase k)
        (tilesInv (F := F) c arg9 arg10 v24 v64 v66 rw cbase X C (k.val + 1)) := by
  unfold tilesInv
  iintro ⟨H9, H10⟩
  iapply tile_wp
  isplitl [H9]; · iexact H9
  isplitl [H10]; · iexact H10
  iintro ⟨H9, H10⟩
  isplitl [H9]
  · rw [tilesV, dif_pos k.isLt]; iexact H9
  iexact H10

/-- The particles, the weights and the chosen indices after the noise is added. -/
theorem weigh_wp (c : Dev nD) (arg4 : Memref sig .tc .vmem S1x20x32x1 .f32) (arg6 arg7 : Memref sig .tc .vmem S32x1024 .f32)
    (arg8 : Memref sig .tc .vmem S1x1024 .f32) (arg9 : Memref sig .tc .vmem S1024x1 .i32)
    (arg10 : Memref sig .tc .vmem S128x128 .i32) (b : BitVec 32) (v24 : IVec S128x1 32) (v64 v66 : BitVec 32)
    (k : Fin k0_t1_loop.trips) (o : Vec F S1x20x32x1 .f32) (x n : Vec F S32x1024 .f32) (w : Vec F S1x1024 .f32)
    (X : Vec F S1024x1 .i32) (C : Vec F S128x128 .i32) (E : Set ℕ) (K : Unit → sProp 𝕄) :
    iprop(owns (c : Thread nD τ) arg4 fullShare o ∗ owns (c : Thread nD τ) arg6 fullShare x ∗ owns (c : Thread nD τ) arg7 fullShare n
      ∗ owns (c : Thread nD τ) arg8 fullShare w ∗ owns (c : Thread nD τ) arg9 fullShare X ∗ owns (c : Thread nD τ) arg10 fullShare C
      ∗ (iprop(owns (c : Thread nD τ) arg4 fullShare o ∗ owns (c : Thread nD τ) arg6 fullShare (addf x n : FVec F S32x1024 .f32)
          ∗ owns (c : Thread nD τ) arg7 fullShare n
          ∗ owns (c : Thread nD τ) arg8 fullShare (weightsV (addf x n) (window o (k0_off3 k) S1x1x32x1.size (k0_off3_inb k)) w)
          ∗ owns (c : Thread nD τ) arg9 fullShare (chosenV v24 v64 v66
              (recipV (weightsV (addf x n) (window o (k0_off3 k) S1x1x32x1.size (k0_off3_inb k)) w)) (Scalar.muli b 1048576#32) C)
          ∗ owns (c : Thread nD τ) arg10 fullShare C) -∗ K ⟨⟩))
    ⊢ wp frame (wpE (defs₀ (F := F)) Variants.none c none) E (weighBody arg4 arg6 arg7 arg8 arg9 arg10 b v24 v64 v66 k) K := by
  unfold owns weighBody
  iintro ⟨⟨%f4, %h4, H4⟩, ⟨%f6, %h6, H6⟩, ⟨%f7, %h7, H7⟩, ⟨%f8, %h8, H8⟩, H9, H10, Hk⟩
  sl_exec
  iapply (Scf.wp_for_bind _ _ _ _ _ _ k0_t2_ok _ _ (tilesInv (F := F) c arg9 arg10 v24 v64 v66 _ _ X C)
    (tilesInv_step c E arg9 arg10 v24 v64 v66 _ _ X C)) $$ [H9 H10]
  · unfold tilesInv owns; isplitl [H9]; · iexact H9
    iexact H10
  iintro %acc HI
  unfold tilesInv owns
  icases HI with ⟨H9, H10⟩
  sl_exec
  sl_step
  have e4 : View.readAt (Elt F) arg4.view (Rect.unit (s := S1x20x32x1) (k0_off3 k) S1x1x32x1.size (k0_off3_inb k)).toLoadRect f4
      = window o (k0_off3 k) S1x1x32x1.size (k0_off3_inb k) := by
    rw [View.readAt_unit _ _ _ rfl (k0_off3_inb k), h4]
  have e8 : View.readAt (Elt F) arg8.view (Rect.unit (s := S1x1024) ![0, 0] S1x1024.size inb_S1x1024_S1x1024_0_0).toLoadRect f8 = w := by
    rw [View.readAt_full, h8]
  have ey : weigh_wp.sl.y c arg6 arg7 f6 f7 = (addf x n : FVec F S32x1024 .f32) := by
    unfold weigh_wp.sl.y
    unfold weigh_wp.sl.H6_1
    rw [View.readCov_full, View.readAt_full, View.readAt_full, h6, h7, shapeCast_self]
  rw [e4, e8, ey, tilesV_all]
  iapply Hk
  isplitl [H4]; · iexists _; isplitr; · ipureintro; exact h4
                  iexact H4
  isplitl [H6]
  · iexists _; isplitr; swap; · iexact H6
    ipureintro
    unfold weigh_wp.sl.H6_1
    rw [View.read_writes_full, View.readAt_full, View.readAt_full, h6, h7, shapeCast_self]
  isplitl [H7]; · iexists _; isplitr; · ipureintro; exact h7
                  iexact H7
  isplitl [H8]
  · iexists _; isplitr; swap; · iexact H8
    ipureintro
    unfold weigh_wp.sl.H8_1
    rw [View.read_writes_full, e4, e8, ey, shapeCast_self]
  isplitl [H9]; · iexact H9
  iexact H10

/-- What the steps carry from one to the next: the particles, their weights and the chosen indices. -/
structure Chain (F : FTy → Type) where
  parts : FVec F S32x1024 .f32
  wts : FVec F S1x1024 .f32
  minis : IVec S1024x1 32

variable (T1 T2 : IVec S20x2 32)

/-- Word `(t, j)` of a table of keys as the steps read it. -/
abbrev keyAt (T : IVec S20x2 32) (off : Fin 2 → ℕ) (inb : ∀ a, off a + S1x1.size a ≤ S20x2.size a) : BitVec 32 :=
  T ((Rect.unit (s := S20x2) off S1x1.size inb).emb (Shape.Idx.first (numel1_S1x1.symm ▸ Nat.one_pos)))

/-- The two tables of keys, held for reading. -/
def tables (c : Dev nD) : sProp 𝕄 :=
  iprop(((Memref.whole main_c : Memref sig .tc .smem S20x2 .i32).view.loc (c : Thread nD τ) ↦{fullShare.right} T1)
     ∗ ((Memref.whole main_c_0 : Memref sig .tc .smem S20x2 .i32).view.loc (c : Thread nD τ) ↦{fullShare.right} T2))

/-- A step reads its four key words and goes on with them. -/
theorem keys_wp (c : Dev nD) (k : Fin k0_t1_loop.trips) (P : BitVec 32 → BitVec 32 → BitVec 32 → BitVec 32 → Prog (TpuEff nD τ sig (Elt F) Λ₀ .tc) Unit)
    (E : Set ℕ) (K : Unit → sProp 𝕄) :
    iprop(tables T1 T2 c ∗ (tables T1 T2 c -∗ wp frame (wpE (defs₀ (F := F)) Variants.none c none) E
      (P (keyAt T1 (k0_off1 k) (k0_off1_inb k)) (keyAt T1 (k0_off2 k) (k0_off2_inb k))
        (keyAt T2 (k0_off1 k) (k0_off1_inb k)) (keyAt T2 (k0_off2 k) (k0_off2_inb k))) K))
    ⊢ wp frame (wpE (defs₀ (F := F)) Variants.none c none) E (do
        let n0 : Elt F .i32 ← smemLoad (Memref.whole main_c) (Rect.unit (s := S20x2) (k0_off1 k) S1x1.size (k0_off1_inb k)) numel1_S1x1 rfl
        let n1 : Elt F .i32 ← smemLoad (Memref.whole main_c) (Rect.unit (s := S20x2) (k0_off2 k) S1x1.size (k0_off2_inb k)) numel1_S1x1 rfl
        let r0 : Elt F .i32 ← smemLoad (Memref.whole main_c_0) (Rect.unit (s := S20x2) (k0_off1 k) S1x1.size (k0_off1_inb k)) numel1_S1x1 rfl
        let r1 : Elt F .i32 ← smemLoad (Memref.whole main_c_0) (Rect.unit (s := S20x2) (k0_off2 k) S1x1.size (k0_off2_inb k)) numel1_S1x1 rfl
        P n0 n1 r0 r1) K := by
  unfold tables
  iintro ⟨⟨H1, H2⟩, Hk⟩
  sl_exec
  iapply Hk
  isplitl [H1]; · iexact H1
  iexact H2

/-- The particles a step starts from, moved by its noise. -/
def movedV (n0 n1 b : BitVec 32) (x : FVec F S32x1024 .f32) : FVec F S32x1024 .f32 := addf x (noiseAll b n0 n1)

/-- The weights a step leaves. -/
def stepW (k : Fin k0_t1_loop.trips) (o : FVec F S1x20x32x1 .f32) (x : FVec F S32x1024 .f32) (w : FVec F S1x1024 .f32) :
    FVec F S1x1024 .f32 :=
  weightsV x (window o (k0_off3 k) S1x1x32x1.size (k0_off3_inb k)) w

/-- One step on what the steps carry. -/
def stepC (i : grid0.Coords) (o : FVec F S1x20x32x1 .f32) (C : IVec S128x128 32) (k : Fin k0_t1_loop.trips) (s : Chain F) : Chain F :=
  let b : BitVec 32 := BitVec.ofNat 32 (i 0).val
  let x : FVec F S32x1024 .f32 := if notFirst k = 1#1 then
    gatherV (iota .tc S1024x1024 32 [1] iota_S1024x1024_d1_w32) s.parts s.minis else s.parts
  let y := movedV (keyAt T1 (k0_off1 k) (k0_off1_inb k)) (keyAt T1 (k0_off2 k) (k0_off2_inb k)) b x
  { parts := y
    wts := stepW k o y s.wts
    minis := chosenV (iota .tc S128x1 32 [0] iota_S128x1_d0_w32)
      (keyAt T2 (k0_off1 k) (k0_off1_inb k)) (keyAt T2 (k0_off2 k) (k0_off2_inb k))
      (recipV (stepW k o y s.wts)) (Scalar.muli b 1048576#32) C }

/-- What the steps hold: the tables, the block of observations, the carried values and the noise's buffer. -/
def held (c : Dev nD) (arg4 : Memref sig .tc .vmem S1x20x32x1 .f32) (arg6 arg7 : Memref sig .tc .vmem S32x1024 .f32)
    (arg8 : Memref sig .tc .vmem S1x1024 .f32) (arg9 : Memref sig .tc .vmem S1024x1 .i32)
    (arg10 : Memref sig .tc .vmem S128x128 .i32) (o : FVec F S1x20x32x1 .f32) (C : IVec S128x128 32) (s : Chain F) : sProp 𝕄 :=
  iprop(tables T1 T2 c ∗ owns (c : Thread nD τ) arg4 fullShare o ∗ owns (c : Thread nD τ) arg6 fullShare s.parts
    ∗ (∃ n, owns (c : Thread nD τ) arg7 fullShare n) ∗ owns (c : Thread nD τ) arg8 fullShare s.wts
    ∗ owns (c : Thread nD τ) arg9 fullShare s.minis ∗ owns (c : Thread nD τ) arg10 fullShare C)

/-- One trip of the steps. -/
theorem step_wp (c : Dev nD) (i : grid0.Coords) (arg4 : Memref sig .tc .vmem S1x20x32x1 .f32) (arg6 arg7 : Memref sig .tc .vmem S32x1024 .f32)
    (arg8 : Memref sig .tc .vmem S1x1024 .f32) (arg9 : Memref sig .tc .vmem S1024x1 .i32)
    (arg10 : Memref sig .tc .vmem S128x128 .i32) (o : FVec F S1x20x32x1 .f32) (C : IVec S128x128 32)
    (k : Fin k0_t1_loop.trips) (s : Chain F) (E : Set ℕ) :
    held T1 T2 c arg4 arg6 arg7 arg8 arg9 arg10 o C s
    ⊢ wp frame (wpE (defs₀ (F := F)) Variants.none c none) E
      (stepBody (Memref.whole main_c) (Memref.whole main_c_0) arg4 arg6 arg7 arg8 arg9 arg10 (BitVec.ofNat 32 (i 0).val)
        (iota .tc S128x1 32 [0] iota_S128x1_d0_w32) (iota .tc S1024x1024 32 [1] iota_S1024x1024_d1_w32) k)
      (fun _ => held T1 T2 c arg4 arg6 arg7 arg8 arg9 arg10 o C (stepC T1 T2 i o C k s)) := by
  unfold held stepBody
  by_cases h : notFirst k = 1#1
  · rw [if_pos h]
    unfold stepPos
    iintro ⟨HT, H4, H6, ⟨%n, H7⟩, H8, H9, H10⟩
    iapply keys_wp
    isplitl [HT]; · iexact HT
    iintro HT
    rw [wp_bind]
    iapply gather_wp
    isplitl [H6]; · iexact H6
    isplitl [H9]; · iexact H9
    iintro ⟨H6, H9⟩
    rw [wp_bind]
    iapply noise_wp
    isplitl [H7]; · iexact H7
    iintro H7
    iapply weigh_wp
    isplitl [H4]; · iexact H4
    isplitl [H6]; · iexact H6
    isplitl [H7]; · iexact H7
    isplitl [H8]; · iexact H8
    isplitl [H9]; · iexact H9
    isplitl [H10]; · iexact H10
    iintro ⟨H4, H6, H7, H8, H9, H10⟩
    simp only [stepC, if_pos h]
    isplitl [HT]; · iexact HT
    isplitl [H4]; · iexact H4
    isplitl [H6]; · iexact H6
    isplitl [H7]; · iexists _; iexact H7
    isplitl [H8]; · iexact H8
    isplitl [H9]; · iexact H9
    iexact H10
  · rw [if_neg h]
    unfold stepNeg
    iintro ⟨HT, H4, H6, ⟨%n, H7⟩, H8, H9, H10⟩
    iapply keys_wp
    isplitl [HT]; · iexact HT
    iintro HT
    rw [wp_bind]
    iapply noise_wp
    isplitl [H7]; · iexact H7
    iintro H7
    iapply weigh_wp
    isplitl [H4]; · iexact H4
    isplitl [H6]; · iexact H6
    isplitl [H7]; · iexact H7
    isplitl [H8]; · iexact H8
    isplitl [H9]; · iexact H9
    isplitl [H10]; · iexact H10
    iintro ⟨H4, H6, H7, H8, H9, H10⟩
    simp only [stepC, if_neg h]
    isplitl [HT]; · iexact HT
    isplitl [H4]; · iexact H4
    isplitl [H6]; · iexact H6
    isplitl [H7]; · iexists _; iexact H7
    isplitl [H8]; · iexact H8
    isplitl [H9]; · iexact H9
    iexact H10

end Cert.KernelIdeal.Own

end
-- ==== Proof.Point.lean ====
/- The kernel's clean program run on one grid point: the twenty steps, and the block of the result it leaves. -/
module

public import proofs.«01_k».proof.Proof.Run

@[expose] public section

set_option maxRecDepth 65536

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

/-- The resource algebra of the launch. -/
local notation "𝕄" => MT nD τ sig Unit (Elt F) ℕ (UR sig nD τ) ℕ

variable (T1 T2 : IVec S20x2 32)

/-- What the steps start from: every particle at `z`, every weight `1/1024`. -/
def chain0 (z : FVec F S1x32x1 .f32) (X : IVec S1024x1 32) : Chain F := ⟨Gen.k0_pay711 z, Gen.k0_pay712, X⟩

/-- What is carried after `n` steps. -/
def chainAt (i : grid0.Coords) (z : FVec F S1x32x1 .f32) (o : FVec F S1x20x32x1 .f32) (X : IVec S1024x1 32) : ℕ → Chain F
  | 0 => chain0 z X
  | n + 1 => if h : n < k0_t1_loop.trips then stepC T1 T2 i o Gen.k0_pay714 ⟨n, h⟩ (chainAt i z o X n) else chainAt i z o X n

/-- The number of steps. -/
theorem trips_steps : k0_t1_loop.trips = 20 := by decide +kernel

/-- The first trip alone is the first. -/
theorem notFirst_iff : ∀ k : Fin k0_t1_loop.trips, notFirst k = 1#1 ↔ k.val ≠ 0 := by decide +kernel

/-- From the first step on nothing depends on the indices found in the scratch buffer. -/
theorem chainAt_succ_indep (i : grid0.Coords) (z : FVec F S1x32x1 .f32) (o : FVec F S1x20x32x1 .f32) (X X' : IVec S1024x1 32) (n : ℕ) :
    chainAt T1 T2 i z o X (n + 1) = chainAt T1 T2 i z o X' (n + 1) := by
  induction n with
  | zero =>
    have h : 0 < k0_t1_loop.trips := by rw [trips_steps]; omega
    have hn : ¬ notFirst ⟨0, h⟩ = 1#1 := fun hh => ((notFirst_iff ⟨0, h⟩).mp hh) rfl
    simp only [chainAt, dif_pos h, stepC, if_neg hn, chain0]
  | succ n ih => rw [chainAt, chainAt.eq_2 T1 T2 i z o X' (n + 1), ih]

/-- The block of the result at a grid point. -/
def pointV (i : grid0.Coords) (z : FVec F S1x32x1 .f32) (o : FVec F S1x20x32x1 .f32) : FVec F S1x32x1 .f32 :=
  let s := chainAt T1 T2 i z o (fun _ => 0#32) 20
  meanV (gatherV (iota .tc S1024x1024 32 [1] iota_S1024x1024_d1_w32) s.parts s.minis)

/-- The kernel on one grid point: the block of the result is written, the blocks it reads are as they were. -/
theorem point_wp (c : Dev nD) (i : grid0.Coords) (arg3 : Memref sig .tc .vmem S1x32x1 .f32) (arg4 : Memref sig .tc .vmem S1x20x32x1 .f32)
    (arg5 : Memref sig .tc .vmem S1x32x1 .f32) (arg6 arg7 : Memref sig .tc .vmem S32x1024 .f32)
    (arg8 : Memref sig .tc .vmem S1x1024 .f32) (arg9 : Memref sig .tc .vmem S1024x1 .i32)
    (arg10 : Memref sig .tc .vmem S128x128 .i32) (z : FVec F S1x32x1 .f32) (o : FVec F S1x20x32x1 .f32) (E : Set ℕ) (K : Unit → sProp 𝕄) :
    iprop(owns (c : Thread nD τ) arg3 fullShare z ∗ owns (c : Thread nD τ) arg4 fullShare o
      ∗ (∃ d, owns (c : Thread nD τ) arg5 fullShare d) ∗ (∃ d, owns (c : Thread nD τ) arg6 fullShare d)
      ∗ (∃ d, owns (c : Thread nD τ) arg7 fullShare d) ∗ (∃ d, owns (c : Thread nD τ) arg8 fullShare d)
      ∗ (∃ d, owns (c : Thread nD τ) arg9 fullShare d) ∗ (∃ d, owns (c : Thread nD τ) arg10 fullShare d)
      ∗ tables T1 T2 c
      ∗ (iprop(owns (c : Thread nD τ) arg3 fullShare z ∗ owns (c : Thread nD τ) arg4 fullShare o
          ∗ owns (c : Thread nD τ) arg5 fullShare (pointV T1 T2 i z o) ∗ (∃ d, owns (c : Thread nD τ) arg6 fullShare d)
          ∗ (∃ d, owns (c : Thread nD τ) arg7 fullShare d) ∗ (∃ d, owns (c : Thread nD τ) arg8 fullShare d)
          ∗ (∃ d, owns (c : Thread nD τ) arg9 fullShare d) ∗ (∃ d, owns (c : Thread nD τ) arg10 fullShare d)
          ∗ tables T1 T2 c) -∗ K ⟨⟩))
    ⊢ wp frame (wpE (defs₀ (F := F)) Variants.none c none) E
      (pointBody i (Memref.whole main_c) (Memref.whole main_c_0) arg3 arg4 arg5 arg6 arg7 arg8 arg9 arg10) K := by
  have hstep : ∀ (X : IVec S1024x1 32) (k : Fin k0_t1_loop.trips) (a : Unit),
      held T1 T2 c arg4 arg6 arg7 arg8 arg9 arg10 o Gen.k0_pay714 (chainAt T1 T2 i z o X k.val)
      ⊢ wp frame (wpE (defs₀ (F := F)) Variants.none c none) E
        (stepBody (Memref.whole main_c) (Memref.whole main_c_0) arg4 arg6 arg7 arg8 arg9 arg10 (BitVec.ofNat 32 (i 0).val)
          (iota .tc S128x1 32 [0] iota_S128x1_d0_w32) (iota .tc S1024x1024 32 [1] iota_S1024x1024_d1_w32) k)
        (fun _ => held T1 T2 c arg4 arg6 arg7 arg8 arg9 arg10 o Gen.k0_pay714 (chainAt T1 T2 i z o X (k.val + 1))) := by
    intro X k a
    rw [chainAt, dif_pos k.isLt]
    exact step_wp T1 T2 c i arg4 arg6 arg7 arg8 arg9 arg10 o Gen.k0_pay714 k _ E
  unfold owns pointBody pointSteps
  iintro ⟨H3, H4, ⟨%d5, H5⟩, ⟨%d6, %f6, -, H6⟩, H7, ⟨%d8, %f8, -, H8⟩, ⟨%X, H9⟩, ⟨%d10, %f10, -, H10⟩, HT, Hk⟩
  icases H3 with ⟨%f3, %h3, H3⟩
  sl_exec
  rw [wp_bind]
  iapply (Scf.wp_for_bind _ _ _ _ _ _ k0_t1_ok _ _ (fun n _ => held T1 T2 c arg4 arg6 arg7 arg8 arg9 arg10 o Gen.k0_pay714 (chainAt T1 T2 i z o X n))
    (hstep X)) $$ [HT H4 H6 H7 H8 H9 H10]
  · unfold held owns
    isplitl [HT]; · iexact HT
    isplitl [H4]; · iexact H4
    isplitl [H6]
    · iexists _; isplitr; swap; · iexact H6
      ipureintro
      rw [View.read_writes_full, View.readAt_full, h3]
      rfl
    isplitl [H7]; · iexact H7
    isplitl [H8]
    · iexists _; isplitr; swap; · iexact H8
      ipureintro
      rw [View.read_writes_full]
      rfl
    isplitl [H9]; · iexact H9
    iexists _; isplitr; swap; · iexact H10
    ipureintro
    rw [View.read_writes_full]
  iintro %acc HI
  rw [show chainAt T1 T2 i z o X k0_t1_loop.trips = chainAt T1 T2 i z o (fun _ => 0#32) 20 from by
    rw [trips_steps]; exact chainAt_succ_indep T1 T2 i z o X _ 19]
  unfold held owns
  icases HI with ⟨HT, H4, ⟨%g6, %e6, H6⟩, H7, H8, ⟨%g9, %e9, H9⟩, H10⟩
  icases H5 with ⟨%f5, -, H5⟩
  sl_exec
  sl_step
  iapply Hk
  isplitl [H3]; · iexists _; isplitr; · ipureintro; exact h3
                  iexact H3
  isplitl [H4]; · iexact H4
  isplitl [H5]
  · iexists _; isplitr; swap; · iexact H5
    ipureintro
    rw [View.read_writes_full]
    unfold pointV gatherV point_wp.sl.x
    unfold point_wp.sl.H6_1
    unfold point_wp.sl.r_1 point_wp.sl.r
    rw [View.readCov_full, View.readAt_full, View.readAt_full, e6, e9]
  isplitl [H6]
  · iexists _; iexists _; isplitr; swap; · iexact H6
    ipureintro; rfl
  isplitl [H7]; · iexact H7
  isplitl [H8]; · iexists _; iexact H8
  isplitl [H9]
  · iexists _; iexists _; isplitr; · ipureintro; exact e9
    iexact H9
  isplitl [H10]; · iexists _; iexact H10
  iexact HT

/-- The kernel's own text on one grid point: the block of the result is written, the blocks it reads are as they were. -/
theorem kernel_wp (c : Dev nD) (i : grid0.Coords) (arg3 : Memref sig .tc .vmem S1x32x1 .f32) (harg3 : arg3.IsWhole) (arg4 : Memref sig .tc .vmem S1x20x32x1 .f32) (harg4 : arg4.IsWhole)
    (arg5 : Memref sig .tc .vmem S1x32x1 .f32) (harg5 : arg5.IsWhole) (arg6 : Memref sig .tc .vmem S32x1024 .f32) (harg6 : arg6.IsWhole)
    (arg7 : Memref sig .tc .vmem S32x1024 .f32) (harg7 : arg7.IsWhole)
    (arg8 : Memref sig .tc .vmem S1x1024 .f32) (harg8 : arg8.IsWhole) (arg9 : Memref sig .tc .vmem S1024x1 .i32) (harg9 : arg9.IsWhole)
    (arg10 : Memref sig .tc .vmem S128x128 .i32) (harg10 : arg10.IsWhole) (z : FVec F S1x32x1 .f32) (o : FVec F S1x20x32x1 .f32) (E : Set ℕ) (K : Unit → sProp 𝕄) :
    iprop(owns (c : Thread nD τ) arg3 fullShare z ∗ owns (c : Thread nD τ) arg4 fullShare o
      ∗ (∃ d, owns (c : Thread nD τ) arg5 fullShare d) ∗ (∃ d, owns (c : Thread nD τ) arg6 fullShare d)
      ∗ (∃ d, owns (c : Thread nD τ) arg7 fullShare d) ∗ (∃ d, owns (c : Thread nD τ) arg8 fullShare d)
      ∗ (∃ d, owns (c : Thread nD τ) arg9 fullShare d) ∗ (∃ d, owns (c : Thread nD τ) arg10 fullShare d)
      ∗ tables T1 T2 c
      ∗ (iprop(owns (c : Thread nD τ) arg3 fullShare z ∗ owns (c : Thread nD τ) arg4 fullShare o
          ∗ owns (c : Thread nD τ) arg5 fullShare (pointV T1 T2 i z o) ∗ (∃ d, owns (c : Thread nD τ) arg6 fullShare d)
          ∗ (∃ d, owns (c : Thread nD τ) arg7 fullShare d) ∗ (∃ d, owns (c : Thread nD τ) arg8 fullShare d)
          ∗ (∃ d, owns (c : Thread nD τ) arg9 fullShare d) ∗ (∃ d, owns (c : Thread nD τ) arg10 fullShare d)
          ∗ tables T1 T2 c) -∗ K ⟨⟩))
    ⊢ wp frame (wpE (defs₀ (F := F)) Variants.none c none) E
      (cc0__pf_kernel i (Memref.whole main_c) (Memref.isWhole_whole _) (Memref.whole main_c_0) (Memref.isWhole_whole _) arg3 harg3 arg4 harg4 arg5 harg5
        arg6 harg6 arg7 harg7 arg8 harg8 arg9 harg9 arg10 harg10) K := by
  rw [kernel_eq]
  exact point_wp T1 T2 c i arg3 arg4 arg5 arg6 arg7 arg8 arg9 arg10 z o E K

end Cert.KernelIdeal.Own

end
-- ==== Proof.Launch.lean ====
/- The launch of the kernel: the pipeline around it run with the values each grid point leaves, and the frame. -/
module

public import proofs.«01_k».proof.Proof.Point
public import proofs.«01_k».proof.Proof.Gen.KernelIdeal.Launch
public import Idealize.ShloMosaic.Lib.Pipeline.Kit
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the launch. -/
local notation "𝕄" => MT nD τ sig Unit (Elt F) ℕ (UR sig nD τ) ℕ

/-- Window 2 (result 0 (%3)) is written back at every point, at any contents of the tables (its index map reads none). -/
theorem flush0_2 (a : (pcfg0 (F := F)).Adm) : ∀ t : Fin (cfg0 a).N, ((cfg0 a).win 2).flush t = true :=
  (fun t => (Pipeline.Window.flushOf_reads cc0_transform_2 reads0_2 hreads0_2 0 (by decide) (by decide) (Pipeline.Window.sep_of_coord cc0_transform_2 0 0 (fun _ => rfl) (by decide)) (P := 1) (m := 0) (by decide) rfl t).mpr (Nat.mod_one _) : ∀ t : Fin grid0.N, Pipeline.Window.flushOf grid0 true cc0_transform_2 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__pf_kernel (grid0.coords t) (Memref.whole main_c) (Memref.isWhole_whole _) (Memref.whole main_c_0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S20x2 .i32 := Memref.whole main_c
abbrev htbM0_0 : tbM0_0.IsWhole := Memref.isWhole_whole _
abbrev tbM0_1 : Memref sig .tc .smem S20x2 .i32 := Memref.whole main_c_0
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The same as the kernel's triple holds them. -/
theorem PhiT0_tables (c : Dev nD) : (Pipeline.ΦT pre0 (tbl m) c : sProp 𝕄) = tables (tbl m 0) (tbl m 1) c := by
  rw [PhiT0_eq]; rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c))⟩) h

/-- Each window's current staging memref at point `t`, spelled as the pipeline passes it (`bodyAt0`), and its wholeness. -/
abbrev ms0_0 (hO : Ok m) (t : Fin (cfgM m hO).N) : Memref sig .tc .vmem S1x32x1 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x20x32x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x32x1 .f32 := spec0_2.stage ((cfgM m hO).slots t 2)
abbrev hs0_2 (hO : Ok m) (t : Fin (cfgM m hO).N) : (ms0_2 m hO t).IsWhole := hstage0_2 (((cfgM m hO).slots t 2).cast nbuf0_2)
/-- The scratch operands: whole scoped buffers of the kernel's own, passed beside the windows. -/
abbrev scM0_0 : Memref sig .tc .vmem S32x1024 .f32 := Memref.whole cc0_scratch0
abbrev scM0_1 : Memref sig .tc .vmem S32x1024 .f32 := Memref.whole cc0_scratch1
abbrev scM0_2 : Memref sig .tc .vmem S1x1024 .f32 := Memref.whole cc0_scratch2
abbrev scM0_3 : Memref sig .tc .vmem S1024x1 .i32 := Memref.whole cc0_scratch3
abbrev scM0_4 : Memref sig .tc .vmem S128x128 .i32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## What the outputs hold after each point -/

/-- What the body leaves in the result's block at point `t`. -/
def outsAt0 (hO : Ok m) (c : Dev nD) (t : Fin (cfgM m hO).N) : Vec F S1x32x1 .f32 :=
  pointV (tbl m 0) (tbl m 1) (grid0.coords t) (iblk m hO c 0 t) (iblk m hO c 1 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_tables, PhiA0_eq]
  unfold outsAt0
  iintro ⟨⟨⟨⟨HS0, HS1, HS2, HS3, HS4⟩, Hg⟩, HT⟩, Ho, ⟨%d0, H0⟩, ⟨%d1, H1⟩, ⟨%d2, H2⟩⟩
  iapply (kernel_wp (tbl m 0) (tbl m 1) c (grid0.coords t) (ms0_0 m hO t) (hs0_0 m hO t) (ms0_1 m hO t) (hs0_1 m hO t) (ms0_2 m hO t) (hs0_2 m hO t)
    scM0_0 (Memref.isWhole_whole _) scM0_1 (Memref.isWhole_whole _) scM0_2 (Memref.isWhole_whole _) scM0_3 (Memref.isWhole_whole _) scM0_4 (Memref.isWhole_whole _)
    (iblk m hO c 0 t) (iblk m hO c 1 t) Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  isplitl [HS4]; · iexact HS4
  isplitl [HT]; · iexact HT
  iintro ⟨H0, H1, H2, HS0, HS1, HS2, HS3, HS4, HT⟩
  isplitl [HS0 HS1 HS2 HS3 HS4 Hg HT]
  · isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    iexact HT
  isplitl [Ho]; · iexact Ho
  isplitl [H0]; · iexact H0
  isplitl [H1]; · iexact H1
  iexact H2

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ hO (dats m hO) (A_eq m hO) (run_main m ρ hO)

/-- The frame at any reading of the floats: every run ends, the argument arrays end unchanged, and every semaphore
    counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ hO) ((θ_run defs _ _).mono (fun _ h => h.2) (run_main_quiescent m ρ hO))

end Cert.KernelIdeal.Own

end
-- ==== Proof.KernelFrame.lean ====
/- The frame of the kernel at machine words: its text is the text the other modules speak of, which hold at any floats. -/
module

public import proofs.«01_k».proof.Proof.Launch
public import proofs.«01_k».proof.Proof.Gen.Kernel.Launch
public import Idealize.ShloMosaic.PureOps.BitExact

@[expose] public section

noncomputable section

namespace Cert.Kernel.Own

open Cert.Kernel
open Idealize.ShloMosaic Idealize.ShloMosaic.TcCoe Idealize.ShloMosaic.Tactic Idealize.SL.Sem

/-- THE FRAME of the kernel at machine words: every execution terminates, the arguments unchanged, every semaphore counter zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have h := Cert.KernelIdeal.Own.frame (F := Bits) m ρ trivial
  refine Eq.mp ?_ h
  sl_kernel_rfl

end Cert.Kernel.Own

end
-- ==== Proof.RefFrame.lean ====
/- The frame of the reference: its run, with every semaphore counter at zero because the program has no semaphore. -/
module

public import proofs.«01_k».proof.Proof.Gen.ReferenceIdeal.StepRun

@[expose] public section

noncomputable section

namespace Cert.ReferenceIdeal.Own

open Cert.ReferenceIdeal
open Idealize.ShloMosaic Idealize.ShloMosaic.TcCoe Idealize.SL.Sem

variable {F : FTy → Type} [FloatOps F]

/-- The reference has no semaphore. -/
theorem no_sem (g : GSem nD τ sig) : False := by
  obtain ⟨_, s⟩ := g
  cases s with
  | _ s => exact nomatch s

/-- THE FRAME of the reference: every execution terminates, the arguments unchanged, every semaphore counter zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, funext fun g => (no_sem g).elim⟩) (Value.run m ρ)

end Cert.ReferenceIdeal.Own

end
-- ==== Proof.Words.lean ====
/- The counter hash, the uniform and the normal deviate at one lane: words in, an extended real out. Both
   programs are read against these. -/
module

public import Idealize.ShloMosaic.PureOps.Ideal
public import Idealize.ShloMosaic.PureOps.Ideal.Laws

@[expose] public section

noncomputable section

namespace Cert.Filter

open Idealize.ShloMosaic

/-- A word rotated left by `r` (and right by `q = 32 - r`). -/
def rotW (r q x : BitVec 32) : BitVec 32 := (x <<< r) ||| (x >>> q)

/-- One round of the hash, handing its two words on to `f`. -/
def mixW {α : Type} (r q x0 x1 : BitVec 32) (f : BitVec 32 → BitVec 32 → α) : α :=
  f (x0 + x1) (rotW r q x1 ^^^ (x0 + x1))

/-- A key injection with the key's words already summed. -/
def keyW {α : Type} (a b x0 x1 : BitVec 32) (f : BitVec 32 → BitVec 32 → α) : α :=
  f (x0 + a) (x1 + b)

/-- A key injection that adds the key's word and the group's number one after the other. -/
def injW {α : Type} (a b n x0 x1 : BitVec 32) (f : BitVec 32 → BitVec 32 → α) : α :=
  f (x0 + a) ((x1 + b) + n)

/-- The first kind of group of four rounds. -/
def groupA {α : Type} (x0 x1 : BitVec 32) (f : BitVec 32 → BitVec 32 → α) : α :=
  mixW 13#32 19#32 x0 x1 fun x0 x1 => mixW 15#32 17#32 x0 x1 fun x0 x1 =>
  mixW 26#32 6#32 x0 x1 fun x0 x1 => mixW 6#32 26#32 x0 x1 f

/-- The second kind of group of four rounds. -/
def groupB {α : Type} (x0 x1 : BitVec 32) (f : BitVec 32 → BitVec 32 → α) : α :=
  mixW 17#32 15#32 x0 x1 fun x0 x1 => mixW 29#32 3#32 x0 x1 fun x0 x1 =>
  mixW 16#32 16#32 x0 x1 fun x0 x1 => mixW 24#32 8#32 x0 x1 f

/-- The third word of the key. -/
def third (k0 k1 : BitVec 32) : BitVec 32 := (k0 ^^^ k1) ^^^ 466688986#32

/-- The threefry hash of the two words `c0, c1` under the key `(k0, k1)` with third word `k2`. -/
def threefry3 {α : Type} (k0 k1 k2 c0 c1 : BitVec 32) (f : BitVec 32 → BitVec 32 → α) : α :=
  groupA (c0 + k0) (c1 + k1) fun x0 x1 =>
  injW k1 k2 1#32 x0 x1 fun x0 x1 => groupB x0 x1 fun x0 x1 =>
  injW k2 k0 2#32 x0 x1 fun x0 x1 => groupA x0 x1 fun x0 x1 =>
  injW k0 k1 3#32 x0 x1 fun x0 x1 => groupB x0 x1 fun x0 x1 =>
  injW k1 k2 4#32 x0 x1 fun x0 x1 => groupA x0 x1 fun x0 x1 =>
  injW k2 k0 5#32 x0 x1 f

/-- The threefry hash of the two words `c0, c1` under the key `(k0, k1)`. -/
def threefry {α : Type} (k0 k1 c0 c1 : BitVec 32) (f : BitVec 32 → BitVec 32 → α) : α :=
  threefry3 k0 k1 (third k0 k1) c0 c1 f

/-- The random bits of a counter under a key. -/
def bitsW (k0 k1 c : BitVec 32) : BitVec 32 := threefry k0 k1 0#32 c fun a b => a ^^^ b

/-- The same hash as the kernel orders its additions. -/
def hashW (k0 k1 c : BitVec 32) : BitVec 32 :=
  let x1 := c + k1
  let x0 := x1 + k0
  let y1 := rotW 13#32 19#32 x1 ^^^ x0
  mixW 15#32 17#32 x0 y1 fun x0 x1 => mixW 26#32 6#32 x0 x1 fun x0 x1 =>
  mixW 6#32 26#32 x0 x1 fun x0 x1 =>
  keyW k1 (third k0 k1 + 1#32) x0 x1 fun x0 x1 => groupB x0 x1 fun x0 x1 =>
  keyW (third k0 k1) (k0 + 2#32) x0 x1 fun x0 x1 => groupA x0 x1 fun x0 x1 =>
  keyW k0 (k1 + 3#32) x0 x1 fun x0 x1 => groupB x0 x1 fun x0 x1 =>
  keyW k1 (third k0 k1 + 4#32) x0 x1 fun x0 x1 => groupA x0 x1 fun x0 x1 =>
  keyW (third k0 k1) (k0 + 5#32) x0 x1 fun x0 x1 => x0 ^^^ x1

theorem injW_eq {α : Type} (a b n x0 x1 : BitVec 32) (f : BitVec 32 → BitVec 32 → α) :
    injW a b n x0 x1 f = keyW a (b + n) x0 x1 f := by
  unfold injW keyW; rw [BitVec.add_assoc]

/-- The two orders of the hash's additions give the same word. -/
theorem hashW_eq (k0 k1 c : BitVec 32) : hashW k0 k1 c = bitsW k0 k1 c := by
  unfold bitsW threefry threefry3
  simp only [injW_eq]
  have h : 0#32 + k0 + (c + k1) = c + k1 + k0 := by
    rw [BitVec.zero_add, BitVec.add_comm]
  conv_rhs => unfold groupA; unfold mixW; rw [h]
  rfl

/-- The two words of the key of the noise of step `j`, and of the key of its resampling. -/
def noiseKey0 (j : ℕ) : BitVec 32 :=
  threefry 0#32 42#32 0#32 (2#32 * BitVec.ofNat 32 j + 0#32) fun a _ => a
def noiseKey1 (j : ℕ) : BitVec 32 :=
  threefry 0#32 42#32 0#32 (2#32 * BitVec.ofNat 32 j + 0#32) fun _ b => b
def drawKey0 (j : ℕ) : BitVec 32 :=
  threefry 0#32 42#32 0#32 (2#32 * BitVec.ofNat 32 j + 1#32) fun a _ => a
def drawKey1 (j : ℕ) : BitVec 32 :=
  threefry 0#32 42#32 0#32 (2#32 * BitVec.ofNat 32 j + 1#32) fun _ b => b

section Floats

variable (F : FTy → Type) [FloatOps F]

/-- The float of a constant's word. -/
abbrev cst (b : BitVec 32) : F .f32 := FloatOps.ofBits .f32 b

/-- The number of `[0, 1)` whose leading bits are the given word's. -/
def unitW (h : BitVec 32) : F .f32 :=
  FloatOps.subf (cst F ((h >>> 9#32) ||| 1065353216#32)) (cst F 0x3F800000#32)

/-- The number of `(-1, 1)` the normal deviate is made from. -/
def symW (h : BitVec 32) : F .f32 :=
  FloatOps.addf (FloatOps.mulf (unitW F h) (cst F 0x40000000#32)) (cst F 0xBF7FFFFF#32)

/-- A step of Horner's rule. -/
def hornerW (w : F .f32) (c : BitVec 32) (a : F .f32) : F .f32 :=
  FloatOps.addf (FloatOps.mulf a w) (cst F c)

/-- The central polynomial of the inverse error function. -/
def centralW (w : F .f32) : F .f32 :=
  hornerW F w 0x3FC02E2F#32 <| hornerW F w 0x3E7C8F63#32 <| hornerW F w 0xBB88E4EF#32 <|
  hornerW F w 0xBAA45408#32 <| hornerW F w 0x396532DB#32 <| hornerW F w 0xB6935AC1#32 <|
  hornerW F w 0xB66C7357#32 <| hornerW F w 0x34B84B36#32 <| cst F 0x32F16588#32

/-- The tail polynomial of the inverse error function. -/
def tailW (w : F .f32) : F .f32 :=
  hornerW F w 0x40354F7E#32 <| hornerW F w 0x3F8036DB#32 <| hornerW F w 0x3C1AA57E#32 <|
  hornerW F w 0xBBF9C5D7#32 <| hornerW F w 0x3BBC127B#32 <| hornerW F w 0xBB70BDE7#32 <|
  hornerW F w 0x3AB0DC72#32 <| hornerW F w 0x38D3B56B#32 <| cst F 0xB951F09B#32

/-- The inverse error function at `x`, given `w = -log(1 - x²)` and `√w`. -/
def erfinvW (w q x : F .f32) : F .f32 :=
  FloatOps.mulf (Scalar.select (FloatOps.cmpf .olt w (cst F 0x40A00000#32))
    (centralW F (FloatOps.subf w (cst F 0x40200000#32)))
    (tailW F (FloatOps.subf q (cst F 0x40400000#32)))) x

/-- The argument of the polynomials, as the reference computes it. -/
def argR (x : F .f32) : F .f32 :=
  FloatOps.hostNegf (FloatOps.hostUnary .log1p (FloatOps.hostNegf (FloatOps.mulf x x)))

/-- The argument of the polynomials, as the kernel computes it. -/
def argK (x : F .f32) : F .f32 :=
  FloatOps.subf (cst F 0x00000000#32)
    (FloatOps.log1p (FloatOps.mulf (FloatOps.subf (cst F 0x00000000#32) x) x))

/-- The noise made from `x`, as the reference computes it. -/
def noiseR (x : F .f32) : F .f32 :=
  FloatOps.mulf (FloatOps.mulf (cst F 0x3FB504F3#32)
    (erfinvW F (argR F x) (FloatOps.hostUnary .sqrt (argR F x)) x)) (cst F 0x3DCCCCCD#32)

/-- The noise made from `x`, as the kernel computes it. -/
def noiseK (x : F .f32) : F .f32 :=
  FloatOps.mulf (cst F 0x3DCCCCCD#32) (FloatOps.mulf (cst F 0x3FB504F3#32)
    (erfinvW F (argK F x) (FloatOps.sqrt (argK F x)) x))

end Floats

/-- The two programs compute the same noise. -/
theorem noiseK_eq (x : EReal) : noiseK Ideal x = noiseR Ideal x := by
  have e : argK Ideal x = argR Ideal x := by
    unfold argK argR cst
    rw [Ideal.ofBits_def, Ideal.ofBits_zero_f32, Ideal.subf_def, Ideal.subf_def, Ideal.mulf_def,
      Ideal.mulf_def, Ideal.hostNegf_def, Ideal.hostNegf_def, Ideal.negf_def, Ideal.negf_def,
      Ideal.log1p_def, Ideal.hostUnary_log1p_def, zero_sub, zero_sub, EReal.neg_mul]
  unfold noiseK noiseR
  rw [e, Ideal.mulf_def, Ideal.mulf_def, Ideal.mulf_def, Ideal.mulf_def, mul_comm,
    Ideal.sqrt_def, Ideal.hostUnary_sqrt_def]

end Cert.Filter

end
-- ==== Proof.KerRead.lean ====
/- The kernel's vector functions, read lane by lane. -/
module

public import proofs.«01_k».proof.Proof.Run
public import proofs.«01_k».proof.Proof.Words
public import Idealize.ShloMosaic.Lib.ValueIdxCore
public import Idealize.ShloMosaic.Lib.Pipeline.Value
public import Idealize.ShloMosaic.Lib.Tactic

@[expose] public section

noncomputable section

namespace Cert.KernelIdeal.Own

open Cert.KernelIdeal Cert.KernelIdeal.Gen Cert.Filter
open Idealize.ShloMosaic Idealize.ShloMosaic.TcCoe Idealize.ShloMosaic.Tactic Idealize.ShloMosaic.ValueIdx

variable {F : FTy → Type} [FloatOps F]

/-- The hash, lane by lane. -/
theorem hashV_read (s : Shape) (k0 k1 : BitVec 32) (cnt : IVec s 32) :
    hashV s k0 k1 cnt = fun y => hashW k0 k1 (cnt y) := by
  sl_kernel_rfl

/-- The uniform, lane by lane. -/
theorem unitV_read (s : Shape) (h : IVec s 32) : unitV (F := F) s h = fun y => unitW F (h y) := by
  sl_kernel_rfl

/-- The noise, lane by lane. -/
theorem noiseV_read (s : Shape) (k0 k1 : BitVec 32) (cnt : IVec s 32) :
    noiseV (F := F) s k0 k1 cnt = fun y => noiseK F (symW F (hashV s k0 k1 cnt y)) := by
  sl_kernel_rfl

/-- The counting vector along one axis. -/
theorem iota_one (s : Shape) (a : Fin s.rank) (h : s.Iotas .tc 32 [a]) (i : s.Idx) :
    iota .tc s 32 [a] h i = BitVec.ofNat 32 (i a).val := by
  show BitVec.ofNat 32 (0 * s.size a + (i a).val) = _
  rw [Nat.zero_mul, Nat.zero_add]

/-- The counters of a chunk of the noise. -/
theorem noiseCnt_read (b c : BitVec 32) : noiseCnt b c Gen.k0_pay713 = fun y =>
    (b * 32768#32 + c) + (BitVec.ofNat 32 (y 1).val * 32#32 + BitVec.ofNat 32 (y 0).val) := by
  funext y
  show (b * 32768#32 + c) + (iota .tc S32x128 32 [1] iota_S32x128_d1_w32 y * 32#32
    + iota .tc S32x128 32 [0] iota_S32x128_d0_w32 y) = _
  rw [iota_one, iota_one]

/-- The counters of a tile. -/
theorem tileCnt_read (base c : BitVec 32) : tileCnt base c Gen.k0_pay714 = fun y =>
    (base + c) + (BitVec.ofNat 32 (y 0).val * 1024#32 + BitVec.ofNat 32 (y 1).val) := by
  funext y
  unfold tileCnt Gen.k0_pay714
  dsimp only
  rw [shapeCast_self]
  show (base + c) + (iota .tc S128x128 32 [0] iota_S128x128_d0_w32 y * 1024#32
    + iota .tc S128x128 32 [1] iota_S128x128_d1_w32 y) = _
  rw [iota_one, iota_one]

/-- A tile's first counter. -/
theorem tileBase_read (cbase : BitVec 32) (k : Fin k0_t2_loop.trips) :
    tileBase cbase k = cbase + BitVec.ofNat 32 k.val * 128#32 * 1024#32 := by
  unfold tileBase Scf.iv
  simp [Scalar.addi, Scalar.muli, IntOp.addi, IntOp.muli]

/-- The scores of a chunk. -/
theorem tileVal_read (k0 k1 : BitVec 32) (rwc : FVec F S1x128 .f32) (cnt : IVec S128x128 32) (r l : Fin 128) :
    tileVal k0 k1 rwc cnt (ix2 r l)
      = FloatOps.mulf (FloatOps.log (unitW F (hashW k0 k1 (cnt (ix2 r l))))) (rwc (ix2 (0 : Fin 1) l)) := by
  have e : broadcastTo S128x128 rwc broadcasts_S1x128_S128x128 (ix2 r l) = rwc (ix2 (0 : Fin 1) l) :=
    broadcastTo_apply _ _ _ _ (fun a => by fin_cases a <;> rfl)
  rw [← e]
  unfold tileVal
  rw [hashV_read, unitV_read]
  rfl

/-- The noise of a whole step. -/
theorem noiseAll_read (b k0 k1 : BitVec 32) (d : Fin 32) (p : Fin 1024) :
    noiseAll (F := F) b k0 k1 (ix2 d p) = noiseK F (symW F (hashW k0 k1
      ((b * 32768#32 + BitVec.ofNat 32 (4096 * (p.val / 128))) + (BitVec.ofNat 32 (p.val % 128) * 32#32 + BitVec.ofNat 32 d.val)))) := by
  unfold noiseAll noiseChunk
  rw [shapeCast_self, noiseV_read, hashV_read, noiseCnt_read]

/-- The weights before the first step. -/
theorem weights0_read (y : S1x1024.Idx) : Gen.k0_pay712 (F := F) y = cst F 0x3A800000#32 := by
  unfold Gen.k0_pay712
  rw [shapeCast_self]
  rfl

/-- The particles before the first step. -/
theorem parts0_read (z : FVec F S1x32x1 .f32) (d : Fin 32) (p : Fin 1024) :
    Gen.k0_pay711 z (ix2 d p) = z (ix3 (0 : Fin 1) d (0 : Fin 1)) := by
  unfold Gen.k0_pay711
  rw [shapeCast_self, shapeCast_self,
    broadcastTo_apply _ _ _ (ix2 d (0 : Fin 1)) (fun a => by fin_cases a <;> rfl),
    shapeCast_apply _ _ _ (ix3 (0 : Fin 1) d (0 : Fin 1)) (by simp [Shape.rowMajor_val_three, Shape.rowMajor_val_two])]

end Cert.KernelIdeal.Own

end
-- ==== Proof.Spec.lean ====
/- The filter's mathematics in extended reals: one step for one batch entry, the index a draw picks, and the
   facts that make the kernel's way of picking the same as the reference's. -/
module

public import proofs.«01_k».proof.Proof.Words
public import Mathlib.Data.EReal.Operations
public import Mathlib.Analysis.SpecialFunctions.Log.Basic

@[expose] public section

noncomputable section

namespace Cert.Filter

open Idealize.ShloMosaic
open scoped BigOperators

/-- `k` is the first place where `s` is greatest. -/
def IsPick (s : Fin 1024 → EReal) (k : Fin 1024) : Prop := (∀ i, s i ≤ s k) ∧ ∀ i, i < k → s i < s k

theorem IsPick.unique {s : Fin 1024 → EReal} {k l : Fin 1024} (hk : IsPick s k) (hl : IsPick s l) : k = l := by
  rcases lt_trichotomy k l with h | h | h
  · exact absurd (hl.2 k h) (not_lt.2 (hk.1 l))
  · exact h
  · exact absurd (hk.2 l h) (not_lt.2 (hl.1 k))

theorem exists_isPick (s : Fin 1024 → EReal) : ∃ k, IsPick s k := by
  classical
  obtain ⟨m, -, hm⟩ := Finset.exists_max_image (Finset.univ : Finset (Fin 1024)) s ⟨0, Finset.mem_univ _⟩
  have hne : (Finset.univ.filter fun k => s k = s m).Nonempty := ⟨m, by simp⟩
  refine ⟨(Finset.univ.filter fun k => s k = s m).min' hne, ?_⟩
  have hk := Finset.min'_mem _ hne
  rw [Finset.mem_filter] at hk
  refine ⟨fun i => by rw [hk.2]; exact hm i (Finset.mem_univ _), fun i hi => ?_⟩
  rw [hk.2]
  refine lt_of_le_of_ne (hm i (Finset.mem_univ _)) fun e => ?_
  exact absurd (Finset.min'_le _ i (by simp [e])) (not_le.2 hi)

/-- The first place where `s` is greatest. -/
def pick (s : Fin 1024 → EReal) : Fin 1024 := Classical.choose (exists_isPick s)

theorem pick_spec (s : Fin 1024 → EReal) : IsPick s (pick s) := Classical.choose_spec (exists_isPick s)

theorem pick_eq {s : Fin 1024 → EReal} {k : Fin 1024} (h : IsPick s k) : pick s = k := (pick_spec s).unique h

/-- The noise of counter `n` in step `j`. -/
def noiseE (j n : ℕ) : EReal :=
  noiseR Ideal (symW Ideal (bitsW (noiseKey0 j) (noiseKey1 j) (BitVec.ofNat 32 n)))

/-- The uniform of counter `n` in step `j`'s resampling. -/
def uniE (j n : ℕ) : EReal := unitW Ideal (bitsW (drawKey0 j) (drawKey1 j) (BitVec.ofNat 32 n))

/-- The particles of batch entry `b` after the noise of step `j`. -/
def movedE (j : ℕ) (b : Fin 1024) (x : Fin 1024 → Fin 32 → EReal) (p : Fin 1024) (d : Fin 32) : EReal :=
  x p d + noiseE j ((b.val * 1024 + p.val) * 32 + d.val)

/-- The unnormalised weights. -/
def rawE (x : Fin 1024 → Fin 32 → EReal) (o : Fin 32 → EReal) (w : Fin 1024 → EReal) (p : Fin 1024) : EReal :=
  w p * (Ideal.exp (Ideal.ofBits .f32 0xBF000000#32 * ∑ d, (x p d - o d) * (x p d - o d))
    + Ideal.ofBits .f32 0x322BCC77#32) + Ideal.ofBits .f32 0x2EDBE6FF#32

/-- The weights. -/
def weightE (x : Fin 1024 → Fin 32 → EReal) (o : Fin 32 → EReal) (w : Fin 1024 → EReal) (p : Fin 1024) : EReal :=
  Ideal.div (rawE x o w p) (∑ q, rawE x o w q)

/-- The reference's score of candidate `k` for particle `p`: a Gumbel deviate plus the log weight. -/
def scoreR (j : ℕ) (b : Fin 1024) (w : Fin 1024 → EReal) (p k : Fin 1024) : EReal :=
  -Ideal.log (-Ideal.log (uniE j ((b.val * 1024 + p.val) * 1024 + k.val))) + Ideal.log (w k)

/-- The kernel's score: the log of the uniform times the reciprocal weight. -/
def scoreK (j : ℕ) (b : Fin 1024) (w : Fin 1024 → EReal) (p k : Fin 1024) : EReal :=
  Ideal.log (uniE j ((b.val * 1024 + p.val) * 1024 + k.val)) * Ideal.div (Ideal.ofBits .f32 0x3F800000#32) (w k)

/-- The state of one batch entry. -/
structure Entry where
  x : Fin 1024 → Fin 32 → EReal
  w : Fin 1024 → EReal

/-- One step of the filter for one batch entry. -/
def stepE (j : ℕ) (b : Fin 1024) (o : Fin 32 → EReal) (e : Entry) : Entry where
  x p := movedE j b e.x (pick (scoreR j b (weightE (movedE j b e.x) o e.w) p))
  w := weightE (movedE j b e.x) o e.w

/-- The filter run for `n` steps from `z`, with the observations `o d t`. -/
def runE (b : Fin 1024) (z : Fin 32 → EReal) (o : Fin 32 → Fin 20 → EReal) : ℕ → Entry
  | 0 => ⟨fun _ => z, fun _ => Ideal.div (Ideal.ofBits .f32 0x3F800000#32) (Ideal.ofBits .f32 0x44800000#32)⟩
  | n + 1 => if h : n < 20 then stepE n b (fun d => o d ⟨n, h⟩) (runE b z o n) else runE b z o n

/-- The result: the mean of the particles after the last step. -/
def meanE (b : Fin 1024) (z : Fin 32 → EReal) (o : Fin 32 → Fin 20 → EReal) (d : Fin 32) : EReal :=
  Ideal.div (∑ p, (runE b z o 20).x p d) (Ideal.ofBits .f32 0x44800000#32)

/-! What is real stays real. -/

/-- A finite value. -/
def IsReal (x : EReal) : Prop := ∃ r : ℝ, x = (r : EReal)

theorem IsReal.add {x y : EReal} (hx : IsReal x) (hy : IsReal y) : IsReal (x + y) := by
  obtain ⟨a, rfl⟩ := hx; obtain ⟨c, rfl⟩ := hy; exact ⟨a + c, by push_cast; rfl⟩

theorem IsReal.sub {x y : EReal} (hx : IsReal x) (hy : IsReal y) : IsReal (x - y) := by
  obtain ⟨a, rfl⟩ := hx; obtain ⟨c, rfl⟩ := hy; exact ⟨a - c, by push_cast; rfl⟩

theorem IsReal.mul {x y : EReal} (hx : IsReal x) (hy : IsReal y) : IsReal (x * y) := by
  obtain ⟨a, rfl⟩ := hx; obtain ⟨c, rfl⟩ := hy; exact ⟨a * c, by push_cast; rfl⟩

/-- A word whose exponent is not all ones denotes a finite value. -/
theorem isReal_ofBits (b : BitVec 32) (h : (b.extractLsb' 23 8).toNat ≠ 255) : IsReal (Ideal.ofBits .f32 b) := by
  unfold Ideal.ofBits Ideal.ieee IsReal
  simp only []
  rw [if_neg (by simpa using h)]
  split_ifs <;> exact ⟨_, rfl⟩

/-- What a normal word denotes. -/
theorem ofBits_normal (b : BitVec 32) (ex fr : ℕ) (neg : Bool) (he : (b.extractLsb' 23 8).toNat = ex)
    (hf : (b.extractLsb' 0 23).toNat = fr) (hs : (b.extractLsb' 31 1 == 1#1) = neg) (h1 : ex ≠ 255) (h0 : ex ≠ 0) :
    Ideal.ofBits .f32 b
      = (((if neg then -1 else 1) * ((2 : ℝ) ^ 23 + fr) * (2 : ℝ) ^ ((ex : ℤ) - 127 - 23) : ℝ) : EReal) := by
  subst hs he hf
  simp only [Ideal.ofBits, Ideal.ieee]
  rw [if_neg (by simpa using h1), if_neg h0]
  congr 1
  push_cast
  norm_num

/-- The word `1.0` denotes one. -/
theorem ofBits_one : Ideal.ofBits .f32 0x3F800000#32 = 1 := by
  rw [ofBits_normal _ 127 0 false (by decide) (by decide) (by decide) (by decide) (by decide), ← EReal.coe_one]
  congr 1
  norm_num

/-- The word `2.0` denotes two. -/
theorem ofBits_two : Ideal.ofBits .f32 0x40000000#32 = ((2 : ℝ) : EReal) := by
  rw [ofBits_normal _ 128 0 false (by decide) (by decide) (by decide) (by decide) (by decide)]
  congr 1
  norm_num [zpow_neg]

/-- The word of `-(1 - 2⁻²⁴)`. -/
theorem ofBits_lo : Ideal.ofBits .f32 0xBF7FFFFF#32 = ((-(1 - 1 / 2 ^ 24) : ℝ) : EReal) := by
  rw [ofBits_normal _ 126 8388607 true (by decide) (by decide) (by decide) (by decide) (by decide)]
  congr 1
  norm_num [zpow_neg]

/-- The uniform of a word is the multiple of `2⁻²³` its leading bits name. -/
theorem unitW_eq (h : BitVec 32) :
    unitW Ideal h = ((((h.toNat / 2 ^ 9 : ℕ) : ℝ) / 2 ^ 23 : ℝ) : EReal) := by
  have hlt : h.toNat / 2 ^ 9 < 2 ^ 23 := by have := h.isLt; omega
  have e : ((h >>> 9#32) ||| 1065353216#32).toNat = 2 ^ 23 * 127 + h.toNat / 2 ^ 9 := by
    rw [BitVec.toNat_or, Nat.or_comm, Nat.two_pow_add_eq_or_of_lt hlt]
    congr 1
    simp [Nat.shiftRight_eq_div_pow]
  have e1 : (((h >>> 9#32) ||| 1065353216#32).extractLsb' 23 8).toNat = 127 := by
    rw [BitVec.extractLsb'_toNat, e, Nat.shiftRight_eq_div_pow]; omega
  have e2 : (((h >>> 9#32) ||| 1065353216#32).extractLsb' 0 23).toNat = h.toNat / 2 ^ 9 := by
    rw [BitVec.extractLsb'_toNat, e, Nat.shiftRight_eq_div_pow]; omega
  have e3 : ¬ (((h >>> 9#32) ||| 1065353216#32).extractLsb' (8 + 23) 1 == 1#1) = true := by
    intro he
    have := congrArg BitVec.toNat (eq_of_beq he)
    rw [BitVec.extractLsb'_toNat, e, Nat.shiftRight_eq_div_pow] at this
    simp at this
    omega
  unfold unitW cst
  rw [Ideal.ofBits_def, Ideal.ofBits_def, Ideal.subf_def, ofBits_one,
    ofBits_normal _ 127 _ false e1 e2 (by simpa using e3) (by decide) (by decide),
    ← EReal.coe_one, ← EReal.coe_sub]
  congr 1
  generalize ((h.toNat / 2 ^ 9 : ℕ) : ℝ) = u
  norm_num [zpow_neg]
  ring

theorem unitW_nonneg (h : BitVec 32) : ∃ f : ℝ, unitW Ideal h = (f : EReal) ∧ 0 ≤ f ∧ f ≤ 1 - 1 / 2 ^ 23 := by
  refine ⟨_, unitW_eq h, by positivity, ?_⟩
  have hlt : h.toNat / 2 ^ 9 + 1 ≤ 2 ^ 23 := by have := h.isLt; omega
  have : (((h.toNat / 2 ^ 9 : ℕ) : ℝ) + 1) ≤ 2 ^ 23 := by exact_mod_cast hlt
  revert this
  generalize ((h.toNat / 2 ^ 9 : ℕ) : ℝ) = u
  intro this
  rw [div_le_iff₀ (by positivity)]
  norm_num at this ⊢
  linarith

theorem isReal_horner {w a : EReal} (b : BitVec 32) (hb : (b.extractLsb' 23 8).toNat ≠ 255) (hw : IsReal w)
    (ha : IsReal a) : IsReal (hornerW Ideal w b a) := by
  unfold hornerW cst
  rw [Ideal.addf_def, Ideal.mulf_def]
  exact (ha.mul hw).add (isReal_ofBits b hb)

theorem isReal_central {w : EReal} (hw : IsReal w) : IsReal (centralW Ideal w) := by
  unfold centralW
  iterate 8 refine isReal_horner _ (by decide) hw ?_
  exact isReal_ofBits _ (by decide)

theorem isReal_tail {w : EReal} (hw : IsReal w) : IsReal (tailW Ideal w) := by
  unfold tailW
  iterate 8 refine isReal_horner _ (by decide) hw ?_
  exact isReal_ofBits _ (by decide)

/-- The noise is finite. -/
theorem isReal_noise (h : BitVec 32) : IsReal (noiseR Ideal (symW Ideal h)) := by
  obtain ⟨f, hf, h0, h1⟩ := unitW_nonneg h
  have hx : symW Ideal h = ((f * 2 + -(1 - 1 / 2 ^ 24) : ℝ) : EReal) := by
    unfold symW cst
    rw [Ideal.addf_def, Ideal.mulf_def, hf, Ideal.ofBits_def, Ideal.ofBits_def, ofBits_two, ofBits_lo]
    push_cast
    rfl
  set r : ℝ := f * 2 + -(1 - 1 / 2 ^ 24) with hr
  have hr1 : -1 < r := by rw [hr]; norm_num; linarith
  have hr2 : r < 1 := by rw [hr]; norm_num at h1 ⊢; linarith
  have hsq : 0 < 1 - r * r := by nlinarith
  have hw : argR Ideal ((r : ℝ) : EReal) = ((-Real.log (1 - r * r) : ℝ) : EReal) := by
    unfold argR
    rw [Ideal.hostNegf_def, Ideal.hostNegf_def, Ideal.negf_def, Ideal.negf_def, Ideal.mulf_def,
      Ideal.hostUnary_log1p_def]
    unfold Ideal.log1p
    rw [← EReal.coe_mul, ← EReal.coe_neg, ← EReal.coe_one, ← EReal.coe_add, Ideal.log_coe,
      if_neg (by rw [not_le]; linarith), ← EReal.coe_neg, ← sub_eq_add_neg]
  have hnn : 0 ≤ -Real.log (1 - r * r) := by
    rw [neg_nonneg]
    exact Real.log_nonpos hsq.le (by nlinarith)
  have hs : IsReal (Ideal.sqrt ((-Real.log (1 - r * r) : ℝ) : EReal)) := by
    rw [Ideal.sqrt_coe, if_neg (not_lt.2 hnn)]
    exact ⟨_, rfl⟩
  unfold noiseR erfinvW cst
  rw [hx, hw, Ideal.mulf_def, Ideal.mulf_def, Ideal.mulf_def, Ideal.hostUnary_sqrt_def]
  refine ((isReal_ofBits _ (by decide)).mul (IsReal.mul ?_ ⟨_, rfl⟩)).mul (isReal_ofBits _ (by decide))
  unfold Scalar.select
  split_ifs
  · refine isReal_central (IsReal.sub ⟨_, rfl⟩ (isReal_ofBits _ (by decide)))
  · refine isReal_tail (IsReal.sub hs (isReal_ofBits _ (by decide)))

end Cert.Filter

end
-- ==== Proof.Pos.lean ====
/- The weights stay positive reals and the particles stay real, so the kernel's score, which is an increasing
   function away from the reference's, picks the same index. -/
module

public import proofs.«01_k».proof.Proof.Spec

@[expose] public section

noncomputable section

namespace Cert.Filter

open Idealize.ShloMosaic
open scoped BigOperators

/-- A positive finite value. -/
def IsPos (x : EReal) : Prop := ∃ r : ℝ, 0 < r ∧ x = (r : EReal)

theorem IsPos.isReal {x : EReal} (h : IsPos x) : IsReal x := by
  obtain ⟨r, -, rfl⟩ := h; exact ⟨r, rfl⟩

theorem isPos_ofBits (b : BitVec 32) (h1 : (b.extractLsb' 23 8).toNat ≠ 255)
    (h0 : (b.extractLsb' 23 8).toNat ≠ 0) (hs : (b.extractLsb' 31 1 == 1#1) = false) :
    IsPos (Ideal.ofBits .f32 b) := by
  rw [ofBits_normal b _ _ false rfl rfl hs h1 h0]
  refine ⟨_, ?_, rfl⟩
  simp only [Bool.false_eq_true, if_false, one_mul]
  positivity

theorem square_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

/-- The likelihood is a real in `[0, 1]`. -/
theorem lik_real {s : EReal} (hs : 0 ≤ s) :
    ∃ r : ℝ, 0 ≤ r ∧ Ideal.exp (Ideal.ofBits .f32 0xBF000000#32 * s) = (r : EReal) := by
  have hc : Ideal.ofBits .f32 0xBF000000#32 = ((-(1 / 2) : ℝ) : EReal) := by
    rw [ofBits_normal _ 126 0 true (by decide) (by decide) (by decide) (by decide) (by decide)]
    congr 1
    norm_num [zpow_neg]
  rw [hc]
  induction s with
  | bot => exact absurd hs (by simp)
  | top => rw [EReal.coe_mul_top_of_neg (by norm_num), Ideal.exp_bot]; exact ⟨0, le_rfl, rfl⟩
  | coe r => rw [← EReal.coe_mul, Ideal.exp_coe]; exact ⟨_, (Real.exp_pos _).le, rfl⟩

theorem rawE_pos (x : Fin 1024 → Fin 32 → EReal) (o : Fin 32 → EReal) {w : Fin 1024 → EReal}
    (hw : ∀ p, IsPos (w p)) (p : Fin 1024) : IsPos (rawE x o w p) := by
  obtain ⟨a, ha, ea⟩ := hw p
  obtain ⟨l, hl, el⟩ := lik_real (Finset.sum_nonneg fun d (_ : d ∈ (Finset.univ : Finset (Fin 32))) =>
    square_nonneg (x p d - o d))
  obtain ⟨c, hc, ec⟩ := isPos_ofBits 0x322BCC77#32 (by decide) (by decide) (by decide)
  obtain ⟨e, he, ee⟩ := isPos_ofBits 0x2EDBE6FF#32 (by decide) (by decide) (by decide)
  unfold rawE
  rw [ea, el, ec, ee]
  refine ⟨a * (l + c) + e, by positivity, ?_⟩
  push_cast
  rfl

theorem sum_pos_real {f : Fin 1024 → EReal} (hf : ∀ q, IsPos (f q)) : IsPos (∑ q, f q) := by
  choose r hr er using hf
  refine ⟨∑ q, r q, Finset.sum_pos (fun q _ => hr q) ⟨0, Finset.mem_univ _⟩, ?_⟩
  rw [Finset.sum_congr rfl fun q _ => er q]
  induction (Finset.univ : Finset (Fin 1024)) using Finset.induction_on with
  | empty => simp
  | insert a s ha ih => rw [Finset.sum_insert ha, Finset.sum_insert ha, ih, EReal.coe_add]

theorem div_pos_real {x y : EReal} (hx : IsPos x) (hy : IsPos y) : IsPos (Ideal.div x y) := by
  obtain ⟨a, ha, rfl⟩ := hx
  obtain ⟨c, hc, rfl⟩ := hy
  rw [Ideal.div_coe hc.ne', ← EReal.coe_mul]
  exact ⟨_, by positivity, rfl⟩

theorem weightE_pos (x : Fin 1024 → Fin 32 → EReal) (o : Fin 32 → EReal) {w : Fin 1024 → EReal}
    (hw : ∀ p, IsPos (w p)) (p : Fin 1024) : IsPos (weightE x o w p) :=
  div_pos_real (rawE_pos x o hw p) (sum_pos_real (rawE_pos x o hw))

theorem movedE_real (j : ℕ) (b : Fin 1024) {x : Fin 1024 → Fin 32 → EReal} (hx : ∀ p d, IsReal (x p d))
    (p : Fin 1024) (d : Fin 32) : IsReal (movedE j b x p d) :=
  (hx p d).add (isReal_noise _)

/-- The weights at every step are positive reals. -/
theorem runE_pos (b : Fin 1024) (z : Fin 32 → EReal) (o : Fin 32 → Fin 20 → EReal) (n : ℕ) (p : Fin 1024) :
    IsPos ((runE b z o n).w p) := by
  induction n generalizing p with
  | zero =>
    exact div_pos_real (isPos_ofBits _ (by decide) (by decide) (by decide))
      (isPos_ofBits _ (by decide) (by decide) (by decide))
  | succ n ih =>
    unfold runE
    split_ifs with h
    · exact weightE_pos _ _ ih p
    · exact ih p

/-- The particles at every step are reals. -/
theorem runE_real (b : Fin 1024) {z : Fin 32 → EReal} (hz : ∀ d, IsReal (z d)) (o : Fin 32 → Fin 20 → EReal)
    (n : ℕ) (p : Fin 1024) (d : Fin 32) : IsReal ((runE b z o n).x p d) := by
  induction n generalizing p d with
  | zero => exact hz d
  | succ n ih =>
    unfold runE
    split_ifs with h
    · exact movedE_real n b ih _ d
    · exact ih p d

/-- The reference's score is this function of the kernel's. -/
def gumbelOf (v : EReal) : EReal := -Ideal.log (-v)

theorem log_lt_log {x y : EReal} (hx : 0 < x) (h : x < y) : Ideal.log x < Ideal.log y := by
  induction x with
  | bot => exact absurd hx (by simp)
  | top => exact absurd h (by simp)
  | coe a =>
    have ha : (0 : ℝ) < a := by exact_mod_cast hx
    rw [Ideal.log_coe, if_neg (not_le.2 ha)]
    induction y with
    | bot => exact absurd h (by simp)
    | top => exact EReal.coe_lt_top _
    | coe c =>
      have hac : a < c := by exact_mod_cast h
      rw [Ideal.log_coe, if_neg (not_le.2 (ha.trans hac))]
      exact_mod_cast Real.log_lt_log ha hac

theorem gumbelOf_lt {u v : EReal} (hv : v < 0) (h : u < v) : gumbelOf u < gumbelOf v := by
  unfold gumbelOf
  rw [EReal.neg_lt_neg_iff]
  exact log_lt_log (by simpa using EReal.neg_lt_neg_iff.2 hv) (EReal.neg_lt_neg_iff.2 h)

theorem gumbelOf_le {u v : EReal} (hv : v < 0) (h : u ≤ v) : gumbelOf u ≤ gumbelOf v := by
  rcases h.lt_or_eq with h | h
  · exact (gumbelOf_lt hv h).le
  · rw [h]

/-- The kernel's score is negative, and the reference's is the increasing function of it. -/
theorem score_rel (j : ℕ) (b : Fin 1024) {w : Fin 1024 → EReal} (hw : ∀ p, IsPos (w p)) (p k : Fin 1024) :
    scoreK j b w p k < 0 ∧ scoreR j b w p k = gumbelOf (scoreK j b w p k) := by
  obtain ⟨a, ha, ea⟩ := hw k
  obtain ⟨f, ef, h0, h1⟩ := unitW_nonneg (bitsW (drawKey0 j) (drawKey1 j)
    (BitVec.ofNat 32 ((b.val * 1024 + p.val) * 1024 + k.val)))
  unfold scoreK scoreR gumbelOf uniE
  rw [ea, ef, ofBits_one, Ideal.div_coe ha.ne', one_mul, Ideal.log_coe]
  have hia : (0 : ℝ) < 1 / a := by positivity
  split_ifs with hf
  · rw [EReal.bot_mul_coe_of_pos hia, EReal.neg_bot, Ideal.log_top, EReal.neg_top, Ideal.log_coe,
      if_neg (not_le.2 ha)]
    exact ⟨by simp, by simp⟩
  · have hf' : 0 < f := not_le.1 hf
    have hlog : Real.log f < 0 := Real.log_neg hf' (by norm_num at h1; linarith)
    have hm : Real.log f * (1 / a) < 0 := mul_neg_of_neg_of_pos hlog hia
    rw [← EReal.coe_mul, ← EReal.coe_neg, ← EReal.coe_neg, Ideal.log_coe, Ideal.log_coe, Ideal.log_coe,
      if_neg (by rw [not_le]; linarith), if_neg (not_le.2 ha), if_neg (by rw [not_le]; linarith)]
    refine ⟨by exact_mod_cast hm, ?_⟩
    rw [← EReal.coe_neg, ← EReal.coe_neg, ← EReal.coe_add]
    congr 1
    rw [← neg_mul, Real.log_mul (by linarith) hia.ne', one_div, Real.log_inv]
    ring

/-- An index picked by the kernel's scores is the one picked by the reference's. -/
theorem pick_scoreK (j : ℕ) (b : Fin 1024) {w : Fin 1024 → EReal} (hw : ∀ p, IsPos (w p)) (p k : Fin 1024)
    (h : IsPick (scoreK j b w p) k) : pick (scoreR j b w p) = k := by
  refine pick_eq ⟨fun i => ?_, fun i hi => ?_⟩
  · rw [(score_rel j b hw p i).2, (score_rel j b hw p k).2]
    exact gumbelOf_le (score_rel j b hw p k).1 (h.1 i)
  · rw [(score_rel j b hw p i).2, (score_rel j b hw p k).2]
    exact gumbelOf_lt (score_rel j b hw p k).1 (h.2 i hi)

end Cert.Filter

end
-- ==== Proof.Pick.lean ====
/- The index both programs compute by two folds, a maximum and the least of the places where it is attained,
   is the first place of the maximum; over all candidates at once, and lane by lane first. -/
module

public import proofs.«01_k».proof.Proof.Pos
public import Idealize.ShloMosaic.PureOps.Reduce

@[expose] public section

noncomputable section

namespace Cert.Filter

open Idealize.ShloMosaic
open scoped BigOperators

theorem minsi_ofNat {a c : ℕ} (ha : a < 2 ^ 31) (hc : c < 2 ^ 31) :
    IntOp.minsi (BitVec.ofNat 32 a) (BitVec.ofNat 32 c) = BitVec.ofNat 32 (min a c) := by
  have e (n : ℕ) (hn : n < 2 ^ 31) : (BitVec.ofNat 32 n).toInt = n := by
    have hn' : (BitVec.ofNat 32 n).toNat = n := by rw [BitVec.toNat_ofNat]; omega
    rw [BitVec.toInt_eq_toNat_of_lt (by omega), hn']
  unfold IntOp.minsi
  rw [BitVec.slt, e a ha, e c hc]
  rcases lt_or_ge a c with h | h
  · rw [min_eq_left h.le]; simp [h]
  · rw [min_eq_right h]; simp [h]

/-- The fold of the signed minimum over small words is the word of the least number. -/
theorem fold_minsi {ι : Type} [Fintype ι] (a : ι → ℕ) (c : ℕ) (hc : c < 2 ^ 31) (ha : ∀ k, a k < 2 ^ 31)
    (g : ι → BitVec 32) (hg : ∀ k, g k = BitVec.ofNat 32 (a k)) :
    (Finset.univ : Finset ι).fold IntOp.minsi (BitVec.ofNat 32 c) g
      = BitVec.ofNat 32 ((Finset.univ : Finset ι).fold min c a) := by
  classical
  obtain rfl : g = fun k => BitVec.ofNat 32 (a k) := funext hg
  suffices h : ∀ s : Finset ι, s.fold IntOp.minsi (BitVec.ofNat 32 c) (fun k => BitVec.ofNat 32 (a k))
      = BitVec.ofNat 32 (s.fold min c a) ∧ s.fold min c a < 2 ^ 31 from (h _).1
  intro s
  induction s using Finset.induction_on with
  | empty => exact ⟨rfl, hc⟩
  | insert x s hx ih =>
    rw [Finset.fold_insert hx, Finset.fold_insert hx, ih.1, minsi_ofNat (ha x) ih.2]
    exact ⟨rfl, lt_of_le_of_lt (min_le_left _ _) (ha x)⟩

/-- The maximum of the scores is the picked one. -/
theorem fold_max_eq (v : Fin 1024 → EReal) : (Finset.univ : Finset (Fin 1024)).fold max ⊥ v = v (pick v) := by
  apply le_antisymm
  · rw [Finset.fold_max_le]
    exact ⟨bot_le, fun i _ => (pick_spec v).1 i⟩
  · rw [Finset.le_fold_max]
    exact Or.inr ⟨pick v, Finset.mem_univ _, le_rfl⟩

/-- The least index at which the maximum is attained, the others counting as 1024. -/
theorem first_of_folds (v : Fin 1024 → EReal) (g : Fin 1024 → BitVec 32)
    (hg : ∀ k, g k = if v k = v (pick v) then BitVec.ofNat 32 k.val else 1024#32) :
    (Finset.univ : Finset (Fin 1024)).fold IntOp.minsi 2147483647#32 g = BitVec.ofNat 32 (pick v).val := by
  rw [show (2147483647#32 : BitVec 32) = BitVec.ofNat 32 2147483647 from rfl,
    fold_minsi (fun k : Fin 1024 => if v k = v (pick v) then k.val else 1024) _ (by norm_num)
      (fun k => by have := k.isLt; split_ifs <;> omega) g
      (fun k => by rw [hg]; split_ifs <;> rfl)]
  congr 1
  apply le_antisymm
  · rw [Finset.fold_min_le]
    exact Or.inr ⟨pick v, Finset.mem_univ _, by simp⟩
  · rw [Finset.le_fold_min]
    refine ⟨by have := (pick v).isLt; omega, fun k _ => ?_⟩
    split_ifs with h
    · by_contra hlt
      exact absurd h (ne_of_lt ((pick_spec v).2 k (not_le.1 hlt)))
    · exact (pick v).isLt.le

/-- The best of lane `l` after the first `m` chunks: its value, and the counter of the first chunk with it. -/
def LaneBest (v : Fin 1024 → EReal) (B m : ℕ) (l : Fin 128) (av : EReal) (ac : BitVec 32) : Prop :=
  ∃ k : Fin 1024, k.val % 128 = l.val ∧ k.val / 128 < m ∧ av = v k ∧ ac = BitVec.ofNat 32 (B + k.val) ∧
    ∀ i : Fin 1024, i.val % 128 = l.val → i.val / 128 < m → v i ≤ v k ∧ (i < k → v i < v k)

theorem laneBest_first (v : Fin 1024 → EReal) (B : ℕ) (l : Fin 128) (k : Fin 1024) (hk : k.val = l.val)
    {av : EReal} {ac : BitVec 32} (ea : av = v k) (ec : ac = BitVec.ofNat 32 (B + k.val)) :
    LaneBest v B 1 l av ac := by
  refine ⟨k, by have := l.isLt; omega, by have := l.isLt; omega, ea, ec, fun i hi hm => ?_⟩
  have : i = k := by apply Fin.ext; have := l.isLt; omega
  subst this
  exact ⟨le_rfl, fun h => absurd h (lt_irrefl _)⟩

theorem laneBest_next {v : Fin 1024 → EReal} {B m : ℕ} {l : Fin 128} {av : EReal} {ac : BitVec 32}
    (h : LaneBest v B m l av ac) (k : Fin 1024) (hk : k.val = m * 128 + l.val)
    {x : EReal} {c : BitVec 32} (ex : x = v k) (ec : c = BitVec.ofNat 32 (B + k.val)) :
    LaneBest v B (m + 1) l (max av x) (Scalar.select (Ideal.cmp .ogt x av) c ac) := by
  obtain ⟨k0, h1, h2, rfl, rfl, h5⟩ := h
  subst ex ec
  have hl := l.isLt
  unfold Scalar.select Ideal.cmp
  rcases lt_or_ge (v k0) (v k) with hlt | hge
  · refine ⟨k, by omega, by omega, max_eq_right hlt.le, by simp [hlt], fun i hi hm => ?_⟩
    rcases Nat.lt_or_ge (i.val / 128) m with hi' | hi'
    · exact ⟨((h5 i hi hi').1.trans_lt hlt).le, fun _ => (h5 i hi hi').1.trans_lt hlt⟩
    · have : i = k := by apply Fin.ext; omega
      subst this
      exact ⟨le_rfl, fun h => absurd h (lt_irrefl _)⟩
  · refine ⟨k0, h1, by omega, max_eq_left hge, by simp [not_lt.2 hge], fun i hi hm => ?_⟩
    rcases Nat.lt_or_ge (i.val / 128) m with hi' | hi'
    · exact h5 i hi hi'
    · have : i = k := by apply Fin.ext; omega
      subst this
      refine ⟨hge, fun h => ?_⟩
      have : i.val < k0.val := h
      omega

/-- The least counter among the lanes whose best is the best of all is the picked candidate's. -/
theorem pick_of_lanes (v : Fin 1024 → EReal) (B : ℕ) (hB : B + 1024 < 2 ^ 31) (av : Fin 128 → EReal)
    (ac : Fin 128 → BitVec 32) (h : ∀ l, LaneBest v B 8 l (av l) (ac l)) (g : Fin 128 → BitVec 32)
    (hg : ∀ l, g l = if av l = (Finset.univ : Finset (Fin 128)).fold max ⊥ av then ac l else 2147483647#32) :
    (Finset.univ : Finset (Fin 128)).fold IntOp.minsi 2147483647#32 g = BitVec.ofNat 32 (B + (pick v).val) := by
  choose K h1 h2 h3 h4 h5 using h
  have hall (i : Fin 1024) : i.val / 128 < 8 := by have := i.isLt; omega
  have hl0 : (pick v).val % 128 < 128 := Nat.mod_lt _ (by norm_num)
  have hK0 : K ⟨_, hl0⟩ = pick v := by
    have a := (pick_spec v).1 (K ⟨_, hl0⟩)
    have c := h5 ⟨_, hl0⟩ (pick v) rfl (hall _)
    rcases lt_trichotomy (K ⟨_, hl0⟩) (pick v) with hlt | heq | hgt
    · exact absurd ((pick_spec v).2 _ hlt) (not_lt.2 c.1)
    · exact heq
    · exact absurd (c.2 hgt) (not_lt.2 a)
  have hmax : (Finset.univ : Finset (Fin 128)).fold max ⊥ av = v (pick v) := by
    apply le_antisymm
    · rw [Finset.fold_max_le]
      exact ⟨bot_le, fun l _ => by rw [h3]; exact (pick_spec v).1 _⟩
    · rw [Finset.le_fold_max]
      exact Or.inr ⟨⟨_, hl0⟩, Finset.mem_univ _, by rw [h3, hK0]⟩
  rw [hmax] at hg
  rw [show (2147483647#32 : BitVec 32) = BitVec.ofNat 32 2147483647 from rfl,
    fold_minsi (fun l : Fin 128 => if v (K l) = v (pick v) then B + (K l).val else 2147483647) _ (by norm_num)
      (fun l => by have := (K l).isLt; split_ifs <;> omega) g
      (fun l => by rw [hg, h3, h4]; split_ifs <;> rfl)]
  congr 1
  apply le_antisymm
  · rw [Finset.fold_min_le]
    exact Or.inr ⟨⟨_, hl0⟩, Finset.mem_univ _, by rw [hK0]; simp⟩
  · rw [Finset.le_fold_min]
    refine ⟨by have := (pick v).isLt; omega, fun l _ => ?_⟩
    split_ifs with he
    · have : ¬ K l < pick v := fun hlt => absurd he (ne_of_lt ((pick_spec v).2 _ hlt))
      have : (pick v).val ≤ (K l).val := not_lt.1 this
      omega
    · have := (pick v).isLt; omega

end Cert.Filter

end
-- ==== Proof.Folds.lean ====
/- Reductions over one axis, read at an index: a sum or a fold along that axis. -/
module

public import Idealize.ShloMosaic.Lib.ValueIdxCore
public import Idealize.ShloMosaic.Lib.IdealHost
public import Idealize.ShloMosaic.PureOps.Reduce

@[expose] public section

noncomputable section

namespace Cert.Filter

open Idealize.ShloMosaic Idealize.ShloMosaic.ValueIdx
open scoped BigOperators

variable {α : Type} {A B C : ℕ}

theorem lift_last3 (h : (⟨3, ![A, B, C]⟩ : Shape).Reduces [2] ⟨2, ![A, B]⟩) (a : Fin A) (b : Fin B) (c : Fin C) :
    h.lift (ix2 a b) c = ix3 a b c := by
  funext e; apply Fin.ext; match e with | ⟨0, _⟩ => rfl | ⟨1, _⟩ => rfl | ⟨2, _⟩ => rfl

theorem lift_mid3 (h : (⟨3, ![A, B, C]⟩ : Shape).Reduces [1] ⟨2, ![A, C]⟩) (a : Fin A) (b : Fin B) (c : Fin C) :
    h.lift (ix2 a c) b = ix3 a b c := by
  funext e; apply Fin.ext; match e with | ⟨0, _⟩ => rfl | ⟨1, _⟩ => rfl | ⟨2, _⟩ => rfl

theorem lift_last2 (h : (⟨2, ![A, B]⟩ : Shape).Reduces [1] ⟨1, ![A]⟩) (a : Fin A) (b : Fin B) :
    h.lift (ix1 a) b = ix2 a b := by
  funext e; apply Fin.ext; match e with | ⟨0, _⟩ => rfl | ⟨1, _⟩ => rfl

theorem lift_first2 (h : (⟨2, ![A, B]⟩ : Shape).Reduces [0] ⟨1, ![B]⟩) (a : Fin A) (b : Fin B) :
    h.lift (ix1 b) a = ix2 a b := by
  funext e; apply Fin.ext; match e with | ⟨0, _⟩ => rfl | ⟨1, _⟩ => rfl

/-- A host fold over the last of three axes. -/
theorem reduce_last3 {u : Shape} (f : α → α → α) [Std.Commutative f] [Std.Associative f]
    (h' : (⟨3, ![A, B, C]⟩ : Shape).ReducesTo [2] ⟨2, ![A, B]⟩) (h : (⟨3, ![A, B, C]⟩ : Shape).Reduces [2] ⟨2, ![A, B]⟩)
    (x : (⟨3, ![A, B, C]⟩ : Shape).Idx → α) (init : u.Idx → α) (hu : 0 < u.numel) (a : Fin A) (b : Fin B) :
    Host.reduce f x init h' hu (ix2 a b)
      = (Finset.univ : Finset (Fin C)).fold f (init (Shape.Idx.first hu)) fun c => x (ix3 a b c) := by
  rw [Host.reduce_eq_fold_single _ _ _ h' h]
  exact congrArg (fun g => Finset.fold f (init (Shape.Idx.first hu)) g Finset.univ)
    (funext fun c => congrArg x (lift_last3 h a b c))

/-- A host sum over the last of three axes. -/
theorem sum_last3 {u : Shape} (h' : (⟨3, ![A, B, C]⟩ : Shape).ReducesTo [2] ⟨2, ![A, B]⟩)
    (h : (⟨3, ![A, B, C]⟩ : Shape).Reduces [2] ⟨2, ![A, B]⟩) (x : FVec Ideal ⟨3, ![A, B, C]⟩ .f32) (init : u.Idx → Ideal .f32)
    (hu : 0 < u.numel) (a : Fin A) (b : Fin B) :
    Host.reduceAdd x init h' hu (ix2 a b) = (init (Shape.Idx.first hu) + ∑ c : Fin C, x (ix3 a b c) : EReal) := by
  rw [hostReduceAdd_apply, Ideal.hostReduceAdd_single h' h]
  exact congrArg _ (Finset.sum_congr rfl fun c _ => congrArg x (lift_last3 h a b c))

/-- A host sum over the middle of three axes. -/
theorem sum_mid3 {u : Shape} (h' : (⟨3, ![A, B, C]⟩ : Shape).ReducesTo [1] ⟨2, ![A, C]⟩)
    (h : (⟨3, ![A, B, C]⟩ : Shape).Reduces [1] ⟨2, ![A, C]⟩) (x : FVec Ideal ⟨3, ![A, B, C]⟩ .f32) (init : u.Idx → Ideal .f32)
    (hu : 0 < u.numel) (a : Fin A) (c : Fin C) :
    Host.reduceAdd x init h' hu (ix2 a c) = (init (Shape.Idx.first hu) + ∑ b : Fin B, x (ix3 a b c) : EReal) := by
  rw [hostReduceAdd_apply, Ideal.hostReduceAdd_single h' h]
  exact congrArg _ (Finset.sum_congr rfl fun b _ => congrArg x (lift_mid3 h a b c))

/-- A host sum over the last of two axes. -/
theorem sum_last2 {u : Shape} (h' : (⟨2, ![A, B]⟩ : Shape).ReducesTo [1] ⟨1, ![A]⟩)
    (h : (⟨2, ![A, B]⟩ : Shape).Reduces [1] ⟨1, ![A]⟩) (x : FVec Ideal ⟨2, ![A, B]⟩ .f32) (init : u.Idx → Ideal .f32)
    (hu : 0 < u.numel) (a : Fin A) :
    Host.reduceAdd x init h' hu (ix1 a) = (init (Shape.Idx.first hu) + ∑ b : Fin B, x (ix2 a b) : EReal) := by
  rw [hostReduceAdd_apply, Ideal.hostReduceAdd_single h' h]
  exact congrArg _ (Finset.sum_congr rfl fun b _ => congrArg x (lift_last2 h a b))

/-- A kernel's row maximum. -/
theorem kmax_last2 (h : (⟨2, ![A, B]⟩ : Shape).Reduces [1] ⟨1, ![A]⟩) (x : FVec Ideal ⟨2, ![A, B]⟩ .f32) (acc : BitVec 32)
    (hφ : FKind.Formats .f32) (hacc : acc = FKind.maximumf.neutral .f32 hφ) (a : Fin A) :
    multiReduction .maximumf [1] ⟨1, ![A]⟩ x acc h hφ hacc (ix1 a)
      = (Finset.univ : Finset (Fin B)).fold max (Ideal.ofBits .f32 acc) fun b => x (ix2 a b) := by
  rw [Ideal.multiReduction_maximumf_single]
  exact congrArg (fun g => Finset.fold max (Ideal.ofBits .f32 acc) g Finset.univ)
    (funext fun b => congrArg x (lift_last2 h a b))

/-- A kernel's least word of a row. -/
theorem kmin_last2 (h : (⟨2, ![A, B]⟩ : Shape).Reduces [1] ⟨1, ![A]⟩) (x : IVec ⟨2, ![A, B]⟩ 32) (acc : BitVec 32)
    (hacc : acc = IKind.minsi.neutral) (a : Fin A) :
    multiReductionI .minsi [1] ⟨1, ![A]⟩ x acc h hacc (ix1 a)
      = (Finset.univ : Finset (Fin B)).fold IntOp.minsi acc fun b => x (ix2 a b) := by
  rw [multiReductionI_eq_fold]
  refine (h.fold_filter_drop_single IntOp.minsi acc x (ix1 a)).trans ?_
  exact congrArg (fun g => Finset.fold IntOp.minsi acc g Finset.univ)
    (funext fun b => congrArg x (lift_last2 h a b))

/-- A kernel's row sum. -/
theorem ksum_last2 (h : (⟨2, ![A, B]⟩ : Shape).Reduces [1] ⟨1, ![A]⟩) (x : FVec Ideal ⟨2, ![A, B]⟩ .f32) (acc : BitVec 32)
    (hφ : FKind.Formats .f32) (hacc : acc = FKind.add.neutral .f32 hφ) (a : Fin A) :
    multiReduction .add [1] ⟨1, ![A]⟩ x acc h hφ hacc (ix1 a) = (∑ b : Fin B, x (ix2 a b) : EReal) := by
  rw [Ideal.multiReduction_add_single]
  exact Finset.sum_congr rfl fun b _ => congrArg x (lift_last2 h a b)

/-- A kernel's column sum. -/
theorem ksum_first2 (h : (⟨2, ![A, B]⟩ : Shape).Reduces [0] ⟨1, ![B]⟩) (x : FVec Ideal ⟨2, ![A, B]⟩ .f32) (acc : BitVec 32)
    (hφ : FKind.Formats .f32) (hacc : acc = FKind.add.neutral .f32 hφ) (b : Fin B) :
    multiReduction .add [0] ⟨1, ![B]⟩ x acc h hφ hacc (ix1 b) = (∑ a : Fin A, x (ix2 a b) : EReal) := by
  rw [Ideal.multiReduction_add_single]
  exact Finset.sum_congr rfl fun a _ => congrArg x (lift_first2 h a b)

end Cert.Filter

end
-- ==== Proof.KerPick.lean ====
/- The index the kernel chooses for a particle is the first place of its greatest score. -/
module

public import proofs.«01_k».proof.Proof.KerRead
public import proofs.«01_k».proof.Proof.Pick
public import proofs.«01_k».proof.Proof.Folds

@[expose] public section

noncomputable section

namespace Cert.KernelIdeal.Own

open Cert.KernelIdeal Cert.KernelIdeal.Gen Cert.Filter
open Idealize.ShloMosaic Idealize.ShloMosaic.TcCoe Idealize.ShloMosaic.ValueIdx

/-- Row `r` of a tile after `m` chunks. -/
def RowBest (v : Fin 1024 → EReal) (B m : ℕ) (r : Fin 128) (av : FVec Ideal S128x128 .f32) (ac : IVec S128x128 32) : Prop :=
  ∀ l : Fin 128, LaneBest v B m l (av (ix2 r l)) (ac (ix2 r l))

/-- A chunk's scores and counters in row `r`. -/
def RowChunk (v : Fin 1024 → EReal) (B m : ℕ) (r : Fin 128) (x : FVec Ideal S128x128 .f32) (c : IVec S128x128 32) : Prop :=
  ∀ (l : Fin 128) (k : Fin 1024), k.val = m * 128 + l.val → x (ix2 r l) = v k ∧ c (ix2 r l) = BitVec.ofNat 32 (B + k.val)

theorem rowBest_first {v : Fin 1024 → EReal} {B : ℕ} {r : Fin 128} {x : FVec Ideal S128x128 .f32} {c : IVec S128x128 32}
    (h : RowChunk v B 0 r x c) : RowBest v B 1 r x c := fun l =>
  let k : Fin 1024 := ⟨l.val, by have := l.isLt; omega⟩
  laneBest_first v B l k rfl (h l k (by simp [k])).1 (h l k (by simp [k])).2

/-- One more chunk. -/
theorem better_next {α : Type} {P : α → Prop} {v : Fin 1024 → EReal} {B m : ℕ} (hm : m < 8) {r : Fin 128}
    {av x : FVec Ideal S128x128 .f32} {ac c : IVec S128x128 32} (h : RowBest v B m r av ac) (hx : RowChunk v B m r x c)
    (f : FVec Ideal S128x128 .f32 → IVec S128x128 32 → α) (hf : ∀ av ac, RowBest v B (m + 1) r av ac → P (f av ac)) :
    P (better av ac x c f) := by
  unfold better
  apply hf
  intro l
  have hk : m * 128 + l.val < 1024 := by have := l.isLt; omega
  exact laneBest_next (h l) ⟨_, hk⟩ rfl (hx l ⟨_, hk⟩ rfl).1 (hx l ⟨_, hk⟩ rfl).2

/-- The scores a tile's row compares. -/
def rowScore (k0 k1 : BitVec 32) (rw : FVec Ideal S1x1024 .f32) (B : ℕ) (k : Fin 1024) : EReal :=
  Ideal.log (unitW Ideal (hashW k0 k1 (BitVec.ofNat 32 (B + k.val)))) * rw (ix2 (0 : Fin 1) k)

theorem chunk_ok (base k0 k1 : BitVec 32) (rw : FVec Ideal S1x1024 .f32) (B m off : ℕ) (hoff : off = m * 128) (r : Fin 128)
    (hbase : base + BitVec.ofNat 32 r.val * 1024#32 = BitVec.ofNat 32 B) (hs : S1x1024.Slices ![0, off] S1x128) :
    RowChunk (rowScore k0 k1 rw B) B m r
      (tileVal k0 k1 (extractStridedSlice S1x128 ![0, off] rw hs) (tileCnt base (BitVec.ofNat 32 off) Gen.k0_pay714))
      (tileCnt base (BitVec.ofNat 32 off) Gen.k0_pay714) := by
  intro l k hk
  have hc : tileCnt base (BitVec.ofNat 32 off) Gen.k0_pay714 (ix2 r l) = BitVec.ofNat 32 (B + k.val) := by
    rw [tileCnt_read, hk, ← hoff, BitVec.ofNat_add, BitVec.ofNat_add, ← hbase]
    show (base + BitVec.ofNat 32 off) + (BitVec.ofNat 32 r.val * 1024#32 + BitVec.ofNat 32 l.val) = _
    ac_rfl
  refine ⟨?_, hc⟩
  rw [tileVal_read, hc, Ideal.mulf_def]
  unfold rowScore
  have e : extractStridedSlice S1x128 ![0, off] rw hs (ix2 (0 : Fin 1) l) = rw (ix2 (0 : Fin 1) k) := by
    unfold extractStridedSlice
    refine congrArg rw (funext fun a => Fin.ext ?_)
    match a with
    | ⟨0, _⟩ => rfl
    | ⟨1, _⟩ => show off + l.val = k.val; omega
  rw [e]
  rfl

/-- The last part of a tile: from the best of every lane to the chosen index. -/
theorem tilePick_read (col : IVec S128x1 32) (base : BitVec 32) (v : Fin 1024 → EReal) (B : ℕ) (hB : B + 1024 < 2 ^ 31)
    (r : Fin 128) (hbase : base + col (ix2 r (0 : Fin 1)) * 1024#32 = BitVec.ofNat 32 B)
    (av : FVec Ideal S128x128 .f32) (ac : IVec S128x128 32) (h : RowBest v B 8 r av ac) :
    tilePick col base av ac (ix2 r (0 : Fin 1)) = BitVec.ofNat 32 (pick v).val := by
  have top (l : Fin 128) : broadcastTo S128x128 (shapeCast S128x1
      (multiReduction .maximumf [1] S128 av 0xFF800000#32 reduces_S128x128_S128 (.inl rfl) rfl)
      shapeCasts_S128_S128x1) broadcasts_S128x1_S128x128 (ix2 r l)
      = (Finset.univ : Finset (Fin 128)).fold max ⊥ fun l => av (ix2 r l) := by
    rw [broadcastTo_apply _ _ _ (ix2 r (0 : Fin 1)) (fun a => by fin_cases a <;> rfl),
      shapeCast_apply _ _ _ (ix1 r) (by rfl)]
    refine (kmax_last2 (A := 128) (B := 128) reduces_S128x128_S128 av _ _ _ r).trans ?_
    rw [show Ideal.ofBits .f32 0xFF800000#32 = ⊥ by simp [Ideal.ofBits, Ideal.ieee]]
  have e := pick_of_lanes v B hB (fun l => av (ix2 r l)) (fun l => ac (ix2 r l)) h
    (fun l => Scalar.select (Ideal.cmp .oeq (av (ix2 r l)) ((Finset.univ : Finset (Fin 128)).fold max ⊥ fun l => av (ix2 r l)))
      (ac (ix2 r l)) 2147483647#32)
    (fun l => by
      unfold Scalar.select Ideal.cmp
      by_cases hk : av (ix2 r l) = (Finset.univ : Finset (Fin 128)).fold max ⊥ fun l => av (ix2 r l) <;> simp [hk])
  have least (x : IVec S128x128 32) : multiReductionI .minsi [1] S128 x 2147483647#32 reduces_S128x128_S128 rfl (ix1 r)
      = (Finset.univ : Finset (Fin 128)).fold IntOp.minsi 2147483647#32 fun l => x (ix2 r l) :=
    kmin_last2 (A := 128) (B := 128) reduces_S128x128_S128 x _ _ r
  unfold tilePick
  show (shapeCast S128x1 _ _ (ix2 r (0 : Fin 1)) - base) - col (ix2 r (0 : Fin 1)) * 1024#32 = _
  rw [shapeCast_apply _ _ _ (ix1 r) (by rfl), least]
  refine (congrArg (fun w => w - base - col (ix2 r (0 : Fin 1)) * 1024#32) (?_ : _ = BitVec.ofNat 32 (B + (pick v).val))).trans ?_
  · refine Eq.trans ?_ e
    refine congrArg (fun g => Finset.fold IntOp.minsi 2147483647#32 g Finset.univ) (funext fun l => ?_)
    rw [← top l]
    rfl
  · rw [BitVec.ofNat_add, ← hbase]
    generalize BitVec.ofNat 32 (pick v).val = q
    generalize col (ix2 r (0 : Fin 1)) * 1024#32 = u
    rw [BitVec.add_assoc, BitVec.add_comm u q, ← BitVec.add_assoc, BitVec.add_comm base q]
    rw [BitVec.sub_eq_iff_eq_add, BitVec.sub_eq_iff_eq_add]
    ac_rfl

/-- A tile's chosen index. -/
theorem tileV_read (col : IVec S128x1 32) (base k0 k1 : BitVec 32) (rw : FVec Ideal S1x1024 .f32) (B : ℕ)
    (hB : B + 1024 < 2 ^ 31) (r : Fin 128) (hcol : col (ix2 r (0 : Fin 1)) = BitVec.ofNat 32 r.val)
    (hbase : base + BitVec.ofNat 32 r.val * 1024#32 = BitVec.ofNat 32 B) :
    tileV col base k0 k1 rw Gen.k0_pay714 Gen.k0_pay714 Gen.k0_pay714 Gen.k0_pay714 Gen.k0_pay714 Gen.k0_pay714
      Gen.k0_pay714 Gen.k0_pay714 (ix2 r (0 : Fin 1)) = BitVec.ofNat 32 (pick (rowScore k0 k1 rw B)).val := by
  have ck (m off : ℕ) (hoff : off = m * 128) (hs : S1x1024.Slices ![0, off] S1x128) :=
    chunk_ok base k0 k1 rw B m off hoff r hbase hs
  let P : IVec S128x1 32 → Prop := fun x => x (ix2 r (0 : Fin 1)) = BitVec.ofNat 32 (pick (rowScore k0 k1 rw B)).val
  show P _
  unfold tileV
  refine better_next (by norm_num) (rowBest_first (ck 0 0 rfl _)) (ck 1 128 rfl _) _ fun _ _ h => ?_
  refine better_next (by norm_num) h (ck 2 256 rfl _) _ fun _ _ h => ?_
  refine better_next (by norm_num) h (ck 3 384 rfl _) _ fun _ _ h => ?_
  refine better_next (by norm_num) h (ck 4 512 rfl _) _ fun _ _ h => ?_
  refine better_next (by norm_num) h (ck 5 640 rfl _) _ fun _ _ h => ?_
  refine better_next (by norm_num) h (ck 6 768 rfl _) _ fun _ _ h => ?_
  refine better_next (by norm_num) h (ck 7 896 rfl _) _ fun _ _ h => ?_
  show shapeCast S128x1 _ _ (ix2 r (0 : Fin 1)) = _
  rw [shapeCast_self]
  exact tilePick_read col base _ B hB r (by rw [hcol]; exact hbase) _ _ h

/-- The index of particle `p`. -/
theorem chosenV_read (k0 k1 : BitVec 32) (rw : FVec Ideal S1x1024 .f32) (b : Fin 1024) (p : Fin 1024) :
    chosenV (iota .tc S128x1 32 [0] iota_S128x1_d0_w32) k0 k1 rw (Scalar.muli (BitVec.ofNat 32 b.val) 1048576#32) Gen.k0_pay714
        (ix2 p (0 : Fin 1))
      = BitVec.ofNat 32 (pick (rowScore k0 k1 rw ((b.val * 1024 + p.val) * 1024))).val := by
  have hb := b.isLt
  have hp := p.isLt
  unfold chosenV
  refine tileV_read _ _ k0 k1 rw _ (by omega) ⟨p.val % 128, Nat.mod_lt _ (by decide)⟩ (iota_one _ _ _ _) ?_
  rw [tileBase_read]
  show BitVec.ofNat 32 b.val * 1048576#32 + BitVec.ofNat 32 (p.val / 128) * 128#32 * 1024#32
    + BitVec.ofNat 32 (p.val % 128) * 1024#32 = _
  have e : (b.val * 1024 + p.val) * 1024 = b.val * 1048576 + p.val / 128 * 128 * 1024 + p.val % 128 * 1024 := by omega
  rw [e]
  simp [BitVec.ofNat_add, BitVec.ofNat_mul]

end Cert.KernelIdeal.Own

end
-- ==== Proof.KerGather.lean ====
/- The kernel's gather, weights and mean, read at an index. -/
module

public import proofs.«01_k».proof.Proof.KerRead
public import proofs.«01_k».proof.Proof.Pos
public import proofs.«01_k».proof.Proof.Folds
public import Idealize.ShloMosaic.Lib.MatmulPlain

@[expose] public section

noncomputable section

namespace Cert.Filter

open Idealize.ShloMosaic Idealize.ShloMosaic.TcCoe Idealize.ShloMosaic.ValueIdx

/-- A kernel's sum over a whole row kept in three axes. -/
theorem ktotal3 {A : ℕ} (h : (⟨3, ![1, 1, A]⟩ : Shape).Reduces [1, 2] ⟨1, ![1]⟩) (x : FVec Ideal ⟨3, ![1, 1, A]⟩ .f32)
    (acc : BitVec 32) (hφ : FKind.Formats .f32) (hacc : acc = FKind.add.neutral .f32 hφ) (j : (⟨1, ![1]⟩ : Shape).Idx) :
    multiReduction .add [1, 2] ⟨1, ![1]⟩ x acc h hφ hacc j = (∑ b : Fin A, x (ix3 (0 : Fin 1) (0 : Fin 1) b) : EReal) := by
  rw [Ideal.multiReduction_add_total _ _ _ (fun b => by fin_cases b; rfl)]
  let e : (⟨3, ![1, 1, A]⟩ : Shape).Idx ≃ Fin A :=
    { toFun := fun i => i 2
      invFun := fun b => ix3 (0 : Fin 1) (0 : Fin 1) b
      left_inv := fun i => by
        rw [eq_ix3 i]
        exact congrArg₂ (fun a c => ix3 a c (i 2)) (Subsingleton.elim (0 : Fin 1) (i 0)) (Subsingleton.elim (0 : Fin 1) (i 1))
      right_inv := fun b => rfl }
  exact (Equiv.sum_comp e.symm x).symm

/-- The word of `1/1024`. -/
theorem ofBits_inv : Ideal.ofBits .f32 0x3A800000#32 = ((1 / 1024 : ℝ) : EReal) := by
  rw [ofBits_normal _ 117 0 false (by decide) (by decide) (by decide) (by decide) (by decide)]
  congr 1
  norm_num [zpow_neg]

/-- The word of `1024`. -/
theorem ofBits_1024 : Ideal.ofBits .f32 0x44800000#32 = ((1024 : ℝ) : EReal) := by
  rw [ofBits_normal _ 137 0 false (by decide) (by decide) (by decide) (by decide) (by decide)]
  congr 1
  norm_num [zpow_neg]

/-- Dividing by the number of particles is multiplying by its reciprocal. -/
theorem div_1024 (x : EReal) : Ideal.div x (Ideal.ofBits .f32 0x44800000#32) = x * Ideal.ofBits .f32 0x3A800000#32 := by
  rw [ofBits_1024, ofBits_inv, Ideal.div_coe (by norm_num)]

/-- The difference of a finite value and itself. -/
theorem IsReal.sub_self {x : EReal} (h : IsReal x) : x - x = 0 := by
  obtain ⟨r, rfl⟩ := h
  rw [← EReal.coe_sub, _root_.sub_self, EReal.coe_zero]

/-- The three pieces of a finite value add up to it. -/
theorem IsReal.pieces {x : EReal} (h : IsReal x) : x + (x - x) + ((x - x) - (x - x)) = x := by
  rw [h.sub_self]; simp

/-- A sum against a one-hot row picks one summand. -/
theorem sum_oneHot {n : ℕ} (a : Fin n → EReal) (k : Fin n) : (∑ j, a j * (if j = k then 1 else 0)) = a k := by
  simp

end Cert.Filter

namespace Cert.KernelIdeal.Own

open Cert.KernelIdeal Cert.KernelIdeal.Gen Cert.Filter
open Idealize.ShloMosaic Idealize.ShloMosaic.TcCoe Idealize.ShloMosaic.ValueIdx

/-- The one-hot matrix. -/
theorem oneHotV_read (ix : IVec S1024x1 32) (p k j : Fin 1024) (hk : ix (ix2 p (0 : Fin 1)) = BitVec.ofNat 32 k.val) :
    oneHotV (F := Ideal) (iota .tc S1024x1024 32 [1] iota_S1024x1024_d1_w32) ix (ix2 p j) = if j = k then 1 else 0 := by
  have e : broadcastTo S1024x1024 ix broadcasts_S1024x1_S1024x1024 (ix2 p j) = BitVec.ofNat 32 k.val := by
    rw [broadcastTo_apply _ _ _ (ix2 p (0 : Fin 1)) (fun a => by fin_cases a <;> rfl), hk]
  unfold oneHotV
  show ((((IntOp.cmpi .eq (iota .tc S1024x1024 32 [1] iota_S1024x1024_d1_w32 (ix2 p j))
    (broadcastTo S1024x1024 ix broadcasts_S1024x1_S1024x1024 (ix2 p j))).setWidth 32).toInt : ℝ) : EReal) = _
  rw [e, iota_one]
  show ((((IntOp.cmpi .eq (BitVec.ofNat 32 j.val) (BitVec.ofNat 32 k.val)).setWidth 32).toInt : ℝ) : EReal) = _
  by_cases h : j = k
  · subst h
    simp [IntOp.cmpi]
  · have hne : BitVec.ofNat 32 j.val ≠ BitVec.ofNat 32 k.val := fun hh => h (Fin.ext (by
      have := congrArg BitVec.toNat hh
      simp only [BitVec.toNat_ofNat] at this
      have := j.isLt; have := k.isLt
      omega))
    have hb := beq_eq_false_iff_ne.2 hne
    rw [show IntOp.cmpi .eq (BitVec.ofNat 32 j.val) (BitVec.ofNat 32 k.val) = 0#1 by
      unfold IntOp.cmpi; simp only [hb]; rfl]
    simp [h]

/-- A row of the product. -/
theorem pickV_read (q : FVec Ideal S96x1024 .bf16) (ix : IVec S1024x1 32) (r : Fin 96) (p k : Fin 1024)
    (hk : ix (ix2 p (0 : Fin 1)) = BitVec.ofNat 32 k.val) :
    pickV q (iota .tc S1024x1024 32 [1] iota_S1024x1024_d1_w32) ix (ix2 r p) = q (ix2 r k) := by
  unfold pickV
  refine (Ideal.matmul_transposedRhs_apply (M := 96) (K := 1024) (N := 1024) none q
    (oneHotV (F := Ideal) (iota .tc S1024x1024 32 [1] iota_S1024x1024_d1_w32) ix) (constant S96x1024 .f32 0x00000000#32) r p).trans ?_
  have e : (constant (F := Ideal) S96x1024 .f32 0x00000000#32) (ix2 r p) = (0 : EReal) := Ideal.ofBits_zero_f32
  rw [e, zero_add]
  refine Eq.trans (Finset.sum_congr rfl fun j _ => ?_) (sum_oneHot (fun j => q (ix2 r j)) k)
  rw [oneHotV_read ix p k j hk]

/-- Three blocks of rows, one above the other. -/
theorem three_read (p1 p2 p3 : S32x1024.Idx → EReal) (d : Fin 32) (k : Fin 1024) :
    let c := concatenate S96x1024 0 [⟨S32x1024, p1⟩, ⟨S32x1024, p2⟩, ⟨S32x1024, p3⟩]
      concatenates_S32x1024_S32x1024_S32x1024_S96x1024_d0
    c (ix2 (⟨0 + d.val, by omega⟩ : Fin 96) k) = p1 (ix2 d k)
    ∧ c (ix2 (⟨32 + d.val, by omega⟩ : Fin 96) k) = p2 (ix2 d k)
    ∧ c (ix2 (⟨64 + d.val, by omega⟩ : Fin 96) k) = p3 (ix2 d k) := by
  have piece (i : ℕ) (hi : i < 3) (off : ℕ) (hoff : off + 32 ≤ 96) (q : S32x1024.Idx → EReal)
      (hq : [(⟨S32x1024, p1⟩ : (s : Shape) × (s.Idx → EReal)), ⟨S32x1024, p2⟩, ⟨S32x1024, p3⟩][i] = ⟨S32x1024, q⟩)
      (hpre : ((([(⟨S32x1024, p1⟩ : (s : Shape) × (s.Idx → EReal)), ⟨S32x1024, p2⟩, ⟨S32x1024, p3⟩].take i).map (·.1)).map
        fun s => if h : s.rank = S96x1024.rank then s.size ((0 : Fin S96x1024.rank).cast h.symm) else 0).sum = off) :
      concatenate S96x1024 0 [⟨S32x1024, p1⟩, ⟨S32x1024, p2⟩, ⟨S32x1024, p3⟩]
        concatenates_S32x1024_S32x1024_S32x1024_S96x1024_d0 (ix2 (⟨off + d.val, by omega⟩ : Fin 96) k) = q (ix2 d k) :=
    concatenate_apply_piece (0 : Fin S96x1024.rank) [⟨S32x1024, p1⟩, ⟨S32x1024, p2⟩, ⟨S32x1024, p3⟩] _ _ i hi S32x1024 q hq rfl off hpre (ix2 d k)
      (fun b hb => by
        match b with
        | ⟨0, _⟩ => exact absurd rfl hb
        | ⟨1, _⟩ => rfl) rfl
  exact ⟨piece 0 (by decide) 0 (by decide) p1 rfl rfl, piece 1 (by decide) 32 (by decide) p2 rfl rfl,
    piece 2 (by decide) 64 (by decide) p3 rfl rfl⟩

/-- The three bands of pieces. -/
theorem piecesV_read (x : FVec Ideal S32x1024 .f32) (d : Fin 32) (k : Fin 1024) :
    piecesV x (ix2 (⟨0 + d.val, by omega⟩ : Fin 96) k) = x (ix2 d k)
    ∧ piecesV x (ix2 (⟨32 + d.val, by omega⟩ : Fin 96) k) = x (ix2 d k) - x (ix2 d k)
    ∧ piecesV x (ix2 (⟨64 + d.val, by omega⟩ : Fin 96) k) = (x (ix2 d k) - x (ix2 d k)) - (x (ix2 d k) - x (ix2 d k)) :=
  three_read x (fun y => x y - x y) (fun y => (x y - x y) - (x y - x y)) d k

/-- The gather reads the chosen particle. -/
theorem gatherV_read (x : FVec Ideal S32x1024 .f32) (ix : IVec S1024x1 32) (d : Fin 32) (p k : Fin 1024)
    (hk : ix (ix2 p (0 : Fin 1)) = BitVec.ofNat 32 k.val) (hx : IsReal (x (ix2 d k))) :
    gatherV (iota .tc S1024x1024 32 [1] iota_S1024x1024_d1_w32) x ix (ix2 d p) = x (ix2 d k) := by
  have band (off : ℕ) (hoff : off + 32 ≤ 96) (g : FVec Ideal S96x1024 .f32) (hs : S96x1024.Slices ![off, 0] S32x1024) :
      extractStridedSlice S32x1024 ![off, 0] g hs (ix2 d p) = g (ix2 (⟨off + d.val, by omega⟩ : Fin 96) p) := by
    unfold extractStridedSlice
    refine congrArg g (funext fun a => Fin.ext ?_)
    match a with
    | ⟨0, _⟩ => rfl
    | ⟨1, _⟩ => exact Nat.zero_add _
  have sum (g : FVec Ideal S96x1024 .f32) : bandsV g (ix2 d p)
      = (g (ix2 (⟨0 + d.val, by omega⟩ : Fin 96) p) + g (ix2 (⟨32 + d.val, by omega⟩ : Fin 96) p) : EReal)
        + g (ix2 (⟨64 + d.val, by omega⟩ : Fin 96) p) := by
    unfold bandsV
    rw [shapeCast_self, ← band 0 (by norm_num) g slices_S96x1024_o0_0_S32x1024,
      ← band 32 (by norm_num) g slices_S96x1024_o32_0_S32x1024, ← band 64 (by norm_num) g slices_S96x1024_o64_0_S32x1024]
    rfl
  obtain ⟨h0, h1, h2⟩ := piecesV_read x d k
  unfold gatherV
  rw [sum, pickV_read _ ix _ p k hk, pickV_read _ ix _ p k hk, pickV_read _ ix _ p k hk, h0, h1, h2]
  exact hx.pieces

/-- The unnormalised weights. -/
theorem rawWeightsV_read (x : FVec Ideal S32x1024 .f32) (o : FVec Ideal S1x1x32x1 .f32) (w : FVec Ideal S1x1024 .f32) (p : Fin 1024) :
    rawWeightsV x o w (ix2 (0 : Fin 1) p)
      = rawE (fun p d => x (ix2 d p)) (fun d => o (ix4 (0 : Fin 1) (0 : Fin 1) d (0 : Fin 1))) (fun p => w (ix2 (0 : Fin 1) p)) p := by
  have eo (d : Fin 32) : broadcastTo S32x1024 (shapeCast S32x1 o shapeCasts_S1x1x32x1_S32x1) broadcasts_S32x1_S32x1024 (ix2 d p)
      = o (ix4 (0 : Fin 1) (0 : Fin 1) d (0 : Fin 1)) := by
    rw [broadcastTo_apply _ _ _ (ix2 d (0 : Fin 1)) (fun a => by fin_cases a <;> rfl),
      shapeCast_apply _ _ _ (ix4 (0 : Fin 1) (0 : Fin 1) d (0 : Fin 1)) (by simp [Shape.rowMajor_val_four, Shape.rowMajor_val_two])]
  have eq (y : FVec Ideal S32x1024 .f32) : shapeCast S1x1024
      (multiReduction .add [0] S1024 y 0x00000000#32 reduces_S32x1024_S1024 (.inl rfl) rfl) shapeCasts_S1024_S1x1024 (ix2 (0 : Fin 1) p)
      = (∑ d : Fin 32, y (ix2 d p) : EReal) := by
    rw [shapeCast_apply _ _ _ (ix1 p) (by simp [Shape.rowMajor_val_one, Shape.rowMajor_val_two])]
    exact ksum_first2 (A := 32) (B := 1024) reduces_S32x1024_S1024 y _ _ _ p
  unfold rawWeightsV rawE
  show w (ix2 (0 : Fin 1) p) * (Ideal.exp (Ideal.ofBits .f32 0xBF000000#32 * shapeCast S1x1024 _ _ (ix2 (0 : Fin 1) p))
    + Ideal.ofBits .f32 0x322BCC77#32) + Ideal.ofBits .f32 0x2EDBE6FF#32 = _
  rw [eq]
  refine congrArg (fun s => w (ix2 (0 : Fin 1) p) * (Ideal.exp (Ideal.ofBits .f32 0xBF000000#32 * s)
    + Ideal.ofBits .f32 0x322BCC77#32) + Ideal.ofBits .f32 0x2EDBE6FF#32) (Finset.sum_congr rfl fun d _ => ?_)
  show _ = (x (ix2 d p) - o (ix4 (0 : Fin 1) (0 : Fin 1) d (0 : Fin 1)))
    * (x (ix2 d p) - o (ix4 (0 : Fin 1) (0 : Fin 1) d (0 : Fin 1)))
  rw [← eo d]
  rfl

/-- The weights divided by their sum. -/
theorem normalV_read (w : FVec Ideal S1x1024 .f32) (p : Fin 1024) :
    normalV w (ix2 (0 : Fin 1) p) = Ideal.div (w (ix2 (0 : Fin 1) p)) (∑ q : Fin 1024, w (ix2 (0 : Fin 1) q)) := by
  have e : extractAt ![0, 0, 0] (shapeCast S1x1x1
      (multiReduction .add [1, 2] S1 (shapeCast S1x1x1024 w shapeCasts_S1x1024_S1x1x1024) 0x00000000#32
        reduces_S1x1x1024_S1 (.inl rfl) rfl) shapeCasts_S1_S1x1x1) inpos_S1x1x1_p0_0_0
      = (∑ q : Fin 1024, w (ix2 (0 : Fin 1) q) : EReal) := by
    unfold extractAt
    rw [shapeCast_apply _ _ _ (ix1 (0 : Fin 1)) (by rfl)]
    refine (ktotal3 (A := 1024) reduces_S1x1x1024_S1 _ _ _ _ _).trans (Finset.sum_congr rfl fun q _ => ?_)
    exact shapeCast_apply _ _ _ (ix2 (0 : Fin 1) q) (by simp [Shape.rowMajor_val_three, Shape.rowMajor_val_two])
  unfold normalV
  show Ideal.div (w (ix2 (0 : Fin 1) p)) (extractAt _ _ _) = _
  rw [e]

/-- The weights of a step. -/
theorem weightsV_read (x : FVec Ideal S32x1024 .f32) (o : FVec Ideal S1x1x32x1 .f32) (w : FVec Ideal S1x1024 .f32) (p : Fin 1024) :
    weightsV x o w (ix2 (0 : Fin 1) p)
      = weightE (fun p d => x (ix2 d p)) (fun d => o (ix4 (0 : Fin 1) (0 : Fin 1) d (0 : Fin 1))) (fun p => w (ix2 (0 : Fin 1) p)) p := by
  unfold weightsV weightE
  rw [normalV_read, rawWeightsV_read]
  exact congrArg _ (Finset.sum_congr rfl fun q _ => rawWeightsV_read x o w q)

/-- The mean of a row. -/
theorem meanV_read (x : FVec Ideal S32x1024 .f32) (d : Fin 32) :
    meanV x (ix3 (0 : Fin 1) d (0 : Fin 1)) = Ideal.div (∑ p : Fin 1024, x (ix2 d p)) (Ideal.ofBits .f32 0x44800000#32) := by
  rw [div_1024]
  unfold meanV
  rw [shapeCast_apply _ _ _ (ix2 d (0 : Fin 1)) (by simp [Shape.rowMajor_val_three, Shape.rowMajor_val_two])]
  show (shapeCast S32x1 _ _ (ix2 d (0 : Fin 1)) * Ideal.ofBits .f32 0x3A800000#32 : EReal) = _
  rw [shapeCast_apply _ _ _ (ix1 d) (by simp [Shape.rowMajor_val_one, Shape.rowMajor_val_two])]
  exact congrArg (fun s : EReal => s * Ideal.ofBits .f32 0x3A800000#32)
    (ksum_last2 (A := 32) (B := 1024) reduces_S32x1024_S32 x _ _ _ d)

end Cert.KernelIdeal.Own

end
-- ==== Proof.KerStep.lean ====
/- The kernel's steps are the filter's: what it carries after every step, and the block of the result it leaves. -/
module

public import proofs.«01_k».proof.Proof.KerPick
public import proofs.«01_k».proof.Proof.KerGather
public import proofs.«01_k».proof.Proof.Point

@[expose] public section

noncomputable section

namespace Cert.KernelIdeal.Own

open Cert.KernelIdeal Cert.KernelIdeal.Gen Cert.Filter
open Idealize.ShloMosaic Idealize.ShloMosaic.TcCoe Idealize.ShloMosaic.ValueIdx Idealize.ShloMosaic.VecWindow

/-- The noise of a step. -/
theorem noiseAll_eq (b : Fin 1024) (j : ℕ) (d : Fin 32) (p : Fin 1024) :
    noiseAll (F := Ideal) (BitVec.ofNat 32 b.val) (noiseKey0 j) (noiseKey1 j) (ix2 d p)
      = noiseE j ((b.val * 1024 + p.val) * 32 + d.val) := by
  rw [noiseAll_read, noiseK_eq, hashW_eq]
  unfold noiseE
  have e : (b.val * 1024 + p.val) * 32 + d.val
      = (b.val * 32768 + 4096 * (p.val / 128)) + (p.val % 128 * 32 + d.val) := by omega
  rw [e]
  simp only [BitVec.ofNat_add, BitVec.ofNat_mul]

/-- A table's word at a step. -/
theorem keyAt_read (T : IVec S20x2 32) (off : Fin 2 → ℕ) (inb : ∀ a, off a + S1x1.size a ≤ S20x2.size a) (k : Fin 20) (j : Fin 2)
    (h : off = ![k.val, j.val]) : keyAt T off inb = T (ix2 k j) := by
  subst h
  unfold keyAt
  refine congrArg T (funext fun a => Fin.ext ?_)
  match a with
  | ⟨0, _⟩ => rfl
  | ⟨1, _⟩ => rfl

/-- The window of the observations at a step. -/
theorem window_read (o : FVec Ideal S1x20x32x1 .f32) (off : Fin 4 → ℕ) (inb : ∀ a, off a + S1x1x32x1.size a ≤ S1x20x32x1.size a)
    (k : Fin 20) (h : off = ![0, k.val, 0, 0]) (d : Fin 32) :
    window o off S1x1x32x1.size inb (ix4 (0 : Fin 1) (0 : Fin 1) d (0 : Fin 1)) = o (ix4 (0 : Fin 1) k d (0 : Fin 1)) := by
  subst h
  unfold window
  refine congrArg o (funext fun a => Fin.ext ?_)
  match a with
  | ⟨0, _⟩ => rfl
  | ⟨1, _⟩ => exact Nat.add_zero _
  | ⟨2, _⟩ => show 0 + 1 * d.val = d.val; omega
  | ⟨3, _⟩ => rfl

variable (T1 T2 : IVec S20x2 32)

/-- The tables hold the keys of the steps. -/
structure Keys : Prop where
  n0 : ∀ k : Fin 20, T1 (ix2 k (0 : Fin 2)) = noiseKey0 k.val
  n1 : ∀ k : Fin 20, T1 (ix2 k (1 : Fin 2)) = noiseKey1 k.val
  r0 : ∀ k : Fin 20, T2 (ix2 k (0 : Fin 2)) = drawKey0 k.val
  r1 : ∀ k : Fin 20, T2 (ix2 k (1 : Fin 2)) = drawKey1 k.val

/-- What is carried after the steps before `n + 1`. -/
structure Carried (b : Fin 1024) (z : Fin 32 → EReal) (o : Fin 32 → Fin 20 → EReal) (n : ℕ) (s : Chain Ideal) : Prop where
  parts : ∀ d p, s.parts (ix2 d p) = movedE n b (runE b z o n).x p d
  wts : ∀ p, s.wts (ix2 (0 : Fin 1) p) = (runE b z o (n + 1)).w p
  minis : ∀ p, s.minis (ix2 p (0 : Fin 1)) = BitVec.ofNat 32 (pick (scoreR n b (runE b z o (n + 1)).w p)).val

/-- The scores a tile compares are the kernel's. -/
theorem rowScore_eq (j : ℕ) (b p : Fin 1024) (W : FVec Ideal S1x1024 .f32) (w : Fin 1024 → EReal)
    (hW : ∀ p, W (ix2 (0 : Fin 1) p) = w p) :
    rowScore (drawKey0 j) (drawKey1 j) (recipV W) ((b.val * 1024 + p.val) * 1024) = scoreK j b w p := by
  funext k
  unfold rowScore scoreK uniE
  rw [hashW_eq, ← hW k]
  rfl

/-- One step. -/
theorem stepC_carried (hK : Keys T1 T2) (i : grid0.Coords) (b : Fin 1024) (hi : (i 0).val = b.val) (O : FVec Ideal S1x20x32x1 .f32)
    (z : Fin 32 → EReal) (o : Fin 32 → Fin 20 → EReal)
    (hO : ∀ (k : Fin 20) d, O (ix4 (0 : Fin 1) k d (0 : Fin 1)) = o d k) (n : ℕ) (hn : n < 20) (k : Fin k0_t1_loop.trips) (hk : k.val = n)
    (s : Chain Ideal)
    (hx : ∀ d p, (if notFirst k = 1#1 then gatherV (iota .tc S1024x1024 32 [1] iota_S1024x1024_d1_w32) s.parts s.minis else s.parts)
      (ix2 d p) = (runE b z o n).x p d)
    (hw : ∀ p, s.wts (ix2 (0 : Fin 1) p) = (runE b z o n).w p) :
    Carried b z o n (stepC T1 T2 i O Gen.k0_pay714 k s) := by
  obtain ⟨x, ex⟩ : ∃ x, x = (if notFirst k = 1#1 then gatherV (iota .tc S1024x1024 32 [1] iota_S1024x1024_d1_w32) s.parts s.minis
    else s.parts) := ⟨_, rfl⟩
  rw [← ex] at hx
  have e1 : k0_off1 k = ![(⟨n, hn⟩ : Fin 20).val, (0 : Fin 2).val] := by rw [k0_off1_eq, hk]; rfl
  have e2 : k0_off2 k = ![(⟨n, hn⟩ : Fin 20).val, (1 : Fin 2).val] := by rw [k0_off2_eq, hk]; rfl
  have e3 : k0_off3 k = ![0, (⟨n, hn⟩ : Fin 20).val, 0, 0] := by rw [k0_off3_eq, hk]
  have hp : ∀ d p, movedV (noiseKey0 n) (noiseKey1 n) (BitVec.ofNat 32 (i 0).val) x (ix2 d p)
      = movedE n b (runE b z o n).x p d := by
    intro d p
    unfold movedV movedE
    rw [← hx d p, ← noiseAll_eq, hi]
    rfl
  have hwt : ∀ p, stepW k O (movedV (noiseKey0 n) (noiseKey1 n) (BitVec.ofNat 32 (i 0).val) x) s.wts (ix2 (0 : Fin 1) p)
      = (runE b z o (n + 1)).w p := by
    intro p
    unfold stepW
    rw [weightsV_read]
    simp only [runE, dif_pos hn, stepE]
    rw [show (fun p d => movedV (noiseKey0 n) (noiseKey1 n) (BitVec.ofNat 32 (i 0).val) x (ix2 d p))
        = movedE n b (runE b z o n).x from funext fun p => funext fun d => hp d p,
      show (fun p => s.wts (ix2 (0 : Fin 1) p)) = (runE b z o n).w from funext hw,
      show (fun d => window O (k0_off3 k) S1x1x32x1.size (k0_off3_inb k) (ix4 (0 : Fin 1) (0 : Fin 1) d (0 : Fin 1)))
        = fun d => o d ⟨n, hn⟩ from funext fun d => (window_read O _ _ ⟨n, hn⟩ e3 d).trans (hO ⟨n, hn⟩ d)]
  unfold stepC
  rw [← ex, keyAt_read T1 _ _ _ _ e1, keyAt_read T1 _ _ _ _ e2, keyAt_read T2 _ _ _ _ e1, keyAt_read T2 _ _ _ _ e2,
    hK.n0, hK.n1, hK.r0, hK.r1]
  refine ⟨hp, hwt, fun p => ?_⟩
  dsimp only
  rw [hi] at hwt ⊢
  rw [chosenV_read, rowScore_eq n b p _ _ hwt]
  rw [pick_scoreK n b (runE_pos b z o (n + 1)) p (pick (scoreK n b (runE b z o (n + 1)).w p)) (pick_spec _)]

/-- The gather of what is carried is the filter's particles. -/
theorem gather_carried (b : Fin 1024) {z : Fin 32 → EReal} (hz : ∀ d, IsReal (z d)) (o : Fin 32 → Fin 20 → EReal) (n : ℕ) (hn : n < 20)
    (s : Chain Ideal) (h : Carried b z o n s) (d : Fin 32) (p : Fin 1024) :
    gatherV (iota .tc S1024x1024 32 [1] iota_S1024x1024_d1_w32) s.parts s.minis (ix2 d p) = (runE b z o (n + 1)).x p d := by
  rw [gatherV_read s.parts s.minis d p _ (h.minis p) (by
    rw [h.parts]
    exact movedE_real n b (fun p d => runE_real b hz o n p d) _ _), h.parts]
  simp only [runE, dif_pos hn, stepE]

/-- What is carried after every step. -/
theorem chain_carried (hK : Keys T1 T2) (i : grid0.Coords) (b : Fin 1024) (hi : (i 0).val = b.val) (Z : FVec Ideal S1x32x1 .f32)
    (O : FVec Ideal S1x20x32x1 .f32) (X : IVec S1024x1 32)
    {z : Fin 32 → EReal} (hz : ∀ d, IsReal (z d)) (o : Fin 32 → Fin 20 → EReal)
    (hZ : ∀ d, Z (ix3 (0 : Fin 1) d (0 : Fin 1)) = z d)
    (hO : ∀ (k : Fin 20) d, O (ix4 (0 : Fin 1) k d (0 : Fin 1)) = o d k) (n : ℕ) (hn : n < 20) :
    Carried b z o n (chainAt T1 T2 i Z O X (n + 1)) := by
  induction n with
  | zero =>
    have h : 0 < k0_t1_loop.trips := by rw [trips_steps]; omega
    have hf : ¬ notFirst ⟨0, h⟩ = 1#1 := fun hh => ((notFirst_iff ⟨0, h⟩).mp hh) rfl
    rw [chainAt, dif_pos h]
    refine stepC_carried T1 T2 hK i b hi O z o hO 0 hn ⟨0, h⟩ rfl _ (fun d p => ?_) fun p => ?_
    · rw [if_neg hf]
      exact (parts0_read Z d p).trans (hZ d)
    · refine (weights0_read (F := Ideal) (ix2 (0 : Fin 1) p)).trans ?_
      show Ideal.ofBits .f32 0x3A800000#32 = Ideal.div (Ideal.ofBits .f32 0x3F800000#32) (Ideal.ofBits .f32 0x44800000#32)
      rw [div_1024, ofBits_one, one_mul]
  | succ n ih =>
    have h : n + 1 < k0_t1_loop.trips := by rw [trips_steps]; omega
    have hf : notFirst ⟨n + 1, h⟩ = 1#1 := (notFirst_iff ⟨n + 1, h⟩).mpr (Nat.succ_ne_zero n)
    have ih' := ih (by omega)
    rw [chainAt, dif_pos h]
    refine stepC_carried T1 T2 hK i b hi O z o hO (n + 1) hn ⟨n + 1, h⟩ rfl _ (fun d p => ?_) ih'.wts
    rw [if_pos hf]
    exact gather_carried b hz o n (by omega) _ ih' d p

/-- The block of the result at a grid point is the mean of the filter's particles. -/
theorem pointV_read (hK : Keys T1 T2) (i : grid0.Coords) (b : Fin 1024) (hi : (i 0).val = b.val) (Z : FVec Ideal S1x32x1 .f32)
    (O : FVec Ideal S1x20x32x1 .f32) {z : Fin 32 → EReal} (hz : ∀ d, IsReal (z d)) (o : Fin 32 → Fin 20 → EReal)
    (hZ : ∀ d, Z (ix3 (0 : Fin 1) d (0 : Fin 1)) = z d)
    (hO : ∀ (k : Fin 20) d, O (ix4 (0 : Fin 1) k d (0 : Fin 1)) = o d k) (d : Fin 32) :
    pointV T1 T2 i Z O (ix3 (0 : Fin 1) d (0 : Fin 1)) = meanE b z o d := by
  unfold pointV meanE
  dsimp only
  rw [meanV_read]
  refine congrArg (fun s => Ideal.div s (Ideal.ofBits .f32 0x44800000#32)) (Finset.sum_congr rfl fun p _ => ?_)
  exact gather_carried b hz o 19 (by norm_num) _ (chain_carried T1 T2 hK i b hi Z O _ hz o hZ hO 19 (by norm_num)) d p

/-- The words of the kernel's tables are the keys. -/
theorem tables_keys : Keys (fun i => lit0 (S20x2.rowMajor i)) (fun i => lit1 (S20x2.rowMajor i)) where
  n0 := by decide +kernel
  n1 := by decide +kernel
  r0 := by decide +kernel
  r1 := by decide +kernel

end Cert.KernelIdeal.Own

end
-- ==== Proof.KerValue.lean ====
/- The kernel's result, read off its run: the mean of the filter's particles, for every batch entry. -/
module

public import proofs.«01_k».proof.Proof.Launch
public import proofs.«01_k».proof.Proof.KerStep
public import Idealize.ShloMosaic.Lib.Pipeline.ValueKit

@[expose] public section

set_option maxRecDepth 16384

noncomputable section

namespace Cert.KernelIdeal.Own

open Cert.KernelIdeal Cert.KernelIdeal.Gen Cert.Filter
open Idealize.ShloMosaic hiding ix1 ix2 ix3 ix4
open Idealize.SL.Sem Idealize.ShloMosaic.TcCoe Idealize.ShloMosaic.Tactic Idealize.ShloMosaic.ValueIdx

/-- Grid point `t` is batch entry `t`. -/
theorem coords_val : ∀ t : Fin grid0.N, ((grid0.coords t) 0).val = t.val := by decide +kernel

/-- The blocks of a grid point. -/
theorem index_in : ∀ t : Fin grid0.N, cc0_transform_0 (grid0.coords t) = ![t.val, 0, 0] := by decide +kernel
theorem index_obs : ∀ t : Fin grid0.N, cc0_transform_1 (grid0.coords t) = ![t.val, 0, 0, 0] := by decide +kernel
theorem index_out : ∀ t : Fin grid0.N, cc0_transform_2 (grid0.coords t) = ![t.val, 0, 0] := by decide +kernel

section Generic

variable {F : FTy → Type} [FloatOps F] (m : (ℓ : Loc nD τ sig) → Buf (Elt F) ℓ)

/-- The grid point of a batch entry. -/
def ptOf (b : Fin 1024) : Fin grid0.N := ⟨b.val, by have h : grid0.N = 1024 := by decide +kernel
                                                    rw [h]; exact b.isLt⟩

/-- Every place of the array is in some grid point's block. -/
theorem out_covers (hO : Ok m) : ((cfgM m hO).win 2).Covers := by
  refine ⟨fun a => ?_, fun β => ?_⟩
  · change Fin 3 at a
    show 0 < S1x32x1.size a
    exact (by decide : ∀ a : Fin 3, 0 < S1x32x1.size a) a
  · have hβ (a : Fin 3) : (β a).val < (S1024x32x1.size a + S1x32x1.size a - 1) / S1x32x1.size a := (β a).isLt
    have e : ∀ a : Fin 3, (S1024x32x1.size a + S1x32x1.size a - 1) / S1x32x1.size a = ![1024, 1, 1] a := by decide
    have h0 : (β (0 : Fin 3)).val < 1024 := (hβ 0).trans_eq (e 0)
    have h1 : (β (1 : Fin 3)).val < 1 := (hβ 1).trans_eq (e 1)
    have h2 : (β (2 : Fin 3)).val < 1 := (hβ 2).trans_eq (e 2)
    refine ⟨ptOf ⟨_, h0⟩, flush0_2 _ _, fun a => ⟨?_, .inl rfl⟩⟩
    show cc0_transform_2 (grid0.coords (ptOf ⟨_, h0⟩)) a = (β a).val
    rw [index_out]
    change Fin 3 at a
    fin_cases a
    · rfl
    · show 0 = (β (1 : Fin 3)).val
      omega
    · show 0 = (β (2 : Fin 3)).val
      omega

/-- The number of grid points. -/
theorem points : grid0.N = 1024 := by decide +kernel

/-- The batch entry of a grid point. -/
def entryOf (t : Fin grid0.N) : Fin 1024 := t.cast points

theorem ptOf_entryOf (t : Fin grid0.N) : ptOf (entryOf t) = t := rfl

/-- The result's block of a grid point is one batch entry. -/
theorem emb_out (hO : Ok m) (t : Fin grid0.N) (y : S1x32x1.Idx) :
    ((((cfgM m hO).win 2).blk t).view.emb y : S1024x32x1.Idx) = ValueIdx.ix3 (entryOf t) (y 1) (0 : Fin 1) := by
  funext a
  apply Fin.ext
  change Fin 3 at a
  show cc0_transform_2 (grid0.coords t) a * S1x32x1.size a + 1 * (y a).val = _
  rw [index_out]
  have h0 : (y 0).val < 1 := (y 0).isLt
  have h2 : (y 2).val < 1 := (y 2).isLt
  fin_cases a
  · show t.val * 1 + 1 * (y 0).val = t.val
    omega
  · show 0 * 32 + 1 * (y 1).val = (y 1).val
    omega
  · show 0 * 1 + 1 * (y 2).val = 0
    omega

/-- The first input's block of a grid point is one batch entry. -/
theorem emb_in (hO : Ok m) (t : Fin grid0.N) (y : S1x32x1.Idx) :
    ((((cfgM m hO).win 0).blk t).view.emb y : S1024x32x1.Idx) = ValueIdx.ix3 (entryOf t) (y 1) (0 : Fin 1) := by
  funext a
  apply Fin.ext
  change Fin 3 at a
  show cc0_transform_0 (grid0.coords t) a * S1x32x1.size a + 1 * (y a).val = _
  rw [index_in]
  have h0 : (y 0).val < 1 := (y 0).isLt
  have h2 : (y 2).val < 1 := (y 2).isLt
  fin_cases a
  · show t.val * 1 + 1 * (y 0).val = t.val
    omega
  · show 0 * 32 + 1 * (y 1).val = (y 1).val
    omega
  · show 0 * 1 + 1 * (y 2).val = 0
    omega

/-- The second input's block of a grid point is one batch entry. -/
theorem emb_obs (hO : Ok m) (t : Fin grid0.N) (y : S1x20x32x1.Idx) :
    ((((cfgM m hO).win 1).blk t).view.emb y : S1024x20x32x1.Idx) = ValueIdx.ix4 (entryOf t) (y 1) (y 2) (0 : Fin 1) := by
  funext a
  apply Fin.ext
  change Fin 4 at a
  show cc0_transform_1 (grid0.coords t) a * S1x20x32x1.size a + 1 * (y a).val = _
  rw [index_obs]
  have h0 : (y 0).val < 1 := (y 0).isLt
  have h3 : (y 3).val < 1 := (y 3).isLt
  fin_cases a
  · show t.val * 1 + 1 * (y 0).val = t.val
    omega
  · show 0 * 20 + 1 * (y 1).val = (y 1).val
    omega
  · show 0 * 32 + 1 * (y 2).val = (y 2).val
    omega
  · show 0 * 1 + 1 * (y 3).val = 0
    omega

/-- The array the launch leaves: each batch entry's slice is what its grid point computes. -/
theorem arr_out (hO : Ok m) (c : Dev nD) : (dats m hO 0 c).arrAt 2 (cfgM m hO).N
    = fun y : S1024x32x1.Idx => outsAt0 m hO c (ptOf (y 0)) (ValueIdx.ix3 (0 : Fin 1) (y 1) (0 : Fin 1)) := by
  refine (dats m hO 0 c).arrAt_eq_of_covers 2 _ (out_covers m hO) fun t hf y => ?_
  change S1x32x1.Idx at y
  rw [after0_2]
  refine Eq.trans ?_ (congrArg (fun w : S1024x32x1.Idx => outsAt0 m hO c (ptOf (w 0)) (ValueIdx.ix3 (0 : Fin 1) (w 1) (0 : Fin 1))) (emb_out m hO t y)).symm
  show outsAt0 m hO c t y = outsAt0 m hO c t (ValueIdx.ix3 (0 : Fin 1) (y 1) (0 : Fin 1))
  congr 1
  funext a
  fin_cases a
  · exact Subsingleton.elim (α := Fin 1) _ _
  · rfl
  · exact Subsingleton.elim (α := Fin 1) _ _

/-- The first table. -/
theorem table_fst : tbl m 0 = fun i => lit0 (S20x2.rowMajor i) := by
  show StableHlo.after (List.flatten [hostOps0]) (fun b => m (0, b)) (Proc.devRef .tc main_c) = _
  generalize hR : (fun i => lit0 (S20x2.rowMajor i)) = R
  simp only [hostOps0, List.flatten_cons, List.flatten_nil, List.append_nil, List.cons_append, List.nil_append]
  after_results
  exact hR

/-- The second table. -/
theorem table_snd : tbl m 1 = fun i => lit1 (S20x2.rowMajor i) := by
  show StableHlo.after (List.flatten [hostOps0]) (fun b => m (0, b)) (Proc.devRef .tc main_c_0) = _
  generalize hR : (fun i => lit1 (S20x2.rowMajor i)) = R
  simp only [hostOps0, List.flatten_cons, List.flatten_nil, List.append_nil, List.cons_append, List.nil_append]
  after_results
  exact hR

/-- The first input as the launch finds it. -/
theorem V_in (c : Dev nD) (y : S1024x32x1.Idx) :
    V m c main_v2 y = (m ((c : Thread nD τ).loc main_arg0) : S1024x32.Idx → F .f32) (ValueIdx.ix2 (y 0) (y 1)) := by
  show StableHlo.after (List.flatten [hostOps0]) (fun b => m (c, b)) (Proc.devRef .tc main_v2) y = _
  simp only [hostOps0, List.flatten_cons, List.flatten_nil, List.append_nil, List.cons_append, List.nil_append]
  after_results
  exact broadcastInDim_apply _ _ _ _ (ValueIdx.ix2 (y 0) (y 1)) (fun a => by fin_cases a <;> rfl)

/-- The second input as the launch finds it. -/
theorem V_obs (c : Dev nD) (y : S1024x20x32x1.Idx) :
    V m c main_v1 y = (m ((c : Thread nD τ).loc main_arg1) : S1024x32x20.Idx → F .f32) (ValueIdx.ix3 (y 0) (y 2) (y 1)) := by
  show StableHlo.after (List.flatten [hostOps0]) (fun b => m (c, b)) (Proc.devRef .tc main_v1) y = _
  simp only [hostOps0, List.flatten_cons, List.flatten_nil, List.append_nil, List.cons_append, List.nil_append]
  after_results
  refine (broadcastInDim_apply (s := S1024x20x32) (t := S1024x20x32x1) _ _ _ _ (ValueIdx.ix3 (y 0) (y 1) (y 2))
    (fun a => by fin_cases a <;> rfl)).trans ?_
  exact transpose_apply _ _ _ _ (ValueIdx.ix3 (y 0) (y 2) (y 1)) (fun a => by fin_cases a <;> rfl)

/-- The result as the program leaves it: the launch's array without its last axis. -/
theorem W_main_v4 (hO : Ok m) (c : Dev nD) (y : S1024x32.Idx) :
    Pipeline.afterTail pcfgs (fun _ => adm m hO) (dats m hO) 0 (V0 m) [hostOps1] c main_v4 y
      = outsAt0 m hO c (ptOf (y 0)) (ValueIdx.ix3 (0 : Fin 1) (y 1) (0 : Fin 1)) := by
  unfold Pipeline.afterTail
  simp only [hostOps1, List.flatten_cons, List.flatten_nil, List.append_nil, List.cons_append, List.nil_append]
  after_results
  refine (shapeCast_apply (s := S1024x32x1) (t := S1024x32) _ shapeCasts_S1024x32x1_S1024x32 y
    (ValueIdx.ix3 (y 0) (y 1) (0 : Fin 1)) (by simp [Shape.rowMajor_val_three, Shape.rowMajor_val_two])).trans ?_
  have e : Pipeline.withArrays (Pipeline.pin pcfgs (fun x => adm m hO) 0).spec c (V0 m c)
      (fun w => (dats m hO 0 c).arrAt w (Pipeline.pin pcfgs (fun x => adm m hO) 0).N) (Proc.devRef .tc main_v3)
      = (dats m hO 0 c).arrAt 2 (cfgM m hO).N :=
    Pipeline.withArrays_arr spec0 (by decide) c (V0 m c) _ 2
  rw [e, arr_out]

/-- The first input's block of a grid point. -/
theorem block_in (hO : Ok m) (c : Dev nD) (b : Fin 1024) (d : Fin 32) :
    (iblk m hO c 0 (ptOf b) : S1x32x1.Idx → F .f32) (ValueIdx.ix3 (0 : Fin 1) d (0 : Fin 1))
      = (m ((c : Thread nD τ).loc main_arg0) : S1024x32.Idx → F .f32) (ValueIdx.ix2 b d) := by
  refine Eq.trans ?_ (V_in m c (ValueIdx.ix3 b d (0 : Fin 1)))
  exact congrArg (V m c main_v2 : S1024x32x1.Idx → F .f32) (emb_in m hO (ptOf b) (ValueIdx.ix3 (0 : Fin 1) d (0 : Fin 1)))

/-- The second input's block of a grid point. -/
theorem block_obs (hO : Ok m) (c : Dev nD) (b : Fin 1024) (k : Fin 20) (d : Fin 32) :
    (iblk m hO c 1 (ptOf b) : S1x20x32x1.Idx → F .f32) (ValueIdx.ix4 (0 : Fin 1) k d (0 : Fin 1))
      = (m ((c : Thread nD τ).loc main_arg1) : S1024x32x20.Idx → F .f32) (ValueIdx.ix3 b d k) := by
  refine Eq.trans ?_ (V_obs m c (ValueIdx.ix4 b k d (0 : Fin 1)))
  exact congrArg (V m c main_v1 : S1024x20x32x1.Idx → F .f32) (emb_obs m hO (ptOf b) (ValueIdx.ix4 (0 : Fin 1) k d (0 : Fin 1)))

end Generic

/-- The program's result over the extended reals, where the initial state is real: every batch entry's mean, as
    the filter's mathematics gives it. -/
theorem run_result (m : (ℓ : Loc nD τ sig) → Buf (Elt Ideal) ℓ) (ρ : Dev nD → PrngReg)
    (hz : ∀ (c : Dev nD) (y : S1024x32.Idx), IsReal ((m ((c : Thread nD τ).loc main_arg0) : S1024x32.Idx → EReal) y)) :
    θ_run defs (onTc main) (s₀ m ρ) fun r => ∀ c : Dev nD,
      r.2.mem ((c : Thread nD τ).loc main_v4) = (fun y : S1024x32.Idx => meanE (y 0)
        (fun d => (m ((c : Thread nD τ).loc main_arg0) : S1024x32.Idx → EReal) (ValueIdx.ix2 (y 0) d))
        (fun d k => (m ((c : Thread nD τ).loc main_arg1) : S1024x32x20.Idx → EReal) (ValueIdx.ix3 (y 0) d k)) (y 1))
      ∧ r.2.mem ((c : Thread nD τ).loc main_arg0) = m ((c : Thread nD τ).loc main_arg0)
      ∧ r.2.mem ((c : Thread nD τ).loc main_arg1) = m ((c : Thread nD τ).loc main_arg1) := by
  have hO : Ok m := trivial
  refine (θ_run defs _ _).mono (fun r h c => ⟨?_, ((h c).2 main_arg0 (by decide : main_arg0 ∈ Pipeline.restRefs sig spec0)).trans (W_main_arg0 m hO _ c),
    ((h c).2 main_arg1 (by decide : main_arg1 ∈ Pipeline.restRefs sig spec0)).trans (W_main_arg1 m hO _ c)⟩) (run_main m ρ hO)
  refine ((h c).2 main_v4 (by decide : main_v4 ∈ Pipeline.restRefs sig spec0)).trans (funext fun y => ?_)
  refine (W_main_v4 m hO c y).trans ?_
  refine pointV_read _ _ ?_ (grid0.coords (ptOf (y 0))) (y 0) (coords_val _) _ _ (hz := fun d => hz c _) _
    (fun d => block_in m hO c (y 0) d) (fun k d => block_obs m hO c (y 0) k d) (y 1)
  rw [table_fst, table_snd]
  exact tables_keys

end Cert.KernelIdeal.Own
-- ==== Proof.RefRead.lean ====
/- The reference's values, lane by lane. -/
module

public import proofs.«01_k».proof.Proof.Gen.ReferenceIdeal.Step
public import proofs.«01_k».proof.Proof.Words
public import Idealize.ShloMosaic.Lib.Tactic

@[expose] public section

noncomputable section

namespace Cert.ReferenceIdeal.Own

open Cert.ReferenceIdeal Cert.ReferenceIdeal.Gen Cert.Filter
open Idealize.ShloMosaic Idealize.ShloMosaic.TcCoe Idealize.ShloMosaic.Tactic
open Cert.ReferenceIdeal.Step

variable {F : FTy → Type} [FloatOps F] (j : ℕ) (s : State F)

/-- The counters of step `j`'s keys. -/
theorem key_counter : b7 j s = fun y => 2#32 * BitVec.ofNat 32 j + BitVec.ofNat 32 (y 0).val := by
  sl_kernel_rfl

/-- The first words of step `j`'s keys. -/
theorem keys_fst : b235 j s = fun y => threefry 0#32 42#32 0#32 (b7 j s y) fun a _ => a := by
  sl_kernel_rfl

/-- Their second words. -/
theorem keys_snd : b241 j s = fun y => threefry 0#32 42#32 0#32 (b7 j s y) fun _ b => b := by
  sl_kernel_rfl

/-- The counters of the noise. -/
theorem noise_counter : b256 j s = fun y =>
    (BitVec.ofNat 32 (y 0).val * 1024#32 + BitVec.ofNat 32 (y 1).val) * 32#32 + BitVec.ofNat 32 (y 2).val := by
  sl_kernel_rfl

/-- The random bits of the noise. -/
theorem noise_bits3 : b481 j s = fun y =>
    threefry3 (broadcastInDim S1024x1024x32 ![] bcast_S_S1024x1024x32 (b243 j s) y)
      (broadcastInDim S1024x1024x32 ![] bcast_S_S1024x1024x32 (b245 j s) y)
      (broadcastInDim S1024x1024x32 ![] bcast_S_S1024x1024x32 (b261 j s) y) 0#32 (b256 j s y)
      fun a b => a ^^^ b := by
  sl_kernel_rfl

/-- The uniform the noise is made from. -/
theorem noise_sym : b497 j s = fun y => symW F (b481 j s y) := by
  sl_kernel_rfl

/-- The noise. -/
theorem noise_of_sym : b587 j s = fun y => noiseR F (b497 j s y) := by
  sl_kernel_rfl

/-- The moved particles. -/
theorem moved_read : b588 j s = fun y => FloatOps.addf (s.main_v5_3 y) (b587 j s y) := by
  sl_kernel_rfl

/-- The squared differences. -/
theorem square_read : b602 j s = fun y =>
    FloatOps.mulf (FloatOps.subf (b588 j s y) (b600 j s y)) (FloatOps.subf (b588 j s y) (b600 j s y)) := by
  sl_kernel_rfl

/-- The unnormalised weights. -/
theorem raw_read : b615 j s = fun y =>
    FloatOps.addf (FloatOps.mulf (s.main_v5_4 y) (FloatOps.addf
      (FloatOps.hostUnary .exp (FloatOps.mulf (cst F 0xBF000000#32) (b604 j s y))) (cst F 0x322BCC77#32)))
      (cst F 0x2EDBE6FF#32) := by
  sl_kernel_rfl

/-- The weights. -/
theorem weight_read : b620 j s = fun y => FloatOps.hostDivf (b615 j s y) (b619 j s y) := by
  sl_kernel_rfl

/-- The counters of the resampling. -/
theorem draw_counter : b635 j s = fun y =>
    (BitVec.ofNat 32 (y 0).val * 1024#32 + BitVec.ofNat 32 (y 1).val) * 1024#32 + BitVec.ofNat 32 (y 2).val := by
  sl_kernel_rfl

/-- The random bits of the resampling. -/
theorem draw_bits3 : b860 j s = fun y =>
    threefry3 (broadcastInDim S1024x1024x1024 ![] bcast_S_S1024x1024x1024 (b622 j s) y)
      (broadcastInDim S1024x1024x1024 ![] bcast_S_S1024x1024x1024 (b624 j s) y)
      (broadcastInDim S1024x1024x1024 ![] bcast_S_S1024x1024x1024 (b640 j s) y) 0#32 (b635 j s y)
      fun a b => a ^^^ b := by
  sl_kernel_rfl

/-- The log of the uniform of the resampling. -/
theorem log_read : b871 j s = fun y => FloatOps.hostUnary .log (unitW F (b860 j s y)) := by
  sl_kernel_rfl

/-- The scores. -/
theorem score_read : b878 j s = fun y =>
    FloatOps.addf (FloatOps.hostNegf (FloatOps.hostUnary .log (FloatOps.hostNegf (b871 j s y)))) (b877 j s y) := by
  sl_kernel_rfl

/-- The words the first index is the least of. -/
theorem marks_read : b888 j s = fun y =>
    Scalar.select (FloatOps.cmpf .oeq (b878 j s y) (b883 j s y)) (BitVec.ofNat 32 (y 2).val) 1024#32 := by
  sl_kernel_rfl

/-- An index brought into range. -/
theorem index_read : b898 j s = fun y =>
    Scalar.select (IntOp.cmpi .slt (b891 j s y) 0#32) (b891 j s y + 1024#32) (b891 j s y) := by
  sl_kernel_rfl

end Cert.ReferenceIdeal.Own

end
-- ==== Proof.Rows.lean ====
/- The gather that takes, in each batch entry, the rows a column of indices names. -/
module

public import Idealize.ShloMosaic.Lib.ValueIdxCore

@[expose] public section

noncomputable section

namespace Cert.Filter

open Idealize.ShloMosaic Idealize.ShloMosaic.ValueIdx

variable {α : Type} {B N P D : ℕ}

/-- Batched along axis 0, indexed along axis 1, whole along axis 2. -/
abbrev entryRows (B N P D : ℕ) (wf : GatherDims.WF ⟨3, ![B, N, D]⟩ ⟨3, ![B, P, 1]⟩ ⟨3, ![B, P, D]⟩ [2] [1] [0] [1] [0] 2 ![1, 1, D]) :
    GatherDims ⟨3, ![B, N, D]⟩ ⟨3, ![B, P, 1]⟩ ⟨3, ![B, P, D]⟩ where
  offsetDims := [2]
  collapsedSliceDims := [1]
  operandBatchingDims := [0]
  startIndicesBatchingDims := [0]
  startIndexMap := [1]
  indexVectorDim := 2
  sliceSizes := ![1, 1, D]
  wf := wf

/-- It reads the row the index names. -/
theorem entryRows_read (wf : GatherDims.WF ⟨3, ![B, N, D]⟩ ⟨3, ![B, P, 1]⟩ ⟨3, ![B, P, D]⟩ [2] [1] [0] [1] [0] 2 ![1, 1, D])
    (x : (⟨3, ![B, N, D]⟩ : Shape).Idx → α) (idx : IVec ⟨3, ![B, P, 1]⟩ 32) (b : Fin B) (p : Fin P) (k : Fin N) (d : Fin D)
    (h : (idx (ix3 b p (0 : Fin 1))).toInt.toNat = k.val) :
    Host.gather (entryRows B N P D wf) x idx (ix3 b p d) = x (ix3 b k d) := by
  unfold Host.gather
  refine congrArg x ?_
  funext a
  refine Fin.ext ?_
  show (entryRows B N P D wf).start (ix3 b p d) idx a + (entryRows B N P D wf).batchCoord (ix3 b p d) a
      + (entryRows B N P D wf).offCoord (ix3 b p d) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (entryRows B N P D wf).startIndexMap from List.mem_singleton.mpr rfl)]
    have hsi : (entryRows B N P D wf).siIdx (ix3 b p d)
        ⟨List.idxOf (1 : Fin 3) (entryRows B N P D wf).startIndexMap,
        List.idxOf_lt_length_iff.2 (List.mem_singleton.mpr rfl)⟩ = ix3 b p (0 : Fin 1) := by
      funext c; refine Fin.ext ?_
      match c with
      | ⟨0, _⟩ => rfl
      | ⟨1, _⟩ => rfl
      | ⟨2, _⟩ => rfl
    rw [hsi, h]
    have hk := k.isLt
    show min k.val (N - 1) = k.val
    omega
  · rw [GatherDims.batchCoord_eq_zero _ _ _ (fun h => by simp at h)]
    unfold GatherDims.start
    rw [dif_neg (fun h => by simp at h)]
    simp only [Nat.zero_add]
    rfl

end Cert.Filter

end
-- ==== Proof.RefShape.lean ====
/- What the reference's broadcasts, slices, reshapes and its gather read. -/
module

public import proofs.«01_k».proof.Proof.RefRead
public import proofs.«01_k».proof.Proof.Rows
public import Idealize.ShloMosaic.Lib.WordCmp
public import Idealize.ShloMosaic.Lib.ValueIdxCore
public import Idealize.ShloMosaic.Lib.IdealHost
public import Idealize.ShloMosaic.Lib.Pipeline.Value

@[expose] public section

noncomputable section

namespace Cert.ReferenceIdeal.Own

open Cert.ReferenceIdeal Cert.ReferenceIdeal.Gen Cert.Filter
open Idealize.ShloMosaic Idealize.ShloMosaic.TcCoe Idealize.ShloMosaic.Tactic Idealize.ShloMosaic.ValueIdx
open Cert.ReferenceIdeal.Step

variable {F : FTy → Type} [FloatOps F] (j : ℕ) (s : State F)

/-- The sums of the weights, repeated along the particles. -/
theorem total_read (b p : Fin 1024) : b619 j s (ix2 b p) = b617 j s (ix1 b) := by
  unfold b619 b618
  rw [broadcastInDim_apply _ _ _ _ (ix2 b (0 : Fin 1)) (fun a => by fin_cases a <;> rfl),
    broadcastInDim_apply _ _ _ _ (ix1 b) (fun a => by fin_cases a <;> rfl)]

/-- The observation of a step, repeated along the particles. -/
theorem obs_read1 (b p : Fin 1024) (d : Fin 32) : b600 j s (ix3 b p d) = b598 j s (ix2 b d) := by
  unfold b600 b599
  rw [broadcastInDim_apply _ _ _ _ (ix3 b (0 : Fin 1) d) (fun a => by fin_cases a <;> rfl),
    broadcastInDim_apply _ _ _ _ (ix2 b d) (fun a => by fin_cases a <;> rfl)]

/-- The column of the observations it is. -/
theorem obs_read2 (h : j < 20) (b : Fin 1024) (d : Fin 32) :
    b598 j s (ix2 b d) = s.main_v5_0 (ix3 b d (⟨j, h⟩ : Fin 20)) := by
  unfold b598
  rw [shapeCast_apply _ _ _ (ix3 b d (0 : Fin 1)) (by rfl)]
  have hk : S1024x32x20.Slices ![0, 0, j] S1024x32x1 := by
    refine ⟨rfl, fun a => ?_⟩
    fin_cases a
    · exact le_refl 1024
    · exact le_refl 32
    · show j + 1 ≤ 20; omega
  unfold b597
  rw [WordCmp.dynamicSlice_eq_extract _ _ _ _ ![0, 0, j] hk ?_]
  · unfold extractStridedSlice
    congr 1
    funext a
    fin_cases a <;> apply Fin.ext <;> simp
  · intro a
    fin_cases a
    · rfl
    · rfl
    · show (Scalar.select (IntOp.cmpi .slt (BitVec.ofNat 32 j) 0#32) (BitVec.ofNat 32 j + 20#32) (BitVec.ofNat 32 j)).toInt = (j : ℤ)
      interval_cases j <;> rfl

/-- The log weights, repeated along the particles. -/
theorem logw_read (b p k : Fin 1024) : b877 j s (ix3 b p k) = FloatOps.hostUnary .log (b620 j s (ix2 b k)) := by
  unfold b877 b876
  rw [broadcastInDim_apply _ _ _ _ (ix3 b (0 : Fin 1) k) (fun a => by fin_cases a <;> rfl),
    broadcastInDim_apply _ _ _ _ (ix2 b k) (fun a => by fin_cases a <;> rfl)]
  rfl

/-- The greatest scores, repeated along the candidates. -/
theorem top_read (b p k : Fin 1024) : b883 j s (ix3 b p k) = b880 j s (ix2 b p) := by
  unfold b883 b881
  rw [broadcastInDim_apply _ _ _ _ (ix3 b p (0 : Fin 1)) (fun a => by fin_cases a <;> rfl),
    broadcastInDim_apply _ _ _ _ (ix2 b p) (fun a => by fin_cases a <;> rfl)]

/-- The indices, as a column. -/
theorem column_read (b p : Fin 1024) : b891 j s (ix3 b p (0 : Fin 1)) = b890 j s (ix2 b p) := by
  unfold b891
  rw [broadcastInDim_apply _ _ _ _ (ix2 b p) (fun a => by fin_cases a <;> rfl)]

/-- The counters of the keys, read at one place. -/
theorem key_counter_at (i : Fin 2) : b7 j s (ix1 i) = 2#32 * BitVec.ofNat 32 j + BitVec.ofNat 32 i.val := by
  rw [key_counter]

/-- The first word of the noise key. -/
theorem noise_key0 (y : S1024x1024x32.Idx) :
    broadcastInDim S1024x1024x32 ![] bcast_S_S1024x1024x32 (b243 j s) y = b235 j s (ix1 (0 : Fin 2)) := by
  rw [broadcastInDim_scalar_apply]
  unfold b243
  rw [shapeCast_apply _ _ _ (ix1 (0 : Fin 1)) (by rfl)]
  unfold b242 extractStridedSlice
  congr 1
  funext a; fin_cases a; rfl

/-- The second word of the noise key. -/
theorem noise_key1 (y : S1024x1024x32.Idx) :
    broadcastInDim S1024x1024x32 ![] bcast_S_S1024x1024x32 (b245 j s) y = b241 j s (ix1 (0 : Fin 2)) := by
  rw [broadcastInDim_scalar_apply]
  unfold b245
  rw [shapeCast_apply _ _ _ (ix1 (0 : Fin 1)) (by rfl)]
  unfold b244 extractStridedSlice
  congr 1
  funext a; fin_cases a; rfl

/-- The first word of the resampling key. -/
theorem draw_key0 (y : S1024x1024x1024.Idx) :
    broadcastInDim S1024x1024x1024 ![] bcast_S_S1024x1024x1024 (b622 j s) y = b235 j s (ix1 (1 : Fin 2)) := by
  rw [broadcastInDim_scalar_apply]
  unfold b622
  rw [shapeCast_apply _ _ _ (ix1 (0 : Fin 1)) (by rfl)]
  unfold b621 extractStridedSlice
  congr 1
  funext a; fin_cases a; rfl

/-- The second word of the resampling key. -/
theorem draw_key1 (y : S1024x1024x1024.Idx) :
    broadcastInDim S1024x1024x1024 ![] bcast_S_S1024x1024x1024 (b624 j s) y = b241 j s (ix1 (1 : Fin 2)) := by
  rw [broadcastInDim_scalar_apply]
  unfold b624
  rw [shapeCast_apply _ _ _ (ix1 (0 : Fin 1)) (by rfl)]
  unfold b623 extractStridedSlice
  congr 1
  funext a; fin_cases a; rfl

/-- The third word of the noise key. -/
theorem noise_key2 (y : S1024x1024x32.Idx) :
    broadcastInDim S1024x1024x32 ![] bcast_S_S1024x1024x32 (b261 j s) y
      = broadcastInDim S1024x1024x32 ![] bcast_S_S1024x1024x32 (b243 j s) y
        ^^^ broadcastInDim S1024x1024x32 ![] bcast_S_S1024x1024x32 (b245 j s) y ^^^ 466688986#32 := by
  sl_kernel_rfl

/-- The third word of the resampling key. -/
theorem draw_key2 (y : S1024x1024x1024.Idx) :
    broadcastInDim S1024x1024x1024 ![] bcast_S_S1024x1024x1024 (b640 j s) y
      = broadcastInDim S1024x1024x1024 ![] bcast_S_S1024x1024x1024 (b622 j s) y
        ^^^ broadcastInDim S1024x1024x1024 ![] bcast_S_S1024x1024x1024 (b624 j s) y ^^^ 466688986#32 := by
  sl_kernel_rfl

/-- An index in range stays as it is. -/
theorem index_ok (b p k : Fin 1024) (h : b890 j s (ix2 b p) = BitVec.ofNat 32 k.val) :
    b898 j s (ix3 b p (0 : Fin 1)) = BitVec.ofNat 32 k.val := by
  rw [index_read]
  dsimp only
  rw [column_read, h]
  have e' : (BitVec.ofNat 32 k.val).toNat = k.val := by have := k.isLt; rw [BitVec.toNat_ofNat]; omega
  have e : (BitVec.ofNat 32 k.val).toInt = k.val := by
    have := k.isLt; rw [BitVec.toInt_eq_toNat_of_lt (by omega), e']
  have n : ¬ ((k.val : ℤ) < 0) := by omega
  have z : (0#32).toInt = 0 := rfl
  simp only [Scalar.select, IntOp.cmpi, BitVec.slt, e, z, decide_eq_false n]
  rfl

/-- The gather reads the row the index names. -/
theorem gather_read (b p k : Fin 1024) (d : Fin 32) (h : b898 j s (ix3 b p (0 : Fin 1)) = BitVec.ofNat 32 k.val) :
    b899 j s (ix3 b p d) = b588 j s (ix3 b k d) := by
  unfold b899
  refine entryRows_read gather_S1024x1024x32_S1024x1024x1_S1024x1024x32_2_1_0_0_1_2_1132_wf _ _ b p k d ?_
  rw [h]
  have hk := k.isLt
  have e' : (BitVec.ofNat 32 k.val).toNat = k.val := by rw [BitVec.toNat_ofNat]; omega
  rw [BitVec.toInt_eq_toNat_of_lt (by omega), e']
  rfl

/-- The key's third word is what the generator takes. -/
theorem threefry_bits (k0 k1 c : BitVec 32) :
    threefry3 k0 k1 (k0 ^^^ k1 ^^^ 466688986#32) 0#32 c (fun a b => a ^^^ b) = bitsW k0 k1 c := rfl

/-- The bits of the noise. -/
theorem noise_bits (b p : Fin 1024) (d : Fin 32) : b481 j s (ix3 b p d)
    = bitsW (noiseKey0 j) (noiseKey1 j) (BitVec.ofNat 32 ((b.val * 1024 + p.val) * 32 + d.val)) := by
  rw [noise_bits3]
  dsimp only
  rw [noise_key2, noise_key0, noise_key1]
  rw [threefry_bits, keys_fst, keys_snd, noise_counter]
  dsimp only
  rw [key_counter_at]
  congr 1
  simp [BitVec.ofNat_add, BitVec.ofNat_mul]

/-- The bits of the resampling. -/
theorem draw_bits (b p k : Fin 1024) : b860 j s (ix3 b p k)
    = bitsW (drawKey0 j) (drawKey1 j) (BitVec.ofNat 32 ((b.val * 1024 + p.val) * 1024 + k.val)) := by
  rw [draw_bits3]
  dsimp only
  rw [draw_key2, draw_key0, draw_key1]
  rw [threefry_bits, keys_fst, keys_snd, draw_counter]
  dsimp only
  rw [key_counter_at]
  congr 1
  simp [BitVec.ofNat_add, BitVec.ofNat_mul]

end Cert.ReferenceIdeal.Own

end
-- ==== Proof.RefStep.lean ====
/- One trip of the reference's loop, at exact values, is one step of the filter for every batch entry. -/
module

public import proofs.«01_k».proof.Proof.RefShape
public import proofs.«01_k».proof.Proof.Pick
public import proofs.«01_k».proof.Proof.Folds

@[expose] public section

noncomputable section

namespace Cert.ReferenceIdeal.Own

open Cert.ReferenceIdeal Cert.ReferenceIdeal.Gen Cert.Filter
open Idealize.ShloMosaic Idealize.ShloMosaic.TcCoe Idealize.ShloMosaic.ValueIdx
open Cert.ReferenceIdeal.Step
open scoped BigOperators

variable (j : ℕ) (s : State Ideal)

/-- The particles of batch entry `b`. -/
def px (b : Fin 1024) (p : Fin 1024) (d : Fin 32) : EReal := s.main_v5_3 (ix3 b p d)
/-- Its weights. -/
def pw (b : Fin 1024) (p : Fin 1024) : EReal := s.main_v5_4 (ix2 b p)
/-- Its observations. -/
def po (b : Fin 1024) (d : Fin 32) (t : Fin 20) : EReal := s.main_v5_0 (ix3 b d t)

/-- The moved particles. -/
theorem moved_at (b p : Fin 1024) (d : Fin 32) : b588 j s (ix3 b p d) = movedE j b (px s b) p d := by
  rw [moved_read]
  simp only [noise_of_sym, noise_sym, noise_bits]
  rfl

/-- The squared distances. -/
theorem dist_at (h : j < 20) (b p : Fin 1024) : b604 j s (ix2 b p)
    = ∑ d : Fin 32, (movedE j b (px s b) p d - po s b d ⟨j, h⟩) * (movedE j b (px s b) p d - po s b d ⟨j, h⟩) := by
  unfold b604
  rw [sum_last3 _ (by decide)]
  have z : b603 j s (Shape.Idx.first h_S_) = 0 := Ideal.ofBits_zero_f32
  rw [z, zero_add]
  refine Finset.sum_congr rfl fun d _ => ?_
  rw [square_read]
  dsimp only
  rw [moved_at, obs_read1, obs_read2 j s h, Ideal.mulf_def, Ideal.subf_def]
  rfl

/-- The unnormalised weights. -/
theorem raw_at (h : j < 20) (b p : Fin 1024) : b615 j s (ix2 b p)
    = rawE (movedE j b (px s b)) (fun d => po s b d ⟨j, h⟩) (pw s b) p := by
  rw [raw_read]
  dsimp only
  rw [dist_at j s h]
  simp only [cst, Ideal.addf_def, Ideal.mulf_def, Ideal.hostUnary_exp_def, Ideal.ofBits_def]
  rfl

/-- The weights. -/
theorem weight_at (h : j < 20) (b p : Fin 1024) : b620 j s (ix2 b p)
    = weightE (movedE j b (px s b)) (fun d => po s b d ⟨j, h⟩) (pw s b) p := by
  rw [weight_read]
  dsimp only
  rw [raw_at j s h, total_read, Ideal.hostDivf_def]
  unfold weightE
  congr 1
  unfold b617
  rw [sum_last2 _ (by decide)]
  have z : b616 j s (Shape.Idx.first h_S_) = 0 := Ideal.ofBits_zero_f32
  rw [z, zero_add]
  exact Finset.sum_congr rfl fun q _ => raw_at j s h b q

/-- The scores. -/
theorem score_at (h : j < 20) (b p k : Fin 1024) : b878 j s (ix3 b p k)
    = scoreR j b (weightE (movedE j b (px s b)) (fun d => po s b d ⟨j, h⟩) (pw s b)) p k := by
  rw [score_read]
  dsimp only
  rw [log_read]
  dsimp only
  rw [draw_bits, logw_read, weight_at j s h]
  simp only [Ideal.addf_def, Ideal.hostUnary_log_def, Ideal.hostNegf_def, Ideal.negf_def]
  rfl

/-- The index each particle draws. -/
theorem pick_at (h : j < 20) (b p : Fin 1024) : b890 j s (ix2 b p) = BitVec.ofNat 32
    (pick (scoreR j b (weightE (movedE j b (px s b)) (fun d => po s b d ⟨j, h⟩) (pw s b)) p)).val := by
  generalize hv : scoreR j b (weightE (movedE j b (px s b)) (fun d => po s b d ⟨j, h⟩) (pw s b)) p = v
  have hs (k : Fin 1024) : b878 j s (ix3 b p k) = v k := by rw [score_at j s h, hv]
  have top : b880 j s (ix2 b p) = v (pick v) := by
    unfold b880
    rw [reduce_last3 _ _ (by decide)]
    have z : b879 j s (Shape.Idx.first h_S_) = (⊥ : EReal) := by
      show Ideal.ofBits .f32 0xFF800000#32 = ⊥
      simp [Ideal.ofBits, Ideal.ieee]
    rw [z]
    exact (congrArg (fun g => Finset.fold max ⊥ g Finset.univ) (funext hs)).trans (fold_max_eq v)
  unfold b890
  rw [reduce_last3 _ _ (by decide)]
  refine first_of_folds v (fun k => b888 j s (ix3 b p k)) fun k => ?_
  rw [marks_read]
  dsimp only
  rw [hs, top_read, top, Ideal.cmpf_def]
  unfold Scalar.select Ideal.cmp
  by_cases hk : v k = v (pick v) <;> simp [hk]

/-- The resampled particles. -/
theorem gathered_at (h : j < 20) (b p : Fin 1024) (d : Fin 32) : b899 j s (ix3 b p d)
    = (stepE j b (fun d => po s b d ⟨j, h⟩) ⟨px s b, pw s b⟩).x p d := by
  rw [gather_read j s b p _ d (index_ok j s b p _ (pick_at j s h b p)), moved_at]
  rfl

end Cert.ReferenceIdeal.Own

end
-- ==== Proof.RefValue.lean ====
/- The reference computes the mean of the filter's particles after twenty steps. -/
module

public import proofs.«01_k».proof.Proof.RefStep
public import proofs.«01_k».proof.Proof.Gen.ReferenceIdeal.StepRun

@[expose] public section

noncomputable section

namespace Cert.ReferenceIdeal.Own

open Cert.ReferenceIdeal Cert.ReferenceIdeal.Gen Cert.Filter
open Idealize.SL.Sem Idealize.ShloMosaic Idealize.ShloMosaic.TcCoe Idealize.ShloMosaic.ValueIdx
open Cert.ReferenceIdeal.Step Cert.ReferenceIdeal.StepRun
open scoped BigOperators

/-- The state of batch entry `b`. -/
def entry (s : State Ideal) (b : Fin 1024) : Entry := ⟨px s b, pw s b⟩

theorem obs_step (j : ℕ) (s : State Ideal) (b : Fin 1024) : po (step j s) b = po s b := rfl

/-- One trip is one step. -/
theorem entry_step (j : ℕ) (s : State Ideal) (h : j < 20) (b : Fin 1024) :
    entry (step j s) b = stepE j b (fun d => po s b d ⟨j, h⟩) (entry s b) := by
  have e1 : px (step j s) b = (stepE j b (fun d => po s b d ⟨j, h⟩) (entry s b)).x := by
    funext p d
    unfold px
    rw [step_main_v5_3]
    exact gathered_at j s h b p d
  have e2 : pw (step j s) b = (stepE j b (fun d => po s b d ⟨j, h⟩) (entry s b)).w := by
    funext p
    unfold pw
    rw [step_main_v5_4]
    exact weight_at j s h b p
  unfold entry
  rw [e1, e2]
  rfl

variable (obs : (⟨S1024x32x20, .f32⟩ : BufTy).Contents (Elt Ideal)) (z : (⟨S1024x32, .f32⟩ : BufTy).Contents (Elt Ideal))

/-- The states the loop goes through. -/
def states : ℕ → State Ideal
  | 0 => init obs z
  | n + 1 => step n (states n)

theorem obs_states (n : ℕ) (b : Fin 1024) : po (states obs z n) b = fun d t => obs (ix3 b d t) := by
  induction n with
  | zero => rfl
  | succ n ih => rw [← ih]; rfl

/-- Every particle starts at the input. -/
theorem entry_init (b : Fin 1024) : entry (init obs z) b = runE b (fun d => z (ix2 b d)) (fun d t => obs (ix3 b d t)) 0 := by
  have e1 : px (init obs z) b = fun _ d => z (ix2 b d) := by
    funext p d
    show A_main_v1 z (ix3 b p d) = _
    unfold A_main_v1
    rw [broadcastInDim_apply _ _ _ _ (ix3 b (0 : Fin 1) d) (fun a => by fin_cases a <;> rfl)]
    unfold A_main_v0
    rw [broadcastInDim_apply _ _ _ _ (ix2 b d) (fun a => by fin_cases a <;> rfl)]
  unfold entry
  rw [e1]
  rfl

theorem entry_states (n : ℕ) (hn : n ≤ 20) (b : Fin 1024) :
    entry (states obs z n) b = runE b (fun d => z (ix2 b d)) (fun d t => obs (ix3 b d t)) n := by
  induction n with
  | zero => exact entry_init obs z b
  | succ n ih =>
    have h : n < 20 := by omega
    show entry (step n (states obs z n)) b = _
    rw [entry_step n _ h, ih (by omega), obs_states]
    simp only [runE, dif_pos h]

/-- The result of the reference at one place. -/
theorem result_at (b : Fin 1024) (d : Fin 32) : R_main_v8 (states obs z 20) (ix2 b d)
    = meanE b (fun d => z (ix2 b d)) (fun d t => obs (ix3 b d t)) d := by
  show Ideal.div ((Host.reduceAdd (states obs z 20).main_v5_3 (constant S_ .f32 0x00000000#32)
    reducesTo_S1024x1024x32_S1024x32_d1 h_S_ : FVec Ideal S1024x32 .f32) (ix2 b d)) (Ideal.ofBits .f32 0x44800000#32) = _
  rw [sum_mid3 _ (by decide)]
  have z0 : (constant S_ .f32 0x00000000#32 : FVec Ideal S_ .f32) (Shape.Idx.first h_S_) = (0 : EReal) := Ideal.ofBits_zero_f32
  rw [z0, zero_add]
  unfold meanE
  rw [← entry_states obs z 20 le_rfl b]
  rfl

/-- The reference's result, as a function of its arguments. -/
def resultE (y : S1024x32.Idx) : EReal := meanE (y 0) (fun d => z (ix2 (y 0) d)) (fun d t => obs (ix3 (y 0) d t)) (y 1)

theorem result_eq : R_main_v8 (states obs z 20) = resultE obs z := by
  funext y
  rw [eq_ix2 y]
  exact result_at obs z (y 0) (y 1)

/-- Every run of the reference ends with that result. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
          = resultE (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c).1.trans (result_eq _ _), (h c).2⟩)
    (run_iter m ρ (fun c => states (m ((c.tc : Thread nD τ).loc main_arg1)) (m ((c.tc : Thread nD τ).loc main_arg0)))
      (fun _ => rfl) (fun _ _ => rfl))

end Cert.ReferenceIdeal.Own

end
-- ==== Proof.Finite.lean ====
/- The precondition in plain words: every entry of the initial state is a real number. -/
module

public import proofs.«01_k».proof.Pre_finite_z
public import proofs.«01_k».proof.Proof.Spec

@[expose] public section

noncomputable section

namespace Cert.Pre_finite_z.Own

open Idealize.ShloMosaic Cert.Filter Cert.Pre_finite_z

/-- The shape relation the precondition's text uses. -/
theorem facts : Cert.Pre_finite_z.Facts where
  bcast_S_S1024x32 := by decide +kernel

theorem inf_top : Ideal.ofBits .f32 0x7F800000#32 = ⊤ := by simp [Ideal.ofBits, Ideal.ieee]

/-- A value whose absolute value is below the infinite one is real. -/
theorem real_of_below {x : EReal} (h : max x (-x) < ⊤) : IsReal x := by
  induction x with
  | bot => simp at h
  | top => simp at h
  | coe r => exact ⟨r, rfl⟩

/-- Where the precondition holds, every entry of the initial state is real. -/
theorem real_of_pre [Cert.Pre_finite_z.Facts] {z : FVec Ideal S1024x32 .f32} {obs : FVec Ideal S1024x32x20 .f32}
    (h : Cert.Pre_finite_z.fn (F := Ideal) z obs = fun _ => 1#1) (y : S1024x32.Idx) : IsReal (z y) := by
  have h1 : Ideal.cmp .olt (max (z y : EReal) (-(z y))) (Ideal.ofBits .f32 0x7F800000#32) = 1#1 := congrFun h y
  rw [inf_top] at h1
  refine real_of_below ?_
  by_contra hn
  unfold Ideal.cmp at h1
  simp [hn] at h1

end Cert.Pre_finite_z.Own

end
-- ==== Proof.lean ====
module

public import proofs.«01_k».proof.Defs
public import proofs.«01_k».proof.Proof.KernelFrame
public import proofs.«01_k».proof.Proof.RefFrame
public import proofs.«01_k».proof.Proof.KerValue
public import proofs.«01_k».proof.Proof.RefValue
public import proofs.«01_k».proof.Proof.Finite

@[expose] public section

noncomputable section

namespace Cert.Proof

open Idealize.ShloMosaic Idealize.SL.Sem

/-- The side conditions of the three programs and of the precondition. -/
instance : Cert.KernelIdeal.Facts := Cert.KernelIdeal.Gen.facts
instance : Cert.ReferenceIdeal.Facts := Cert.ReferenceIdeal.Gen.facts
instance : Cert.Pre_finite_z.Facts := Cert.Pre_finite_z.Own.facts

/-- Over the extended reals, and from a real initial state, the kernel and the reference end with the same result:
    both are the filter's mathematics at the two inputs. -/
theorem same_result : Cert.algebraic_KernelIdeal_ReferenceIdeal_pre_finite_z := by
  intro m g m' g' hpre hargs
  refine ⟨fun c => Cert.ReferenceIdeal.Own.resultE
    (m ((c.tc : Thread Cert.KernelIdeal.nD Cert.KernelIdeal.τ).loc Cert.KernelIdeal.main_arg1))
    (m ((c.tc : Thread Cert.KernelIdeal.nD Cert.KernelIdeal.τ).loc Cert.KernelIdeal.main_arg0)), ?_, ?_⟩
  · exact Cert.KernelIdeal.Own.run_result m g fun c y => Cert.Pre_finite_z.Own.real_of_pre (hpre c) y
  · refine (θ_run _ _ _).mono (fun r h c => ⟨?_, (h c).2⟩) (Cert.ReferenceIdeal.Own.run_result m' g')
    rw [(h c).1, (hargs c).1, (hargs c).2]

/-- Everything claimed: the frames of the kernel (at machine words and over the extended reals) and of the reference,
    that the kernel read over the extended reals is the kernel's own text, and that its result is the reference's. -/
theorem claim : Cert.Claim := ⟨Cert.Kernel.Gen.facts, Cert.KernelIdeal.Gen.facts, Cert.ReferenceIdeal.Gen.facts,
  Cert.Pre_finite_z.Own.facts,
  fun m g _ => Cert.Kernel.Own.frame m g, fun m g _ => Cert.KernelIdeal.Own.frame m g trivial,
  fun m g _ => Cert.KernelIdeal.Own.frame m g trivial,
  fun m g _ => Cert.ReferenceIdeal.Own.frame m g, fun m g _ => Cert.ReferenceIdeal.Own.frame m g,
  trivial, same_result⟩

end Cert.Proof

end
